-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S2x2560x27648 : Shape := ⟨3, ![2, 2560, 27648]⟩
abbrev S2x40x27648 : Shape := ⟨3, ![2, 40, 27648]⟩
abbrev S2x5120x96 : Shape := ⟨3, ![2, 5120, 96]⟩
abbrev S2x96x27648 : Shape := ⟨3, ![2, 96, 27648]⟩
abbrev S2x27648 : Shape := ⟨2, ![2, 27648]⟩
abbrev S_ : Shape := ⟨0, ![]⟩

class Facts : Prop where
  bcast_S_S2x40x27648 : S_.BroadcastsInDim S2x40x27648 (![] : Fin 0 → Fin S2x40x27648.rank)

variable [Facts]

def fn {F : FTy → Type} [FloatOps F] (main_arg0 : IVec S2x2560x27648 8) (main_arg1 : FVec F S2x40x27648 .bf16) (main_arg2 : IVec S2x40x27648 8) (main_arg3 : FVec F S2x5120x96 .bf16) (main_arg4 : FVec F S2x96x27648 .bf16) (main_arg5 : FVec F S2x27648 .bf16) : IVec S2x40x27648 1 :=
  let main_cst : FVec F S_ .bf16 := constant S_ .bf16 0x7F80#16
  let main_v0 : FVec F S2x40x27648 .bf16 := broadcastInDim S2x40x27648 ![] bcast_S_S2x40x27648 main_cst
  let main_v1 : IVec S2x40x27648 1 := cmpf .olt main_arg1 main_v0
  let main_cst_0 : FVec F S_ .bf16 := constant S_ .bf16 0xFF80#16
  let main_v2 : FVec F S2x40x27648 .bf16 := broadcastInDim S2x40x27648 ![] bcast_S_S2x40x27648 main_cst_0
  let main_v3 : IVec S2x40x27648 1 := cmpf .ogt main_arg1 main_v2
  let main_v4 : IVec S2x40x27648 1 := andi main_v1 main_v3
  main_v4
-- ==== Kernel.lean ====
abbrev S2x2560x27648 : Shape := ⟨3, ![2, 2560, 27648]⟩
abbrev S2x40x27648 : Shape := ⟨3, ![2, 40, 27648]⟩
abbrev S2x5120x96 : Shape := ⟨3, ![2, 5120, 96]⟩
abbrev S2x96x27648 : Shape := ⟨3, ![2, 96, 27648]⟩
abbrev S2x27648 : Shape := ⟨2, ![2, 27648]⟩
abbrev S2x1x27648 : Shape := ⟨3, ![2, 1, 27648]⟩
abbrev S1x2560x512 : Shape := ⟨3, ![1, 2560, 512]⟩
abbrev S1x40x512 : Shape := ⟨3, ![1, 40, 512]⟩
abbrev S1x5120x96 : Shape := ⟨3, ![1, 5120, 96]⟩
abbrev S1x96x512 : Shape := ⟨3, ![1, 96, 512]⟩
abbrev S1x1x512 : Shape := ⟨3, ![1, 1, 512]⟩
abbrev S5120x128 : Shape := ⟨2, ![5120, 128]⟩
abbrev S256x512 : Shape := ⟨2, ![256, 512]⟩
abbrev S40x512 : Shape := ⟨2, ![40, 512]⟩
abbrev S5120x512 : Shape := ⟨2, ![5120, 512]⟩
abbrev S4x320x128 : Shape := ⟨3, ![4, 320, 128]⟩
abbrev S5120x96 : Shape := ⟨2, ![5120, 96]⟩
abbrev S96x512 : Shape := ⟨2, ![96, 512]⟩
abbrev S128x128 : Shape := ⟨2, ![128, 128]⟩
abbrev S8x128 : Shape := ⟨2, ![8, 128]⟩
abbrev S128x256 : Shape := ⟨2, ![128, 256]⟩
abbrev S256x256 : Shape := ⟨2, ![256, 256]⟩
abbrev S1x128 : Shape := ⟨2, ![1, 128]⟩
abbrev S1x32x128 : Shape := ⟨3, ![1, 32, 128]⟩
abbrev S32x128 : Shape := ⟨2, ![32, 128]⟩
abbrev S32x1x128 : Shape := ⟨3, ![32, 1, 128]⟩
abbrev S32x2x128 : Shape := ⟨3, ![32, 2, 128]⟩
abbrev S64x128 : Shape := ⟨2, ![64, 128]⟩
abbrev S1x8x128 : Shape := ⟨3, ![1, 8, 128]⟩
abbrev S128 : Shape := ⟨1, ![128]⟩
abbrev S1x1x128 : Shape := ⟨3, ![1, 1, 128]⟩
abbrev S1x320x128 : Shape := ⟨3, ![1, 320, 128]⟩
abbrev S320x128 : Shape := ⟨2, ![320, 128]⟩
abbrev S40x128 : Shape := ⟨2, ![40, 128]⟩
abbrev S1x40x128 : Shape := ⟨3, ![1, 40, 128]⟩
abbrev S16x128 : Shape := ⟨2, ![16, 128]⟩

abbrev nBuf : Space → Nat
  | .hbm => 10
  | .vmem => 28
  | .smem => 0
  | _ => 0

abbrev bufTy : (tb : Table) → Fin (tcTables nBuf tb) → BufTy
  | .hbm, ⟨0, _⟩ => ⟨S2x2560x27648, .i8⟩
  | .hbm, ⟨1, _⟩ => ⟨S2x40x27648, .bf16⟩
  | .hbm, ⟨2, _⟩ => ⟨S2x40x27648, .i8⟩
  | .hbm, ⟨3, _⟩ => ⟨S2x5120x96, .bf16⟩
  | .hbm, ⟨4, _⟩ => ⟨S2x96x27648, .bf16⟩
  | .hbm, ⟨5, _⟩ => ⟨S2x27648, .bf16⟩
  | .hbm, ⟨6, _⟩ => ⟨S2x1x27648, .bf16⟩
  | .hbm, ⟨7, _⟩ => ⟨S2x2560x27648, .i8⟩
  | .hbm, ⟨8, _⟩ => ⟨S2x40x27648, .bf16⟩
  | .hbm, ⟨9, _⟩ => ⟨S2x40x27648, .i8⟩
  | .local _ .vmem, ⟨0, _⟩ => ⟨S1x2560x512, .i8⟩
  | .local _ .vmem, ⟨1, _⟩ => ⟨S1x2560x512, .i8⟩
  | .local _ .vmem, ⟨2, _⟩ => ⟨S1x40x512, .bf16⟩
  | .local _ .vmem, ⟨3, _⟩ => ⟨S1x40x512, .bf16⟩
  | .local _ .vmem, ⟨4, _⟩ => ⟨S1x40x512, .i8⟩
  | .local _ .vmem, ⟨5, _⟩ => ⟨S1x40x512, .i8⟩
  | .local _ .vmem, ⟨6, _⟩ => ⟨S1x5120x96, .bf16⟩
  | .local _ .vmem, ⟨7, _⟩ => ⟨S1x5120x96, .bf16⟩
  | .local _ .vmem, ⟨8, _⟩ => ⟨S1x96x512, .bf16⟩
  | .local _ .vmem, ⟨9, _⟩ => ⟨S1x96x512, .bf16⟩
  | .local _ .vmem, ⟨10, _⟩ => ⟨S1x1x512, .bf16⟩
  | .local _ .vmem, ⟨11, _⟩ => ⟨S1x1x512, .bf16⟩
  | .local _ .vmem, ⟨12, _⟩ => ⟨S1x2560x512, .i8⟩
  | .local _ .vmem, ⟨13, _⟩ => ⟨S1x2560x512, .i8⟩
  | .local _ .vmem, ⟨14, _⟩ => ⟨S1x40x512, .bf16⟩
  | .local _ .vmem, ⟨15, _⟩ => ⟨S1x40x512, .bf16⟩
  | .local _ .vmem, ⟨16, _⟩ => ⟨S1x40x512, .i8⟩
  | .local _ .vmem, ⟨17, _⟩ => ⟨S1x40x512, .i8⟩
  | .local _ .vmem, ⟨18, _⟩ => ⟨S5120x128, .bf16⟩
  | .local _ .vmem, ⟨19, _⟩ => ⟨S256x512, .bf16⟩
  | .local _ .vmem, ⟨20, _⟩ => ⟨S40x512, .f32⟩
  | .local _ .vmem, ⟨21, _⟩ => ⟨S5120x512, .f32⟩
  | .local _ .vmem, ⟨22, _⟩ => ⟨S4x320x128, .f32⟩
  | .local _ .vmem, ⟨23, _⟩ => ⟨S4x320x128, .f32⟩
  | .local _ .vmem, ⟨24, _⟩ => ⟨S40x512, .f32⟩
  | .local _ .vmem, ⟨25, _⟩ => ⟨S40x512, .i32⟩
  | .local _ .vmem, ⟨26, _⟩ => ⟨S40x512, .i32⟩
  | .local _ .vmem, ⟨27, _⟩ => ⟨S40x512, .i32⟩
  | _, _ => ⟨S2x2560x27648, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 54], ![false, false]⟩

@[reducible] def k0_t1_loop : Scf.Loop 32 :=
  let c0_i32_18 : BitVec 32 := 0#32
  let c5_i32 : BitVec 32 := 5#32
  let v37 : BitVec 32 := Scalar.addi c0_i32_18 c5_i32
  let c1_i32 : BitVec 32 := 1#32
  ⟨c0_i32_18, v37, c1_i32⟩
def k0_mult1 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let c0_i32_478 : BitVec 32 := 0#32
  let v633 : BitVec 32 := Scalar.addi v632 c0_i32_478
  let c128_i32 : BitVec 32 := 128#32
  let v634 : BitVec 32 := Scalar.muli v633 c128_i32
  v634
def k0_mult2 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let c0_i32_478 : BitVec 32 := 0#32
  let v633 : BitVec 32 := Scalar.addi v632 c0_i32_478
  let c64_i32 : BitVec 32 := 64#32
  let v636 : BitVec 32 := Scalar.muli v633 c64_i32
  v636
def k0_off1 (k0_t1 : Fin k0_t1_loop.trips) (c0_i32_478 : BitVec 32) : Fin 2 → Nat :=
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let v633 : BitVec 32 := Scalar.addi v632 c0_i32_478
  let c128_i32 : BitVec 32 := 128#32
  let v634 : BitVec 32 := Scalar.muli v633 c128_i32
  let v635 : BitVec 32 := v634
  let v648 : Index := Scalar.indexCast v635
  let c0_482 : Index := 0#32
  ![v648.toNat, 0]
def k0_mult3 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_486 : BitVec 32 := 8#32
  let v653 : BitVec 32 := Scalar.muli arg21 c8_i32_486
  v653
def k0_off2 (k0_t1 : Fin k0_t1_loop.trips) : Fin 2 → Nat :=
  let c0_i32_18 : BitVec 32 := 0#32
  let c1_i32 : BitVec 32 := 1#32
  let arg21 : BitVec 32 := Scf.iv c0_i32_18 c1_i32 k0_t1
  let c8_i32_486 : BitVec 32 := 8#32
  let v653 : BitVec 32 := Scalar.muli arg21 c8_i32_486
  let v654 : BitVec 32 := v653
  let c0_i32_487 : BitVec 32 := 0#32
  ![v654.toNat, 0]
def k0_off3 (k0_t1 : Fin k0_t1_loop.trips) (c0_i32_478 : BitVec 32) (c0_i32_490 : BitVec 32) : Fin 3 → Nat :=
  let c0_491 : Index := 0#32
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let v633 : BitVec 32 := Scalar.addi v632 c0_i32_478
  let c64_i32 : BitVec 32 := 64#32
  let v636 : BitVec 32 := Scalar.muli v633 c64_i32
  let v637 : BitVec 32 := v636
  let v657 : BitVec 32 := Scalar.addi v637 c0_i32_490
  let v658 : Index := Scalar.indexCast v657
  let c0_492 : Index := 0#32
  ![0, v658.toNat, 0]
def k0_off4 (k0_t1 : Fin k0_t1_loop.trips) (c0_i32_478 : BitVec 32) (c0_i32_493 : BitVec 32) : Fin 2 → Nat :=
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let v633 : BitVec 32 := Scalar.addi v632 c0_i32_478
  let c128_i32 : BitVec 32 := 128#32
  let v634 : BitVec 32 := Scalar.muli v633 c128_i32
  let v635 : BitVec 32 := v634
  let v676 : BitVec 32 := Scalar.addi v635 c0_i32_493
  let v677 : Index := Scalar.indexCast v676
  let c0_494 : Index := 0#32
  ![v677.toNat, 0]
def k0_mult4 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let c0_i32_478 : BitVec 32 := 0#32
  let v633 : BitVec 32 := Scalar.addi v632 c0_i32_478
  let c8_i32_501 : BitVec 32 := 8#32
  let v783 : BitVec 32 := Scalar.muli v633 c8_i32_501
  v783
def k0_off5 (k0_t1 : Fin k0_t1_loop.trips) (c0_i32_478 : BitVec 32) : Fin 3 → Nat :=
  let c0_502 : Index := 0#32
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let v633 : BitVec 32 := Scalar.addi v632 c0_i32_478
  let c8_i32_501 : BitVec 32 := 8#32
  let v783 : BitVec 32 := Scalar.muli v633 c8_i32_501
  let v784 : BitVec 32 := v783
  let v785 : Index := Scalar.indexCast v784
  let c0_503 : Index := 0#32
  ![0, v785.toNat, 0]
def k0_mult5 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_506 : BitVec 32 := 8#32
  let v793 : BitVec 32 := Scalar.muli arg21 c8_i32_506
  v793
def k0_off6 (k0_t1 : Fin k0_t1_loop.trips) : Fin 2 → Nat :=
  let c0_i32_18 : BitVec 32 := 0#32
  let c1_i32 : BitVec 32 := 1#32
  let arg21 : BitVec 32 := Scf.iv c0_i32_18 c1_i32 k0_t1
  let c8_i32_506 : BitVec 32 := 8#32
  let v793 : BitVec 32 := Scalar.muli arg21 c8_i32_506
  let v794 : BitVec 32 := v793
  let c128_i32_507 : BitVec 32 := 128#32
  ![v794.toNat, 128]
def k0_off7 (k0_t1 : Fin k0_t1_loop.trips) (c0_i32_478 : BitVec 32) (c0_i32_510 : BitVec 32) : Fin 3 → Nat :=
  let c0_511 : Index := 0#32
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let v633 : BitVec 32 := Scalar.addi v632 c0_i32_478
  let c64_i32 : BitVec 32 := 64#32
  let v636 : BitVec 32 := Scalar.muli v633 c64_i32
  let v637 : BitVec 32 := v636
  let v797 : BitVec 32 := Scalar.addi v637 c0_i32_510
  let v798 : Index := Scalar.indexCast v797
  let c128_512 : Index := 128#32
  ![0, v798.toNat, 128]
def k0_off8 (k0_t1 : Fin k0_t1_loop.trips) (c0_i32_478 : BitVec 32) (c0_i32_515 : BitVec 32) : Fin 2 → Nat :=
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let v633 : BitVec 32 := Scalar.addi v632 c0_i32_478
  let c128_i32 : BitVec 32 := 128#32
  let v634 : BitVec 32 := Scalar.muli v633 c128_i32
  let v635 : BitVec 32 := v634
  let v816 : BitVec 32 := Scalar.addi v635 c0_i32_515
  let v817 : Index := Scalar.indexCast v816
  let c128_516 : Index := 128#32
  ![v817.toNat, 128]
def k0_mult6 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let c0_i32_478 : BitVec 32 := 0#32
  let v633 : BitVec 32 := Scalar.addi v632 c0_i32_478
  let c8_i32_524 : BitVec 32 := 8#32
  let v923 : BitVec 32 := Scalar.muli v633 c8_i32_524
  v923
def k0_off9 (k0_t1 : Fin k0_t1_loop.trips) (c0_i32_478 : BitVec 32) : Fin 3 → Nat :=
  let c1_525 : Index := 1#32
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let v633 : BitVec 32 := Scalar.addi v632 c0_i32_478
  let c8_i32_524 : BitVec 32 := 8#32
  let v923 : BitVec 32 := Scalar.muli v633 c8_i32_524
  let v924 : BitVec 32 := v923
  let v925 : Index := Scalar.indexCast v924
  let c0_526 : Index := 0#32
  ![1, v925.toNat, 0]
def k0_mult7 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_532 : BitVec 32 := 8#32
  let v935 : BitVec 32 := Scalar.muli arg21 c8_i32_532
  v935
def k0_off10 (k0_t1 : Fin k0_t1_loop.trips) : Fin 2 → Nat :=
  let c0_i32_18 : BitVec 32 := 0#32
  let c1_i32 : BitVec 32 := 1#32
  let arg21 : BitVec 32 := Scf.iv c0_i32_18 c1_i32 k0_t1
  let c8_i32_532 : BitVec 32 := 8#32
  let v935 : BitVec 32 := Scalar.muli arg21 c8_i32_532
  let v936 : BitVec 32 := v935
  let c256_i32 : BitVec 32 := 256#32
  ![v936.toNat, 256]
def k0_off11 (k0_t1 : Fin k0_t1_loop.trips) (c0_i32_478 : BitVec 32) (c0_i32_535 : BitVec 32) : Fin 3 → Nat :=
  let c0_536 : Index := 0#32
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let v633 : BitVec 32 := Scalar.addi v632 c0_i32_478
  let c64_i32 : BitVec 32 := 64#32
  let v636 : BitVec 32 := Scalar.muli v633 c64_i32
  let v637 : BitVec 32 := v636
  let v939 : BitVec 32 := Scalar.addi v637 c0_i32_535
  let v940 : Index := Scalar.indexCast v939
  let c256_537 : Index := 256#32
  ![0, v940.toNat, 256]
def k0_off12 (k0_t1 : Fin k0_t1_loop.trips) (c0_i32_478 : BitVec 32) (c0_i32_540 : BitVec 32) : Fin 2 → Nat :=
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let v633 : BitVec 32 := Scalar.addi v632 c0_i32_478
  let c128_i32 : BitVec 32 := 128#32
  let v634 : BitVec 32 := Scalar.muli v633 c128_i32
  let v635 : BitVec 32 := v634
  let v958 : BitVec 32 := Scalar.addi v635 c0_i32_540
  let v959 : Index := Scalar.indexCast v958
  let c256_541 : Index := 256#32
  ![v959.toNat, 256]
def k0_mult8 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let c0_i32_478 : BitVec 32 := 0#32
  let v633 : BitVec 32 := Scalar.addi v632 c0_i32_478
  let c8_i32_549 : BitVec 32 := 8#32
  let v1065 : BitVec 32 := Scalar.muli v633 c8_i32_549
  v1065
def k0_off13 (k0_t1 : Fin k0_t1_loop.trips) (c0_i32_478 : BitVec 32) : Fin 3 → Nat :=
  let c2_550 : Index := 2#32
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let v633 : BitVec 32 := Scalar.addi v632 c0_i32_478
  let c8_i32_549 : BitVec 32 := 8#32
  let v1065 : BitVec 32 := Scalar.muli v633 c8_i32_549
  let v1066 : BitVec 32 := v1065
  let v1067 : Index := Scalar.indexCast v1066
  let c0_551 : Index := 0#32
  ![2, v1067.toNat, 0]
def k0_mult9 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_554 : BitVec 32 := 8#32
  let v1075 : BitVec 32 := Scalar.muli arg21 c8_i32_554
  v1075
def k0_off14 (k0_t1 : Fin k0_t1_loop.trips) : Fin 2 → Nat :=
  let c0_i32_18 : BitVec 32 := 0#32
  let c1_i32 : BitVec 32 := 1#32
  let arg21 : BitVec 32 := Scf.iv c0_i32_18 c1_i32 k0_t1
  let c8_i32_554 : BitVec 32 := 8#32
  let v1075 : BitVec 32 := Scalar.muli arg21 c8_i32_554
  let v1076 : BitVec 32 := v1075
  let c384_i32 : BitVec 32 := 384#32
  ![v1076.toNat, 384]
def k0_off15 (k0_t1 : Fin k0_t1_loop.trips) (c0_i32_478 : BitVec 32) (c0_i32_557 : BitVec 32) : Fin 3 → Nat :=
  let c0_558 : Index := 0#32
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let v633 : BitVec 32 := Scalar.addi v632 c0_i32_478
  let c64_i32 : BitVec 32 := 64#32
  let v636 : BitVec 32 := Scalar.muli v633 c64_i32
  let v637 : BitVec 32 := v636
  let v1079 : BitVec 32 := Scalar.addi v637 c0_i32_557
  let v1080 : Index := Scalar.indexCast v1079
  let c384_559 : Index := 384#32
  ![0, v1080.toNat, 384]
def k0_off16 (k0_t1 : Fin k0_t1_loop.trips) (c0_i32_478 : BitVec 32) (c0_i32_562 : BitVec 32) : Fin 2 → Nat :=
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let v633 : BitVec 32 := Scalar.addi v632 c0_i32_478
  let c128_i32 : BitVec 32 := 128#32
  let v634 : BitVec 32 := Scalar.muli v633 c128_i32
  let v635 : BitVec 32 := v634
  let v1098 : BitVec 32 := Scalar.addi v635 c0_i32_562
  let v1099 : Index := Scalar.indexCast v1098
  let c384_563 : Index := 384#32
  ![v1099.toNat, 384]
def k0_mult10 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let c0_i32_478 : BitVec 32 := 0#32
  let v633 : BitVec 32 := Scalar.addi v632 c0_i32_478
  let c8_i32_571 : BitVec 32 := 8#32
  let v1205 : BitVec 32 := Scalar.muli v633 c8_i32_571
  v1205
def k0_off17 (k0_t1 : Fin k0_t1_loop.trips) (c0_i32_478 : BitVec 32) : Fin 3 → Nat :=
  let c3_572 : Index := 3#32
  let c0_i32_18 : BitVec 32 := 0#32
  let c1_i32 : BitVec 32 := 1#32
  let arg21 : BitVec 32 := Scf.iv c0_i32_18 c1_i32 k0_t1
  let c8_i32 : BitVec 32 := 8#32
  let v632 : BitVec 32 := Scalar.muli arg21 c8_i32
  let v633 : BitVec 32 := Scalar.addi v632 c0_i32_478
  let c8_i32_571 : BitVec 32 := 8#32
  let v1205 : BitVec 32 := Scalar.muli v633 c8_i32_571
  let v1206 : BitVec 32 := v1205
  let v1207 : Index := Scalar.indexCast v1206
  let c0_573 : Index := 0#32
  ![3, v1207.toNat, 0]
def k0_mult11 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_576 : BitVec 32 := 8#32
  let v1215 : BitVec 32 := Scalar.muli arg21 c8_i32_576
  let c1_i32_577 : BitVec 32 := 1#32
  let v1216 : BitVec 32 := Scalar.addi v1215 c1_i32_577
  let c128_i32_578 : BitVec 32 := 128#32
  let v1217 : BitVec 32 := Scalar.muli v1216 c128_i32_578
  v1217
def k0_mult12 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_576 : BitVec 32 := 8#32
  let v1215 : BitVec 32 := Scalar.muli arg21 c8_i32_576
  let c1_i32_577 : BitVec 32 := 1#32
  let v1216 : BitVec 32 := Scalar.addi v1215 c1_i32_577
  let c64_i32_579 : BitVec 32 := 64#32
  let v1219 : BitVec 32 := Scalar.muli v1216 c64_i32_579
  v1219
def k0_mult13 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_587 : BitVec 32 := 8#32
  let v1236 : BitVec 32 := Scalar.muli arg21 c8_i32_587
  v1236
def k0_mult14 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_576 : BitVec 32 := 8#32
  let v1215 : BitVec 32 := Scalar.muli arg21 c8_i32_576
  let c1_i32_577 : BitVec 32 := 1#32
  let v1216 : BitVec 32 := Scalar.addi v1215 c1_i32_577
  let c8_i32_605 : BitVec 32 := 8#32
  let v1366 : BitVec 32 := Scalar.muli v1216 c8_i32_605
  v1366
def k0_mult15 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_610 : BitVec 32 := 8#32
  let v1376 : BitVec 32 := Scalar.muli arg21 c8_i32_610
  v1376
def k0_mult16 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_576 : BitVec 32 := 8#32
  let v1215 : BitVec 32 := Scalar.muli arg21 c8_i32_576
  let c1_i32_577 : BitVec 32 := 1#32
  let v1216 : BitVec 32 := Scalar.addi v1215 c1_i32_577
  let c8_i32_628 : BitVec 32 := 8#32
  let v1506 : BitVec 32 := Scalar.muli v1216 c8_i32_628
  v1506
def k0_mult17 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_636 : BitVec 32 := 8#32
  let v1518 : BitVec 32 := Scalar.muli arg21 c8_i32_636
  v1518
def k0_mult18 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_576 : BitVec 32 := 8#32
  let v1215 : BitVec 32 := Scalar.muli arg21 c8_i32_576
  let c1_i32_577 : BitVec 32 := 1#32
  let v1216 : BitVec 32 := Scalar.addi v1215 c1_i32_577
  let c8_i32_654 : BitVec 32 := 8#32
  let v1648 : BitVec 32 := Scalar.muli v1216 c8_i32_654
  v1648
def k0_mult19 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_659 : BitVec 32 := 8#32
  let v1658 : BitVec 32 := Scalar.muli arg21 c8_i32_659
  v1658
def k0_mult20 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_576 : BitVec 32 := 8#32
  let v1215 : BitVec 32 := Scalar.muli arg21 c8_i32_576
  let c1_i32_577 : BitVec 32 := 1#32
  let v1216 : BitVec 32 := Scalar.addi v1215 c1_i32_577
  let c8_i32_677 : BitVec 32 := 8#32
  let v1788 : BitVec 32 := Scalar.muli v1216 c8_i32_677
  v1788
def k0_mult21 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_682 : BitVec 32 := 8#32
  let v1798 : BitVec 32 := Scalar.muli arg21 c8_i32_682
  let c2_i32_683 : BitVec 32 := 2#32
  let v1799 : BitVec 32 := Scalar.addi v1798 c2_i32_683
  let c128_i32_684 : BitVec 32 := 128#32
  let v1800 : BitVec 32 := Scalar.muli v1799 c128_i32_684
  v1800
def k0_mult22 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_682 : BitVec 32 := 8#32
  let v1798 : BitVec 32 := Scalar.muli arg21 c8_i32_682
  let c2_i32_683 : BitVec 32 := 2#32
  let v1799 : BitVec 32 := Scalar.addi v1798 c2_i32_683
  let c64_i32_685 : BitVec 32 := 64#32
  let v1802 : BitVec 32 := Scalar.muli v1799 c64_i32_685
  v1802
def k0_mult23 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_693 : BitVec 32 := 8#32
  let v1819 : BitVec 32 := Scalar.muli arg21 c8_i32_693
  v1819
def k0_mult24 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_682 : BitVec 32 := 8#32
  let v1798 : BitVec 32 := Scalar.muli arg21 c8_i32_682
  let c2_i32_683 : BitVec 32 := 2#32
  let v1799 : BitVec 32 := Scalar.addi v1798 c2_i32_683
  let c8_i32_711 : BitVec 32 := 8#32
  let v1949 : BitVec 32 := Scalar.muli v1799 c8_i32_711
  v1949
def k0_mult25 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_716 : BitVec 32 := 8#32
  let v1959 : BitVec 32 := Scalar.muli arg21 c8_i32_716
  v1959
def k0_mult26 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_682 : BitVec 32 := 8#32
  let v1798 : BitVec 32 := Scalar.muli arg21 c8_i32_682
  let c2_i32_683 : BitVec 32 := 2#32
  let v1799 : BitVec 32 := Scalar.addi v1798 c2_i32_683
  let c8_i32_734 : BitVec 32 := 8#32
  let v2089 : BitVec 32 := Scalar.muli v1799 c8_i32_734
  v2089
def k0_mult27 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_742 : BitVec 32 := 8#32
  let v2101 : BitVec 32 := Scalar.muli arg21 c8_i32_742
  v2101
def k0_mult28 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_682 : BitVec 32 := 8#32
  let v1798 : BitVec 32 := Scalar.muli arg21 c8_i32_682
  let c2_i32_683 : BitVec 32 := 2#32
  let v1799 : BitVec 32 := Scalar.addi v1798 c2_i32_683
  let c8_i32_760 : BitVec 32 := 8#32
  let v2231 : BitVec 32 := Scalar.muli v1799 c8_i32_760
  v2231
def k0_mult29 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_765 : BitVec 32 := 8#32
  let v2241 : BitVec 32 := Scalar.muli arg21 c8_i32_765
  v2241
def k0_mult30 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_682 : BitVec 32 := 8#32
  let v1798 : BitVec 32 := Scalar.muli arg21 c8_i32_682
  let c2_i32_683 : BitVec 32 := 2#32
  let v1799 : BitVec 32 := Scalar.addi v1798 c2_i32_683
  let c8_i32_783 : BitVec 32 := 8#32
  let v2371 : BitVec 32 := Scalar.muli v1799 c8_i32_783
  v2371
def k0_mult31 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_788 : BitVec 32 := 8#32
  let v2381 : BitVec 32 := Scalar.muli arg21 c8_i32_788
  let c3_i32_789 : BitVec 32 := 3#32
  let v2382 : BitVec 32 := Scalar.addi v2381 c3_i32_789
  let c128_i32_790 : BitVec 32 := 128#32
  let v2383 : BitVec 32 := Scalar.muli v2382 c128_i32_790
  v2383
def k0_mult32 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_788 : BitVec 32 := 8#32
  let v2381 : BitVec 32 := Scalar.muli arg21 c8_i32_788
  let c3_i32_789 : BitVec 32 := 3#32
  let v2382 : BitVec 32 := Scalar.addi v2381 c3_i32_789
  let c64_i32_791 : BitVec 32 := 64#32
  let v2385 : BitVec 32 := Scalar.muli v2382 c64_i32_791
  v2385
def k0_mult33 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_799 : BitVec 32 := 8#32
  let v2402 : BitVec 32 := Scalar.muli arg21 c8_i32_799
  v2402
def k0_mult34 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_788 : BitVec 32 := 8#32
  let v2381 : BitVec 32 := Scalar.muli arg21 c8_i32_788
  let c3_i32_789 : BitVec 32 := 3#32
  let v2382 : BitVec 32 := Scalar.addi v2381 c3_i32_789
  let c8_i32_817 : BitVec 32 := 8#32
  let v2532 : BitVec 32 := Scalar.muli v2382 c8_i32_817
  v2532
def k0_mult35 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_822 : BitVec 32 := 8#32
  let v2542 : BitVec 32 := Scalar.muli arg21 c8_i32_822
  v2542
def k0_mult36 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_788 : BitVec 32 := 8#32
  let v2381 : BitVec 32 := Scalar.muli arg21 c8_i32_788
  let c3_i32_789 : BitVec 32 := 3#32
  let v2382 : BitVec 32 := Scalar.addi v2381 c3_i32_789
  let c8_i32_840 : BitVec 32 := 8#32
  let v2672 : BitVec 32 := Scalar.muli v2382 c8_i32_840
  v2672
def k0_mult37 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_848 : BitVec 32 := 8#32
  let v2684 : BitVec 32 := Scalar.muli arg21 c8_i32_848
  v2684
def k0_mult38 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_788 : BitVec 32 := 8#32
  let v2381 : BitVec 32 := Scalar.muli arg21 c8_i32_788
  let c3_i32_789 : BitVec 32 := 3#32
  let v2382 : BitVec 32 := Scalar.addi v2381 c3_i32_789
  let c8_i32_866 : BitVec 32 := 8#32
  let v2814 : BitVec 32 := Scalar.muli v2382 c8_i32_866
  v2814
def k0_mult39 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_871 : BitVec 32 := 8#32
  let v2824 : BitVec 32 := Scalar.muli arg21 c8_i32_871
  v2824
def k0_mult40 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_788 : BitVec 32 := 8#32
  let v2381 : BitVec 32 := Scalar.muli arg21 c8_i32_788
  let c3_i32_789 : BitVec 32 := 3#32
  let v2382 : BitVec 32 := Scalar.addi v2381 c3_i32_789
  let c8_i32_889 : BitVec 32 := 8#32
  let v2954 : BitVec 32 := Scalar.muli v2382 c8_i32_889
  v2954
def k0_mult41 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_894 : BitVec 32 := 8#32
  let v2964 : BitVec 32 := Scalar.muli arg21 c8_i32_894
  let c4_i32_895 : BitVec 32 := 4#32
  let v2965 : BitVec 32 := Scalar.addi v2964 c4_i32_895
  let c128_i32_896 : BitVec 32 := 128#32
  let v2966 : BitVec 32 := Scalar.muli v2965 c128_i32_896
  v2966
def k0_mult42 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_894 : BitVec 32 := 8#32
  let v2964 : BitVec 32 := Scalar.muli arg21 c8_i32_894
  let c4_i32_895 : BitVec 32 := 4#32
  let v2965 : BitVec 32 := Scalar.addi v2964 c4_i32_895
  let c64_i32_897 : BitVec 32 := 64#32
  let v2968 : BitVec 32 := Scalar.muli v2965 c64_i32_897
  v2968
def k0_mult43 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_905 : BitVec 32 := 8#32
  let v2985 : BitVec 32 := Scalar.muli arg21 c8_i32_905
  v2985
def k0_mult44 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_894 : BitVec 32 := 8#32
  let v2964 : BitVec 32 := Scalar.muli arg21 c8_i32_894
  let c4_i32_895 : BitVec 32 := 4#32
  let v2965 : BitVec 32 := Scalar.addi v2964 c4_i32_895
  let c8_i32_923 : BitVec 32 := 8#32
  let v3115 : BitVec 32 := Scalar.muli v2965 c8_i32_923
  v3115
def k0_mult45 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_928 : BitVec 32 := 8#32
  let v3125 : BitVec 32 := Scalar.muli arg21 c8_i32_928
  v3125
def k0_mult46 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_894 : BitVec 32 := 8#32
  let v2964 : BitVec 32 := Scalar.muli arg21 c8_i32_894
  let c4_i32_895 : BitVec 32 := 4#32
  let v2965 : BitVec 32 := Scalar.addi v2964 c4_i32_895
  let c8_i32_946 : BitVec 32 := 8#32
  let v3255 : BitVec 32 := Scalar.muli v2965 c8_i32_946
  v3255
def k0_mult47 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_954 : BitVec 32 := 8#32
  let v3267 : BitVec 32 := Scalar.muli arg21 c8_i32_954
  v3267
def k0_mult48 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_894 : BitVec 32 := 8#32
  let v2964 : BitVec 32 := Scalar.muli arg21 c8_i32_894
  let c4_i32_895 : BitVec 32 := 4#32
  let v2965 : BitVec 32 := Scalar.addi v2964 c4_i32_895
  let c8_i32_972 : BitVec 32 := 8#32
  let v3397 : BitVec 32 := Scalar.muli v2965 c8_i32_972
  v3397
def k0_mult49 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_977 : BitVec 32 := 8#32
  let v3407 : BitVec 32 := Scalar.muli arg21 c8_i32_977
  v3407
def k0_mult50 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_894 : BitVec 32 := 8#32
  let v2964 : BitVec 32 := Scalar.muli arg21 c8_i32_894
  let c4_i32_895 : BitVec 32 := 4#32
  let v2965 : BitVec 32 := Scalar.addi v2964 c4_i32_895
  let c8_i32_995 : BitVec 32 := 8#32
  let v3537 : BitVec 32 := Scalar.muli v2965 c8_i32_995
  v3537
def k0_mult51 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1000 : BitVec 32 := 8#32
  let v3547 : BitVec 32 := Scalar.muli arg21 c8_i32_1000
  let c5_i32_1001 : BitVec 32 := 5#32
  let v3548 : BitVec 32 := Scalar.addi v3547 c5_i32_1001
  let c128_i32_1002 : BitVec 32 := 128#32
  let v3549 : BitVec 32 := Scalar.muli v3548 c128_i32_1002
  v3549
def k0_mult52 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1000 : BitVec 32 := 8#32
  let v3547 : BitVec 32 := Scalar.muli arg21 c8_i32_1000
  let c5_i32_1001 : BitVec 32 := 5#32
  let v3548 : BitVec 32 := Scalar.addi v3547 c5_i32_1001
  let c64_i32_1003 : BitVec 32 := 64#32
  let v3551 : BitVec 32 := Scalar.muli v3548 c64_i32_1003
  v3551
def k0_mult53 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1011 : BitVec 32 := 8#32
  let v3568 : BitVec 32 := Scalar.muli arg21 c8_i32_1011
  v3568
def k0_mult54 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1000 : BitVec 32 := 8#32
  let v3547 : BitVec 32 := Scalar.muli arg21 c8_i32_1000
  let c5_i32_1001 : BitVec 32 := 5#32
  let v3548 : BitVec 32 := Scalar.addi v3547 c5_i32_1001
  let c8_i32_1029 : BitVec 32 := 8#32
  let v3698 : BitVec 32 := Scalar.muli v3548 c8_i32_1029
  v3698
def k0_mult55 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1034 : BitVec 32 := 8#32
  let v3708 : BitVec 32 := Scalar.muli arg21 c8_i32_1034
  v3708
def k0_mult56 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1000 : BitVec 32 := 8#32
  let v3547 : BitVec 32 := Scalar.muli arg21 c8_i32_1000
  let c5_i32_1001 : BitVec 32 := 5#32
  let v3548 : BitVec 32 := Scalar.addi v3547 c5_i32_1001
  let c8_i32_1052 : BitVec 32 := 8#32
  let v3838 : BitVec 32 := Scalar.muli v3548 c8_i32_1052
  v3838
def k0_mult57 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1060 : BitVec 32 := 8#32
  let v3850 : BitVec 32 := Scalar.muli arg21 c8_i32_1060
  v3850
def k0_mult58 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1000 : BitVec 32 := 8#32
  let v3547 : BitVec 32 := Scalar.muli arg21 c8_i32_1000
  let c5_i32_1001 : BitVec 32 := 5#32
  let v3548 : BitVec 32 := Scalar.addi v3547 c5_i32_1001
  let c8_i32_1078 : BitVec 32 := 8#32
  let v3980 : BitVec 32 := Scalar.muli v3548 c8_i32_1078
  v3980
def k0_mult59 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1083 : BitVec 32 := 8#32
  let v3990 : BitVec 32 := Scalar.muli arg21 c8_i32_1083
  v3990
def k0_mult60 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1000 : BitVec 32 := 8#32
  let v3547 : BitVec 32 := Scalar.muli arg21 c8_i32_1000
  let c5_i32_1001 : BitVec 32 := 5#32
  let v3548 : BitVec 32 := Scalar.addi v3547 c5_i32_1001
  let c8_i32_1101 : BitVec 32 := 8#32
  let v4120 : BitVec 32 := Scalar.muli v3548 c8_i32_1101
  v4120
def k0_mult61 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1106 : BitVec 32 := 8#32
  let v4130 : BitVec 32 := Scalar.muli arg21 c8_i32_1106
  let c6_i32 : BitVec 32 := 6#32
  let v4131 : BitVec 32 := Scalar.addi v4130 c6_i32
  let c128_i32_1107 : BitVec 32 := 128#32
  let v4132 : BitVec 32 := Scalar.muli v4131 c128_i32_1107
  v4132
def k0_mult62 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1106 : BitVec 32 := 8#32
  let v4130 : BitVec 32 := Scalar.muli arg21 c8_i32_1106
  let c6_i32 : BitVec 32 := 6#32
  let v4131 : BitVec 32 := Scalar.addi v4130 c6_i32
  let c64_i32_1108 : BitVec 32 := 64#32
  let v4134 : BitVec 32 := Scalar.muli v4131 c64_i32_1108
  v4134
def k0_mult63 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1116 : BitVec 32 := 8#32
  let v4151 : BitVec 32 := Scalar.muli arg21 c8_i32_1116
  v4151
def k0_mult64 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1106 : BitVec 32 := 8#32
  let v4130 : BitVec 32 := Scalar.muli arg21 c8_i32_1106
  let c6_i32 : BitVec 32 := 6#32
  let v4131 : BitVec 32 := Scalar.addi v4130 c6_i32
  let c8_i32_1134 : BitVec 32 := 8#32
  let v4281 : BitVec 32 := Scalar.muli v4131 c8_i32_1134
  v4281
def k0_mult65 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1139 : BitVec 32 := 8#32
  let v4291 : BitVec 32 := Scalar.muli arg21 c8_i32_1139
  v4291
def k0_mult66 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1106 : BitVec 32 := 8#32
  let v4130 : BitVec 32 := Scalar.muli arg21 c8_i32_1106
  let c6_i32 : BitVec 32 := 6#32
  let v4131 : BitVec 32 := Scalar.addi v4130 c6_i32
  let c8_i32_1157 : BitVec 32 := 8#32
  let v4421 : BitVec 32 := Scalar.muli v4131 c8_i32_1157
  v4421
def k0_mult67 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1165 : BitVec 32 := 8#32
  let v4433 : BitVec 32 := Scalar.muli arg21 c8_i32_1165
  v4433
def k0_mult68 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1106 : BitVec 32 := 8#32
  let v4130 : BitVec 32 := Scalar.muli arg21 c8_i32_1106
  let c6_i32 : BitVec 32 := 6#32
  let v4131 : BitVec 32 := Scalar.addi v4130 c6_i32
  let c8_i32_1183 : BitVec 32 := 8#32
  let v4563 : BitVec 32 := Scalar.muli v4131 c8_i32_1183
  v4563
def k0_mult69 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1188 : BitVec 32 := 8#32
  let v4573 : BitVec 32 := Scalar.muli arg21 c8_i32_1188
  v4573
def k0_mult70 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1106 : BitVec 32 := 8#32
  let v4130 : BitVec 32 := Scalar.muli arg21 c8_i32_1106
  let c6_i32 : BitVec 32 := 6#32
  let v4131 : BitVec 32 := Scalar.addi v4130 c6_i32
  let c8_i32_1206 : BitVec 32 := 8#32
  let v4703 : BitVec 32 := Scalar.muli v4131 c8_i32_1206
  v4703
def k0_mult71 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1211 : BitVec 32 := 8#32
  let v4713 : BitVec 32 := Scalar.muli arg21 c8_i32_1211
  let c7_i32 : BitVec 32 := 7#32
  let v4714 : BitVec 32 := Scalar.addi v4713 c7_i32
  let c128_i32_1212 : BitVec 32 := 128#32
  let v4715 : BitVec 32 := Scalar.muli v4714 c128_i32_1212
  v4715
def k0_mult72 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1211 : BitVec 32 := 8#32
  let v4713 : BitVec 32 := Scalar.muli arg21 c8_i32_1211
  let c7_i32 : BitVec 32 := 7#32
  let v4714 : BitVec 32 := Scalar.addi v4713 c7_i32
  let c64_i32_1213 : BitVec 32 := 64#32
  let v4717 : BitVec 32 := Scalar.muli v4714 c64_i32_1213
  v4717
def k0_mult73 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1221 : BitVec 32 := 8#32
  let v4734 : BitVec 32 := Scalar.muli arg21 c8_i32_1221
  v4734
def k0_mult74 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1211 : BitVec 32 := 8#32
  let v4713 : BitVec 32 := Scalar.muli arg21 c8_i32_1211
  let c7_i32 : BitVec 32 := 7#32
  let v4714 : BitVec 32 := Scalar.addi v4713 c7_i32
  let c8_i32_1239 : BitVec 32 := 8#32
  let v4864 : BitVec 32 := Scalar.muli v4714 c8_i32_1239
  v4864
def k0_mult75 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1244 : BitVec 32 := 8#32
  let v4874 : BitVec 32 := Scalar.muli arg21 c8_i32_1244
  v4874
def k0_mult76 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1211 : BitVec 32 := 8#32
  let v4713 : BitVec 32 := Scalar.muli arg21 c8_i32_1211
  let c7_i32 : BitVec 32 := 7#32
  let v4714 : BitVec 32 := Scalar.addi v4713 c7_i32
  let c8_i32_1262 : BitVec 32 := 8#32
  let v5004 : BitVec 32 := Scalar.muli v4714 c8_i32_1262
  v5004
def k0_mult77 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1270 : BitVec 32 := 8#32
  let v5016 : BitVec 32 := Scalar.muli arg21 c8_i32_1270
  v5016
def k0_mult78 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1211 : BitVec 32 := 8#32
  let v4713 : BitVec 32 := Scalar.muli arg21 c8_i32_1211
  let c7_i32 : BitVec 32 := 7#32
  let v4714 : BitVec 32 := Scalar.addi v4713 c7_i32
  let c8_i32_1288 : BitVec 32 := 8#32
  let v5146 : BitVec 32 := Scalar.muli v4714 c8_i32_1288
  v5146
def k0_mult79 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1293 : BitVec 32 := 8#32
  let v5156 : BitVec 32 := Scalar.muli arg21 c8_i32_1293
  v5156
def k0_mult80 (k0_t1 : Fin k0_t1_loop.trips) : BitVec 32 :=
  let c0_i32_18 : BitVec 32 := 0#32
  let c1_i32 : BitVec 32 := 1#32
  let arg21 : BitVec 32 := Scf.iv c0_i32_18 c1_i32 k0_t1
  let c8_i32_1211 : BitVec 32 := 8#32
  let v4713 : BitVec 32 := Scalar.muli arg21 c8_i32_1211
  let c7_i32 : BitVec 32 := 7#32
  let v4714 : BitVec 32 := Scalar.addi v4713 c7_i32
  let c8_i32_1311 : BitVec 32 := 8#32
  let v5286 : BitVec 32 := Scalar.muli v4714 c8_i32_1311
  v5286
@[reducible] def k0_t2_loop : Scf.Loop 32 :=
  let c0_i32_474 : BitVec 32 := 0#32
  let c5_i32_475 : BitVec 32 := 5#32
  let v631 : BitVec 32 := Scalar.addi c0_i32_474 c5_i32_475
  let c1_i32_476 : BitVec 32 := 1#32
  ⟨c0_i32_474, v631, c1_i32_476⟩
def k0_mult81 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32 : BitVec 32 := 8#32
  let v632 : BitVec 32 := Scalar.muli arg21 c8_i32
  let c0_i32_478 : BitVec 32 := 0#32
  let v633 : BitVec 32 := Scalar.addi v632 c0_i32_478
  let c128_i32 : BitVec 32 := 128#32
  let v634 : BitVec 32 := Scalar.muli v633 c128_i32
  v634
def k0_mult82 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32 : BitVec 32 := 8#32
  let v632 : BitVec 32 := Scalar.muli arg21 c8_i32
  let c0_i32_478 : BitVec 32 := 0#32
  let v633 : BitVec 32 := Scalar.addi v632 c0_i32_478
  let c64_i32 : BitVec 32 := 64#32
  let v636 : BitVec 32 := Scalar.muli v633 c64_i32
  v636
def k0_mult83 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_479 : BitVec 32 := 8#32
  let v638 : BitVec 32 := Scalar.muli arg21 c8_i32_479
  v638
def k0_off18 (k0_t2 : Fin k0_t2_loop.trips) : Fin 2 → Nat :=
  let c0_i32_474 : BitVec 32 := 0#32
  let c1_i32_476 : BitVec 32 := 1#32
  let arg21 : BitVec 32 := Scf.iv c0_i32_474 c1_i32_476 k0_t2
  let c8_i32_479 : BitVec 32 := 8#32
  let v638 : BitVec 32 := Scalar.muli arg21 c8_i32_479
  let v639 : BitVec 32 := v638
  let c0_i32_480 : BitVec 32 := 0#32
  ![v639.toNat, 0]
def k0_mult84 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_483 : BitVec 32 := 8#32
  let v642 : BitVec 32 := Scalar.muli arg21 c8_i32_483
  v642
def k0_mult85 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_487 : BitVec 32 := 8#32
  let v649 : BitVec 32 := Scalar.muli arg21 c8_i32_487
  v649
def k0_mult86 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_491 : BitVec 32 := 8#32
  let v656 : BitVec 32 := Scalar.muli arg21 c8_i32_491
  v656
def k0_off19 (k0_t2 : Fin k0_t2_loop.trips) (c0_i32_478 : BitVec 32) (c0_i32_495 : BitVec 32) : Fin 2 → Nat :=
  let c0_i32_474 : BitVec 32 := 0#32
  let c1_i32_476 : BitVec 32 := 1#32
  let arg21 : BitVec 32 := Scf.iv c0_i32_474 c1_i32_476 k0_t2
  let c8_i32 : BitVec 32 := 8#32
  let v632 : BitVec 32 := Scalar.muli arg21 c8_i32
  let v633 : BitVec 32 := Scalar.addi v632 c0_i32_478
  let c128_i32 : BitVec 32 := 128#32
  let v634 : BitVec 32 := Scalar.muli v633 c128_i32
  let v635 : BitVec 32 := v634
  let v662 : BitVec 32 := Scalar.addi v635 c0_i32_495
  let v663 : Index := Scalar.indexCast v662
  let c0_496 : Index := 0#32
  ![v663.toNat, 0]
def k0_off20 (k0_t2 : Fin k0_t2_loop.trips) (c0_i32_478 : BitVec 32) (c0_i32_502 : BitVec 32) : Fin 3 → Nat :=
  let c0_503 : Index := 0#32
  let c0_i32_474 : BitVec 32 := 0#32
  let c1_i32_476 : BitVec 32 := 1#32
  let arg21 : BitVec 32 := Scf.iv c0_i32_474 c1_i32_476 k0_t2
  let c8_i32 : BitVec 32 := 8#32
  let v632 : BitVec 32 := Scalar.muli arg21 c8_i32
  let v633 : BitVec 32 := Scalar.addi v632 c0_i32_478
  let c64_i32 : BitVec 32 := 64#32
  let v636 : BitVec 32 := Scalar.muli v633 c64_i32
  let v637 : BitVec 32 := v636
  let v733 : BitVec 32 := Scalar.addi v637 c0_i32_502
  let v734 : Index := Scalar.indexCast v733
  let c0_504 : Index := 0#32
  ![0, v734.toNat, 0]
def k0_mult87 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_517 : BitVec 32 := 8#32
  let v814 : BitVec 32 := Scalar.muli arg21 c8_i32_517
  v814
def k0_off21 (k0_t2 : Fin k0_t2_loop.trips) : Fin 2 → Nat :=
  let c0_i32_474 : BitVec 32 := 0#32
  let c1_i32_476 : BitVec 32 := 1#32
  let arg21 : BitVec 32 := Scf.iv c0_i32_474 c1_i32_476 k0_t2
  let c8_i32_517 : BitVec 32 := 8#32
  let v814 : BitVec 32 := Scalar.muli arg21 c8_i32_517
  let v815 : BitVec 32 := v814
  let c128_i32_518 : BitVec 32 := 128#32
  ![v815.toNat, 128]
def k0_mult88 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_521 : BitVec 32 := 8#32
  let v818 : BitVec 32 := Scalar.muli arg21 c8_i32_521
  v818
def k0_mult89 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_525 : BitVec 32 := 8#32
  let v825 : BitVec 32 := Scalar.muli arg21 c8_i32_525
  v825
def k0_mult90 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_529 : BitVec 32 := 8#32
  let v832 : BitVec 32 := Scalar.muli arg21 c8_i32_529
  v832
def k0_off22 (k0_t2 : Fin k0_t2_loop.trips) (c0_i32_478 : BitVec 32) (c0_i32_533 : BitVec 32) : Fin 2 → Nat :=
  let c0_i32_474 : BitVec 32 := 0#32
  let c1_i32_476 : BitVec 32 := 1#32
  let arg21 : BitVec 32 := Scf.iv c0_i32_474 c1_i32_476 k0_t2
  let c8_i32 : BitVec 32 := 8#32
  let v632 : BitVec 32 := Scalar.muli arg21 c8_i32
  let v633 : BitVec 32 := Scalar.addi v632 c0_i32_478
  let c128_i32 : BitVec 32 := 128#32
  let v634 : BitVec 32 := Scalar.muli v633 c128_i32
  let v635 : BitVec 32 := v634
  let v838 : BitVec 32 := Scalar.addi v635 c0_i32_533
  let v839 : Index := Scalar.indexCast v838
  let c128_534 : Index := 128#32
  ![v839.toNat, 128]
def k0_off23 (k0_t2 : Fin k0_t2_loop.trips) (c0_i32_478 : BitVec 32) (c0_i32_543 : BitVec 32) : Fin 3 → Nat :=
  let c0_544 : Index := 0#32
  let c0_i32_474 : BitVec 32 := 0#32
  let c1_i32_476 : BitVec 32 := 1#32
  let arg21 : BitVec 32 := Scf.iv c0_i32_474 c1_i32_476 k0_t2
  let c8_i32 : BitVec 32 := 8#32
  let v632 : BitVec 32 := Scalar.muli arg21 c8_i32
  let v633 : BitVec 32 := Scalar.addi v632 c0_i32_478
  let c64_i32 : BitVec 32 := 64#32
  let v636 : BitVec 32 := Scalar.muli v633 c64_i32
  let v637 : BitVec 32 := v636
  let v909 : BitVec 32 := Scalar.addi v637 c0_i32_543
  let v910 : Index := Scalar.indexCast v909
  let c128_545 : Index := 128#32
  ![0, v910.toNat, 128]
def k0_mult91 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_559 : BitVec 32 := 8#32
  let v990 : BitVec 32 := Scalar.muli arg21 c8_i32_559
  v990
def k0_off24 (k0_t2 : Fin k0_t2_loop.trips) : Fin 2 → Nat :=
  let c0_i32_474 : BitVec 32 := 0#32
  let c1_i32_476 : BitVec 32 := 1#32
  let arg21 : BitVec 32 := Scf.iv c0_i32_474 c1_i32_476 k0_t2
  let c8_i32_559 : BitVec 32 := 8#32
  let v990 : BitVec 32 := Scalar.muli arg21 c8_i32_559
  let v991 : BitVec 32 := v990
  let c256_i32 : BitVec 32 := 256#32
  ![v991.toNat, 256]
def k0_mult92 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_562 : BitVec 32 := 8#32
  let v994 : BitVec 32 := Scalar.muli arg21 c8_i32_562
  v994
def k0_mult93 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_566 : BitVec 32 := 8#32
  let v1001 : BitVec 32 := Scalar.muli arg21 c8_i32_566
  v1001
def k0_mult94 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_570 : BitVec 32 := 8#32
  let v1008 : BitVec 32 := Scalar.muli arg21 c8_i32_570
  v1008
def k0_off25 (k0_t2 : Fin k0_t2_loop.trips) (c0_i32_478 : BitVec 32) (c0_i32_574 : BitVec 32) : Fin 2 → Nat :=
  let c0_i32_474 : BitVec 32 := 0#32
  let c1_i32_476 : BitVec 32 := 1#32
  let arg21 : BitVec 32 := Scf.iv c0_i32_474 c1_i32_476 k0_t2
  let c8_i32 : BitVec 32 := 8#32
  let v632 : BitVec 32 := Scalar.muli arg21 c8_i32
  let v633 : BitVec 32 := Scalar.addi v632 c0_i32_478
  let c128_i32 : BitVec 32 := 128#32
  let v634 : BitVec 32 := Scalar.muli v633 c128_i32
  let v635 : BitVec 32 := v634
  let v1014 : BitVec 32 := Scalar.addi v635 c0_i32_574
  let v1015 : Index := Scalar.indexCast v1014
  let c256_575 : Index := 256#32
  ![v1015.toNat, 256]
def k0_off26 (k0_t2 : Fin k0_t2_loop.trips) (c0_i32_478 : BitVec 32) (c0_i32_584 : BitVec 32) : Fin 3 → Nat :=
  let c0_585 : Index := 0#32
  let c0_i32_474 : BitVec 32 := 0#32
  let c1_i32_476 : BitVec 32 := 1#32
  let arg21 : BitVec 32 := Scf.iv c0_i32_474 c1_i32_476 k0_t2
  let c8_i32 : BitVec 32 := 8#32
  let v632 : BitVec 32 := Scalar.muli arg21 c8_i32
  let v633 : BitVec 32 := Scalar.addi v632 c0_i32_478
  let c64_i32 : BitVec 32 := 64#32
  let v636 : BitVec 32 := Scalar.muli v633 c64_i32
  let v637 : BitVec 32 := v636
  let v1085 : BitVec 32 := Scalar.addi v637 c0_i32_584
  let v1086 : Index := Scalar.indexCast v1085
  let c256_586 : Index := 256#32
  ![0, v1086.toNat, 256]
def k0_mult95 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_600 : BitVec 32 := 8#32
  let v1166 : BitVec 32 := Scalar.muli arg21 c8_i32_600
  v1166
def k0_off27 (k0_t2 : Fin k0_t2_loop.trips) : Fin 2 → Nat :=
  let c0_i32_474 : BitVec 32 := 0#32
  let c1_i32_476 : BitVec 32 := 1#32
  let arg21 : BitVec 32 := Scf.iv c0_i32_474 c1_i32_476 k0_t2
  let c8_i32_600 : BitVec 32 := 8#32
  let v1166 : BitVec 32 := Scalar.muli arg21 c8_i32_600
  let v1167 : BitVec 32 := v1166
  let c384_i32 : BitVec 32 := 384#32
  ![v1167.toNat, 384]
def k0_mult96 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_603 : BitVec 32 := 8#32
  let v1170 : BitVec 32 := Scalar.muli arg21 c8_i32_603
  v1170
def k0_mult97 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_607 : BitVec 32 := 8#32
  let v1177 : BitVec 32 := Scalar.muli arg21 c8_i32_607
  v1177
def k0_mult98 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_611 : BitVec 32 := 8#32
  let v1184 : BitVec 32 := Scalar.muli arg21 c8_i32_611
  v1184
def k0_off28 (k0_t2 : Fin k0_t2_loop.trips) (c0_i32_478 : BitVec 32) (c0_i32_615 : BitVec 32) : Fin 2 → Nat :=
  let c0_i32_474 : BitVec 32 := 0#32
  let c1_i32_476 : BitVec 32 := 1#32
  let arg21 : BitVec 32 := Scf.iv c0_i32_474 c1_i32_476 k0_t2
  let c8_i32 : BitVec 32 := 8#32
  let v632 : BitVec 32 := Scalar.muli arg21 c8_i32
  let v633 : BitVec 32 := Scalar.addi v632 c0_i32_478
  let c128_i32 : BitVec 32 := 128#32
  let v634 : BitVec 32 := Scalar.muli v633 c128_i32
  let v635 : BitVec 32 := v634
  let v1190 : BitVec 32 := Scalar.addi v635 c0_i32_615
  let v1191 : Index := Scalar.indexCast v1190
  let c384_616 : Index := 384#32
  ![v1191.toNat, 384]
def k0_off29 (k0_t2 : Fin k0_t2_loop.trips) (c0_i32_478 : BitVec 32) (c0_i32_625 : BitVec 32) : Fin 3 → Nat :=
  let c0_626 : Index := 0#32
  let c0_i32_474 : BitVec 32 := 0#32
  let c1_i32_476 : BitVec 32 := 1#32
  let arg21 : BitVec 32 := Scf.iv c0_i32_474 c1_i32_476 k0_t2
  let c8_i32 : BitVec 32 := 8#32
  let v632 : BitVec 32 := Scalar.muli arg21 c8_i32
  let v633 : BitVec 32 := Scalar.addi v632 c0_i32_478
  let c64_i32 : BitVec 32 := 64#32
  let v636 : BitVec 32 := Scalar.muli v633 c64_i32
  let v637 : BitVec 32 := v636
  let v1261 : BitVec 32 := Scalar.addi v637 c0_i32_625
  let v1262 : Index := Scalar.indexCast v1261
  let c384_627 : Index := 384#32
  ![0, v1262.toNat, 384]
def k0_mult99 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_641 : BitVec 32 := 8#32
  let v1342 : BitVec 32 := Scalar.muli arg21 c8_i32_641
  let c1_i32_642 : BitVec 32 := 1#32
  let v1343 : BitVec 32 := Scalar.addi v1342 c1_i32_642
  let c128_i32_643 : BitVec 32 := 128#32
  let v1344 : BitVec 32 := Scalar.muli v1343 c128_i32_643
  v1344
def k0_mult100 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_641 : BitVec 32 := 8#32
  let v1342 : BitVec 32 := Scalar.muli arg21 c8_i32_641
  let c1_i32_642 : BitVec 32 := 1#32
  let v1343 : BitVec 32 := Scalar.addi v1342 c1_i32_642
  let c64_i32_644 : BitVec 32 := 64#32
  let v1346 : BitVec 32 := Scalar.muli v1343 c64_i32_644
  v1346
def k0_mult101 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_645 : BitVec 32 := 8#32
  let v1348 : BitVec 32 := Scalar.muli arg21 c8_i32_645
  v1348
def k0_mult102 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_649 : BitVec 32 := 8#32
  let v1352 : BitVec 32 := Scalar.muli arg21 c8_i32_649
  v1352
def k0_mult103 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_653 : BitVec 32 := 8#32
  let v1359 : BitVec 32 := Scalar.muli arg21 c8_i32_653
  v1359
def k0_mult104 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_657 : BitVec 32 := 8#32
  let v1366 : BitVec 32 := Scalar.muli arg21 c8_i32_657
  v1366
def k0_mult105 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_687 : BitVec 32 := 8#32
  let v1524 : BitVec 32 := Scalar.muli arg21 c8_i32_687
  v1524
def k0_mult106 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_691 : BitVec 32 := 8#32
  let v1528 : BitVec 32 := Scalar.muli arg21 c8_i32_691
  v1528
def k0_mult107 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_695 : BitVec 32 := 8#32
  let v1535 : BitVec 32 := Scalar.muli arg21 c8_i32_695
  v1535
def k0_mult108 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_699 : BitVec 32 := 8#32
  let v1542 : BitVec 32 := Scalar.muli arg21 c8_i32_699
  v1542
def k0_mult109 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_729 : BitVec 32 := 8#32
  let v1700 : BitVec 32 := Scalar.muli arg21 c8_i32_729
  v1700
def k0_mult110 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_733 : BitVec 32 := 8#32
  let v1704 : BitVec 32 := Scalar.muli arg21 c8_i32_733
  v1704
def k0_mult111 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_737 : BitVec 32 := 8#32
  let v1711 : BitVec 32 := Scalar.muli arg21 c8_i32_737
  v1711
def k0_mult112 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_741 : BitVec 32 := 8#32
  let v1718 : BitVec 32 := Scalar.muli arg21 c8_i32_741
  v1718
def k0_mult113 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_771 : BitVec 32 := 8#32
  let v1876 : BitVec 32 := Scalar.muli arg21 c8_i32_771
  v1876
def k0_mult114 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_775 : BitVec 32 := 8#32
  let v1880 : BitVec 32 := Scalar.muli arg21 c8_i32_775
  v1880
def k0_mult115 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_779 : BitVec 32 := 8#32
  let v1887 : BitVec 32 := Scalar.muli arg21 c8_i32_779
  v1887
def k0_mult116 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_783 : BitVec 32 := 8#32
  let v1894 : BitVec 32 := Scalar.muli arg21 c8_i32_783
  v1894
def k0_mult117 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_813 : BitVec 32 := 8#32
  let v2052 : BitVec 32 := Scalar.muli arg21 c8_i32_813
  let c2_i32_814 : BitVec 32 := 2#32
  let v2053 : BitVec 32 := Scalar.addi v2052 c2_i32_814
  let c128_i32_815 : BitVec 32 := 128#32
  let v2054 : BitVec 32 := Scalar.muli v2053 c128_i32_815
  v2054
def k0_mult118 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_813 : BitVec 32 := 8#32
  let v2052 : BitVec 32 := Scalar.muli arg21 c8_i32_813
  let c2_i32_814 : BitVec 32 := 2#32
  let v2053 : BitVec 32 := Scalar.addi v2052 c2_i32_814
  let c64_i32_816 : BitVec 32 := 64#32
  let v2056 : BitVec 32 := Scalar.muli v2053 c64_i32_816
  v2056
def k0_mult119 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_817 : BitVec 32 := 8#32
  let v2058 : BitVec 32 := Scalar.muli arg21 c8_i32_817
  v2058
def k0_mult120 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_821 : BitVec 32 := 8#32
  let v2062 : BitVec 32 := Scalar.muli arg21 c8_i32_821
  v2062
def k0_mult121 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_825 : BitVec 32 := 8#32
  let v2069 : BitVec 32 := Scalar.muli arg21 c8_i32_825
  v2069
def k0_mult122 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_829 : BitVec 32 := 8#32
  let v2076 : BitVec 32 := Scalar.muli arg21 c8_i32_829
  v2076
def k0_mult123 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_859 : BitVec 32 := 8#32
  let v2234 : BitVec 32 := Scalar.muli arg21 c8_i32_859
  v2234
def k0_mult124 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_863 : BitVec 32 := 8#32
  let v2238 : BitVec 32 := Scalar.muli arg21 c8_i32_863
  v2238
def k0_mult125 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_867 : BitVec 32 := 8#32
  let v2245 : BitVec 32 := Scalar.muli arg21 c8_i32_867
  v2245
def k0_mult126 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_871 : BitVec 32 := 8#32
  let v2252 : BitVec 32 := Scalar.muli arg21 c8_i32_871
  v2252
def k0_mult127 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_901 : BitVec 32 := 8#32
  let v2410 : BitVec 32 := Scalar.muli arg21 c8_i32_901
  v2410
def k0_mult128 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_905 : BitVec 32 := 8#32
  let v2414 : BitVec 32 := Scalar.muli arg21 c8_i32_905
  v2414
def k0_mult129 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_909 : BitVec 32 := 8#32
  let v2421 : BitVec 32 := Scalar.muli arg21 c8_i32_909
  v2421
def k0_mult130 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_913 : BitVec 32 := 8#32
  let v2428 : BitVec 32 := Scalar.muli arg21 c8_i32_913
  v2428
def k0_mult131 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_943 : BitVec 32 := 8#32
  let v2586 : BitVec 32 := Scalar.muli arg21 c8_i32_943
  v2586
def k0_mult132 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_947 : BitVec 32 := 8#32
  let v2590 : BitVec 32 := Scalar.muli arg21 c8_i32_947
  v2590
def k0_mult133 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_951 : BitVec 32 := 8#32
  let v2597 : BitVec 32 := Scalar.muli arg21 c8_i32_951
  v2597
def k0_mult134 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_955 : BitVec 32 := 8#32
  let v2604 : BitVec 32 := Scalar.muli arg21 c8_i32_955
  v2604
def k0_mult135 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_985 : BitVec 32 := 8#32
  let v2762 : BitVec 32 := Scalar.muli arg21 c8_i32_985
  let c3_i32_986 : BitVec 32 := 3#32
  let v2763 : BitVec 32 := Scalar.addi v2762 c3_i32_986
  let c128_i32_987 : BitVec 32 := 128#32
  let v2764 : BitVec 32 := Scalar.muli v2763 c128_i32_987
  v2764
def k0_mult136 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_985 : BitVec 32 := 8#32
  let v2762 : BitVec 32 := Scalar.muli arg21 c8_i32_985
  let c3_i32_986 : BitVec 32 := 3#32
  let v2763 : BitVec 32 := Scalar.addi v2762 c3_i32_986
  let c64_i32_988 : BitVec 32 := 64#32
  let v2766 : BitVec 32 := Scalar.muli v2763 c64_i32_988
  v2766
def k0_mult137 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_989 : BitVec 32 := 8#32
  let v2768 : BitVec 32 := Scalar.muli arg21 c8_i32_989
  v2768
def k0_mult138 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_993 : BitVec 32 := 8#32
  let v2772 : BitVec 32 := Scalar.muli arg21 c8_i32_993
  v2772
def k0_mult139 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_997 : BitVec 32 := 8#32
  let v2779 : BitVec 32 := Scalar.muli arg21 c8_i32_997
  v2779
def k0_mult140 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1001 : BitVec 32 := 8#32
  let v2786 : BitVec 32 := Scalar.muli arg21 c8_i32_1001
  v2786
def k0_mult141 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1031 : BitVec 32 := 8#32
  let v2944 : BitVec 32 := Scalar.muli arg21 c8_i32_1031
  v2944
def k0_mult142 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1035 : BitVec 32 := 8#32
  let v2948 : BitVec 32 := Scalar.muli arg21 c8_i32_1035
  v2948
def k0_mult143 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1039 : BitVec 32 := 8#32
  let v2955 : BitVec 32 := Scalar.muli arg21 c8_i32_1039
  v2955
def k0_mult144 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1043 : BitVec 32 := 8#32
  let v2962 : BitVec 32 := Scalar.muli arg21 c8_i32_1043
  v2962
def k0_mult145 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1073 : BitVec 32 := 8#32
  let v3120 : BitVec 32 := Scalar.muli arg21 c8_i32_1073
  v3120
def k0_mult146 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1077 : BitVec 32 := 8#32
  let v3124 : BitVec 32 := Scalar.muli arg21 c8_i32_1077
  v3124
def k0_mult147 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1081 : BitVec 32 := 8#32
  let v3131 : BitVec 32 := Scalar.muli arg21 c8_i32_1081
  v3131
def k0_mult148 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1085 : BitVec 32 := 8#32
  let v3138 : BitVec 32 := Scalar.muli arg21 c8_i32_1085
  v3138
def k0_mult149 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1115 : BitVec 32 := 8#32
  let v3296 : BitVec 32 := Scalar.muli arg21 c8_i32_1115
  v3296
def k0_mult150 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1119 : BitVec 32 := 8#32
  let v3300 : BitVec 32 := Scalar.muli arg21 c8_i32_1119
  v3300
def k0_mult151 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1123 : BitVec 32 := 8#32
  let v3307 : BitVec 32 := Scalar.muli arg21 c8_i32_1123
  v3307
def k0_mult152 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1127 : BitVec 32 := 8#32
  let v3314 : BitVec 32 := Scalar.muli arg21 c8_i32_1127
  v3314
def k0_mult153 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1157 : BitVec 32 := 8#32
  let v3472 : BitVec 32 := Scalar.muli arg21 c8_i32_1157
  let c4_i32_1158 : BitVec 32 := 4#32
  let v3473 : BitVec 32 := Scalar.addi v3472 c4_i32_1158
  let c128_i32_1159 : BitVec 32 := 128#32
  let v3474 : BitVec 32 := Scalar.muli v3473 c128_i32_1159
  v3474
def k0_mult154 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1157 : BitVec 32 := 8#32
  let v3472 : BitVec 32 := Scalar.muli arg21 c8_i32_1157
  let c4_i32_1158 : BitVec 32 := 4#32
  let v3473 : BitVec 32 := Scalar.addi v3472 c4_i32_1158
  let c64_i32_1160 : BitVec 32 := 64#32
  let v3476 : BitVec 32 := Scalar.muli v3473 c64_i32_1160
  v3476
def k0_mult155 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1161 : BitVec 32 := 8#32
  let v3478 : BitVec 32 := Scalar.muli arg21 c8_i32_1161
  v3478
def k0_mult156 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1165 : BitVec 32 := 8#32
  let v3482 : BitVec 32 := Scalar.muli arg21 c8_i32_1165
  v3482
def k0_mult157 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1169 : BitVec 32 := 8#32
  let v3489 : BitVec 32 := Scalar.muli arg21 c8_i32_1169
  v3489
def k0_mult158 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1173 : BitVec 32 := 8#32
  let v3496 : BitVec 32 := Scalar.muli arg21 c8_i32_1173
  v3496
def k0_mult159 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1203 : BitVec 32 := 8#32
  let v3654 : BitVec 32 := Scalar.muli arg21 c8_i32_1203
  v3654
def k0_mult160 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1207 : BitVec 32 := 8#32
  let v3658 : BitVec 32 := Scalar.muli arg21 c8_i32_1207
  v3658
def k0_mult161 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1211 : BitVec 32 := 8#32
  let v3665 : BitVec 32 := Scalar.muli arg21 c8_i32_1211
  v3665
def k0_mult162 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1215 : BitVec 32 := 8#32
  let v3672 : BitVec 32 := Scalar.muli arg21 c8_i32_1215
  v3672
def k0_mult163 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1245 : BitVec 32 := 8#32
  let v3830 : BitVec 32 := Scalar.muli arg21 c8_i32_1245
  v3830
def k0_mult164 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1249 : BitVec 32 := 8#32
  let v3834 : BitVec 32 := Scalar.muli arg21 c8_i32_1249
  v3834
def k0_mult165 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1253 : BitVec 32 := 8#32
  let v3841 : BitVec 32 := Scalar.muli arg21 c8_i32_1253
  v3841
def k0_mult166 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1257 : BitVec 32 := 8#32
  let v3848 : BitVec 32 := Scalar.muli arg21 c8_i32_1257
  v3848
def k0_mult167 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1287 : BitVec 32 := 8#32
  let v4006 : BitVec 32 := Scalar.muli arg21 c8_i32_1287
  v4006
def k0_mult168 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1291 : BitVec 32 := 8#32
  let v4010 : BitVec 32 := Scalar.muli arg21 c8_i32_1291
  v4010
def k0_mult169 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1295 : BitVec 32 := 8#32
  let v4017 : BitVec 32 := Scalar.muli arg21 c8_i32_1295
  v4017
def k0_mult170 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1299 : BitVec 32 := 8#32
  let v4024 : BitVec 32 := Scalar.muli arg21 c8_i32_1299
  v4024
def k0_mult171 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1329 : BitVec 32 := 8#32
  let v4182 : BitVec 32 := Scalar.muli arg21 c8_i32_1329
  let c5_i32_1330 : BitVec 32 := 5#32
  let v4183 : BitVec 32 := Scalar.addi v4182 c5_i32_1330
  let c128_i32_1331 : BitVec 32 := 128#32
  let v4184 : BitVec 32 := Scalar.muli v4183 c128_i32_1331
  v4184
def k0_mult172 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1329 : BitVec 32 := 8#32
  let v4182 : BitVec 32 := Scalar.muli arg21 c8_i32_1329
  let c5_i32_1330 : BitVec 32 := 5#32
  let v4183 : BitVec 32 := Scalar.addi v4182 c5_i32_1330
  let c64_i32_1332 : BitVec 32 := 64#32
  let v4186 : BitVec 32 := Scalar.muli v4183 c64_i32_1332
  v4186
def k0_mult173 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1333 : BitVec 32 := 8#32
  let v4188 : BitVec 32 := Scalar.muli arg21 c8_i32_1333
  v4188
def k0_mult174 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1337 : BitVec 32 := 8#32
  let v4192 : BitVec 32 := Scalar.muli arg21 c8_i32_1337
  v4192
def k0_mult175 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1341 : BitVec 32 := 8#32
  let v4199 : BitVec 32 := Scalar.muli arg21 c8_i32_1341
  v4199
def k0_mult176 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1345 : BitVec 32 := 8#32
  let v4206 : BitVec 32 := Scalar.muli arg21 c8_i32_1345
  v4206
def k0_mult177 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1375 : BitVec 32 := 8#32
  let v4364 : BitVec 32 := Scalar.muli arg21 c8_i32_1375
  v4364
def k0_mult178 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1379 : BitVec 32 := 8#32
  let v4368 : BitVec 32 := Scalar.muli arg21 c8_i32_1379
  v4368
def k0_mult179 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1383 : BitVec 32 := 8#32
  let v4375 : BitVec 32 := Scalar.muli arg21 c8_i32_1383
  v4375
def k0_mult180 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1387 : BitVec 32 := 8#32
  let v4382 : BitVec 32 := Scalar.muli arg21 c8_i32_1387
  v4382
def k0_mult181 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1417 : BitVec 32 := 8#32
  let v4540 : BitVec 32 := Scalar.muli arg21 c8_i32_1417
  v4540
def k0_mult182 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1421 : BitVec 32 := 8#32
  let v4544 : BitVec 32 := Scalar.muli arg21 c8_i32_1421
  v4544
def k0_mult183 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1425 : BitVec 32 := 8#32
  let v4551 : BitVec 32 := Scalar.muli arg21 c8_i32_1425
  v4551
def k0_mult184 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1429 : BitVec 32 := 8#32
  let v4558 : BitVec 32 := Scalar.muli arg21 c8_i32_1429
  v4558
def k0_mult185 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1459 : BitVec 32 := 8#32
  let v4716 : BitVec 32 := Scalar.muli arg21 c8_i32_1459
  v4716
def k0_mult186 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1463 : BitVec 32 := 8#32
  let v4720 : BitVec 32 := Scalar.muli arg21 c8_i32_1463
  v4720
def k0_mult187 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1467 : BitVec 32 := 8#32
  let v4727 : BitVec 32 := Scalar.muli arg21 c8_i32_1467
  v4727
def k0_mult188 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1471 : BitVec 32 := 8#32
  let v4734 : BitVec 32 := Scalar.muli arg21 c8_i32_1471
  v4734
def k0_mult189 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1501 : BitVec 32 := 8#32
  let v4892 : BitVec 32 := Scalar.muli arg21 c8_i32_1501
  let c6_i32 : BitVec 32 := 6#32
  let v4893 : BitVec 32 := Scalar.addi v4892 c6_i32
  let c128_i32_1502 : BitVec 32 := 128#32
  let v4894 : BitVec 32 := Scalar.muli v4893 c128_i32_1502
  v4894
def k0_mult190 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1501 : BitVec 32 := 8#32
  let v4892 : BitVec 32 := Scalar.muli arg21 c8_i32_1501
  let c6_i32 : BitVec 32 := 6#32
  let v4893 : BitVec 32 := Scalar.addi v4892 c6_i32
  let c64_i32_1503 : BitVec 32 := 64#32
  let v4896 : BitVec 32 := Scalar.muli v4893 c64_i32_1503
  v4896
def k0_mult191 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1504 : BitVec 32 := 8#32
  let v4898 : BitVec 32 := Scalar.muli arg21 c8_i32_1504
  v4898
def k0_mult192 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1508 : BitVec 32 := 8#32
  let v4902 : BitVec 32 := Scalar.muli arg21 c8_i32_1508
  v4902
def k0_mult193 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1512 : BitVec 32 := 8#32
  let v4909 : BitVec 32 := Scalar.muli arg21 c8_i32_1512
  v4909
def k0_mult194 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1516 : BitVec 32 := 8#32
  let v4916 : BitVec 32 := Scalar.muli arg21 c8_i32_1516
  v4916
def k0_mult195 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1546 : BitVec 32 := 8#32
  let v5074 : BitVec 32 := Scalar.muli arg21 c8_i32_1546
  v5074
def k0_mult196 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1550 : BitVec 32 := 8#32
  let v5078 : BitVec 32 := Scalar.muli arg21 c8_i32_1550
  v5078
def k0_mult197 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1554 : BitVec 32 := 8#32
  let v5085 : BitVec 32 := Scalar.muli arg21 c8_i32_1554
  v5085
def k0_mult198 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1558 : BitVec 32 := 8#32
  let v5092 : BitVec 32 := Scalar.muli arg21 c8_i32_1558
  v5092
def k0_mult199 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1588 : BitVec 32 := 8#32
  let v5250 : BitVec 32 := Scalar.muli arg21 c8_i32_1588
  v5250
def k0_mult200 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1592 : BitVec 32 := 8#32
  let v5254 : BitVec 32 := Scalar.muli arg21 c8_i32_1592
  v5254
def k0_mult201 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1596 : BitVec 32 := 8#32
  let v5261 : BitVec 32 := Scalar.muli arg21 c8_i32_1596
  v5261
def k0_mult202 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1600 : BitVec 32 := 8#32
  let v5268 : BitVec 32 := Scalar.muli arg21 c8_i32_1600
  v5268
def k0_mult203 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1630 : BitVec 32 := 8#32
  let v5426 : BitVec 32 := Scalar.muli arg21 c8_i32_1630
  v5426
def k0_mult204 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1634 : BitVec 32 := 8#32
  let v5430 : BitVec 32 := Scalar.muli arg21 c8_i32_1634
  v5430
def k0_mult205 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1638 : BitVec 32 := 8#32
  let v5437 : BitVec 32 := Scalar.muli arg21 c8_i32_1638
  v5437
def k0_mult206 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1642 : BitVec 32 := 8#32
  let v5444 : BitVec 32 := Scalar.muli arg21 c8_i32_1642
  v5444
def k0_mult207 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1672 : BitVec 32 := 8#32
  let v5602 : BitVec 32 := Scalar.muli arg21 c8_i32_1672
  let c7_i32 : BitVec 32 := 7#32
  let v5603 : BitVec 32 := Scalar.addi v5602 c7_i32
  let c128_i32_1673 : BitVec 32 := 128#32
  let v5604 : BitVec 32 := Scalar.muli v5603 c128_i32_1673
  v5604
def k0_mult208 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1672 : BitVec 32 := 8#32
  let v5602 : BitVec 32 := Scalar.muli arg21 c8_i32_1672
  let c7_i32 : BitVec 32 := 7#32
  let v5603 : BitVec 32 := Scalar.addi v5602 c7_i32
  let c64_i32_1674 : BitVec 32 := 64#32
  let v5606 : BitVec 32 := Scalar.muli v5603 c64_i32_1674
  v5606
def k0_mult209 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1675 : BitVec 32 := 8#32
  let v5608 : BitVec 32 := Scalar.muli arg21 c8_i32_1675
  v5608
def k0_mult210 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1679 : BitVec 32 := 8#32
  let v5612 : BitVec 32 := Scalar.muli arg21 c8_i32_1679
  v5612
def k0_mult211 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1683 : BitVec 32 := 8#32
  let v5619 : BitVec 32 := Scalar.muli arg21 c8_i32_1683
  v5619
def k0_mult212 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1687 : BitVec 32 := 8#32
  let v5626 : BitVec 32 := Scalar.muli arg21 c8_i32_1687
  v5626
def k0_mult213 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1717 : BitVec 32 := 8#32
  let v5784 : BitVec 32 := Scalar.muli arg21 c8_i32_1717
  v5784
def k0_mult214 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1721 : BitVec 32 := 8#32
  let v5788 : BitVec 32 := Scalar.muli arg21 c8_i32_1721
  v5788
def k0_mult215 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1725 : BitVec 32 := 8#32
  let v5795 : BitVec 32 := Scalar.muli arg21 c8_i32_1725
  v5795
def k0_mult216 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1729 : BitVec 32 := 8#32
  let v5802 : BitVec 32 := Scalar.muli arg21 c8_i32_1729
  v5802
def k0_mult217 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1759 : BitVec 32 := 8#32
  let v5960 : BitVec 32 := Scalar.muli arg21 c8_i32_1759
  v5960
def k0_mult218 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1763 : BitVec 32 := 8#32
  let v5964 : BitVec 32 := Scalar.muli arg21 c8_i32_1763
  v5964
def k0_mult219 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1767 : BitVec 32 := 8#32
  let v5971 : BitVec 32 := Scalar.muli arg21 c8_i32_1767
  v5971
def k0_mult220 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1771 : BitVec 32 := 8#32
  let v5978 : BitVec 32 := Scalar.muli arg21 c8_i32_1771
  v5978
def k0_mult221 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1801 : BitVec 32 := 8#32
  let v6136 : BitVec 32 := Scalar.muli arg21 c8_i32_1801
  v6136
def k0_mult222 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1805 : BitVec 32 := 8#32
  let v6140 : BitVec 32 := Scalar.muli arg21 c8_i32_1805
  v6140
def k0_mult223 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1809 : BitVec 32 := 8#32
  let v6147 : BitVec 32 := Scalar.muli arg21 c8_i32_1809
  v6147
def k0_mult224 (k0_t2 : Fin k0_t2_loop.trips) : BitVec 32 :=
  let c0_i32_474 : BitVec 32 := 0#32
  let c1_i32_476 : BitVec 32 := 1#32
  let arg21 : BitVec 32 := Scf.iv c0_i32_474 c1_i32_476 k0_t2
  let c8_i32_1813 : BitVec 32 := 8#32
  let v6154 : BitVec 32 := Scalar.muli arg21 c8_i32_1813
  v6154
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2560x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x40x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x40x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x5120x96 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x96x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2560x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x40x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x40x512 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S2x2560x27648 : Shape := ⟨3, ![2, 2560, 27648]⟩
abbrev S2x40x27648 : Shape := ⟨3, ![2, 40, 27648]⟩
abbrev S2x5120x96 : Shape := ⟨3, ![2, 5120, 96]⟩
abbrev S2x96x27648 : Shape := ⟨3, ![2, 96, 27648]⟩
abbrev S2x27648 : Shape := ⟨2, ![2, 27648]⟩
abbrev S2x40x1x27648 : Shape := ⟨4, ![2, 40, 1, 27648]⟩
abbrev S_ : Shape := ⟨0, ![]⟩
abbrev S2x40x64x27648 : Shape := ⟨4, ![2, 40, 64, 27648]⟩
abbrev S2x2560x2x96 : Shape := ⟨4, ![2, 2560, 2, 96]⟩
abbrev S2x2560x1x96 : Shape := ⟨4, ![2, 2560, 1, 96]⟩
abbrev S2x2560x96 : Shape := ⟨3, ![2, 2560, 96]⟩
abbrev S2x1x27648 : Shape := ⟨3, ![2, 1, 27648]⟩

abbrev nBuf : Space → Nat
  | .hbm => 147
  | .vmem => 0
  | .smem => 0
  | _ => 0

abbrev hbmTy0_0 (i : Nat) : BufTy := match i % 128 with
  | 0 => ⟨S2x2560x27648, .i8⟩
  | 1 => ⟨S2x40x27648, .bf16⟩
  | 2 => ⟨S2x40x27648, .i8⟩
  | 3 => ⟨S2x5120x96, .bf16⟩
  | 4 => ⟨S2x96x27648, .bf16⟩
  | 5 => ⟨S2x27648, .bf16⟩
  | 6 => ⟨S2x2560x27648, .i32⟩
  | 7 => ⟨S2x40x27648, .f32⟩
  | 8 => ⟨S2x40x1x27648, .f32⟩
  | 9 => ⟨S2x40x27648, .i32⟩
  | 10 => ⟨S2x40x27648, .f32⟩
  | 11 => ⟨S2x40x1x27648, .f32⟩
  | 12 => ⟨S_, .i32⟩
  | 13 => ⟨S2x2560x27648, .i32⟩
  | 14 => ⟨S2x2560x27648, .i32⟩
  | 15 => ⟨S2x2560x27648, .f32⟩
  | 16 => ⟨S2x40x64x27648, .f32⟩
  | 17 => ⟨S2x40x64x27648, .f32⟩
  | 18 => ⟨S2x40x64x27648, .f32⟩
  | 19 => ⟨S2x40x64x27648, .f32⟩
  | 20 => ⟨S2x40x64x27648, .f32⟩
  | 21 => ⟨S2x2560x27648, .f32⟩
  | 22 => ⟨S_, .i32⟩
  | 23 => ⟨S2x2560x27648, .i32⟩
  | 24 => ⟨S2x2560x27648, .i32⟩
  | 25 => ⟨S2x2560x27648, .f32⟩
  | 26 => ⟨S2x40x64x27648, .f32⟩
  | 27 => ⟨S2x40x64x27648, .f32⟩
  | 28 => ⟨S2x40x64x27648, .f32⟩
  | 29 => ⟨S2x40x64x27648, .f32⟩
  | 30 => ⟨S2x40x64x27648, .f32⟩
  | 31 => ⟨S2x2560x27648, .f32⟩
  | 32 => ⟨S2x2560x2x96, .bf16⟩
  | 33 => ⟨S2x2560x1x96, .bf16⟩
  | 34 => ⟨S2x2560x96, .bf16⟩
  | 35 => ⟨S2x2560x1x96, .bf16⟩
  | 36 => ⟨S2x2560x96, .bf16⟩
  | 37 => ⟨S2x2560x27648, .f32⟩
  | 38 => ⟨S2x2560x27648, .f32⟩
  | 39 => ⟨S_, .f32⟩
  | 40 => ⟨S2x2560x27648, .f32⟩
  | 41 => ⟨S2x2560x27648, .f32⟩
  | 42 => ⟨S2x2560x27648, .f32⟩
  | 43 => ⟨S_, .f32⟩
  | 44 => ⟨S2x2560x27648, .f32⟩
  | 45 => ⟨S2x2560x27648, .f32⟩
  | 46 => ⟨S2x2560x27648, .f32⟩
  | 47 => ⟨S2x2560x27648, .f32⟩
  | 48 => ⟨S_, .f32⟩
  | 49 => ⟨S2x27648, .f32⟩
  | 50 => ⟨S2x2560x27648, .f32⟩
  | 51 => ⟨S_, .f32⟩
  | 52 => ⟨S2x27648, .f32⟩
  | 53 => ⟨S2x27648, .f32⟩
  | 54 => ⟨S2x27648, .f32⟩
  | 55 => ⟨S_, .f32⟩
  | 56 => ⟨S2x27648, .f32⟩
  | 57 => ⟨S2x27648, .i1⟩
  | 58 => ⟨S_, .f32⟩
  | 59 => ⟨S_, .f32⟩
  | 60 => ⟨S2x27648, .f32⟩
  | 61 => ⟨S2x27648, .f32⟩
  | 62 => ⟨S2x27648, .f32⟩
  | 63 => ⟨S2x27648, .f32⟩
  | 64 => ⟨S2x1x27648, .f32⟩
  | 65 => ⟨S2x2560x27648, .f32⟩
  | 66 => ⟨S2x2560x27648, .f32⟩
  | 67 => ⟨S2x40x64x27648, .f32⟩
  | 68 => ⟨S2x2560x27648, .f32⟩
  | 69 => ⟨S2x2560x27648, .f32⟩
  | 70 => ⟨S2x40x64x27648, .f32⟩
  | 71 => ⟨S_, .f32⟩
  | 72 => ⟨S2x40x27648, .f32⟩
  | 73 => ⟨S_, .f32⟩
  | 74 => ⟨S2x40x27648, .f32⟩
  | 75 => ⟨S2x40x27648, .f32⟩
  | 76 => ⟨S_, .f32⟩
  | 77 => ⟨S2x40x27648, .f32⟩
  | 78 => ⟨S_, .f32⟩
  | 79 => ⟨S2x40x27648, .f32⟩
  | 80 => ⟨S2x40x27648, .f32⟩
  | 81 => ⟨S2x40x27648, .i1⟩
  | 82 => ⟨S2x40x27648, .f32⟩
  | 83 => ⟨S_, .f32⟩
  | 84 => ⟨S2x40x27648, .f32⟩
  | 85 => ⟨S2x40x27648, .f32⟩
  | 86 => ⟨S_, .f32⟩
  | 87 => ⟨S_, .f32⟩
  | 88 => ⟨S2x40x27648, .f32⟩
  | 89 => ⟨S2x40x27648, .f32⟩
  | 90 => ⟨S2x40x27648, .bf16⟩
  | 91 => ⟨S2x40x27648, .f32⟩
  | 92 => ⟨S2x40x27648, .f32⟩
  | 93 => ⟨S2x40x27648, .f32⟩
  | 94 => ⟨S2x40x27648, .f32⟩
  | 95 => ⟨S_, .f32⟩
  | 96 => ⟨S_, .f32⟩
  | 97 => ⟨S_, .f32⟩
  | 98 => ⟨S2x40x27648, .f32⟩
  | 99 => ⟨S2x40x27648, .f32⟩
  | 100 => ⟨S_, .f32⟩
  | 101 => ⟨S2x40x27648, .f32⟩
  | 102 => ⟨S2x40x27648, .f32⟩
  | 103 => ⟨S2x40x1x27648, .f32⟩
  | 104 => ⟨S2x40x1x27648, .f32⟩
  | 105 => ⟨S2x40x64x27648, .f32⟩
  | 106 => ⟨S2x40x64x27648, .f32⟩
  | 107 => ⟨S2x40x64x27648, .f32⟩
  | 108 => ⟨S2x40x64x27648, .f32⟩
  | 109 => ⟨S2x40x64x27648, .f32⟩
  | 110 => ⟨S_, .f32⟩
  | 111 => ⟨S_, .f32⟩
  | 112 => ⟨S_, .f32⟩
  | 113 => ⟨S2x40x64x27648, .f32⟩
  | 114 => ⟨S2x40x64x27648, .f32⟩
  | 115 => ⟨S_, .f32⟩
  | 116 => ⟨S2x40x64x27648, .f32⟩
  | 117 => ⟨S2x40x64x27648, .f32⟩
  | 118 => ⟨S2x40x64x27648, .i32⟩
  | 119 => ⟨S2x40x64x27648, .f32⟩
  | 120 => ⟨S2x40x64x27648, .f32⟩
  | 121 => ⟨S2x40x64x27648, .f32⟩
  | 122 => ⟨S2x40x64x27648, .f32⟩
  | 123 => ⟨S2x40x64x27648, .f32⟩
  | 124 => ⟨S_, .f32⟩
  | 125 => ⟨S_, .f32⟩
  | 126 => ⟨S_, .f32⟩
  | 127 => ⟨S2x40x64x27648, .f32⟩
  | _ => ⟨S2x2560x27648, .i8⟩

abbrev hbmTy0_1 (i : Nat) : BufTy := match i % 128 with
  | 0 => ⟨S2x40x64x27648, .f32⟩
  | 1 => ⟨S_, .f32⟩
  | 2 => ⟨S2x40x64x27648, .f32⟩
  | 3 => ⟨S2x40x64x27648, .f32⟩
  | 4 => ⟨S2x40x64x27648, .i32⟩
  | 5 => ⟨S_, .i32⟩
  | 6 => ⟨S2x40x64x27648, .i32⟩
  | 7 => ⟨S2x40x64x27648, .i32⟩
  | 8 => ⟨S_, .i32⟩
  | 9 => ⟨S2x40x64x27648, .i32⟩
  | 10 => ⟨S2x40x64x27648, .i32⟩
  | 11 => ⟨S_, .i32⟩
  | 12 => ⟨S2x40x64x27648, .i32⟩
  | 13 => ⟨S2x40x64x27648, .i32⟩
  | 14 => ⟨S2x40x64x27648, .i32⟩
  | 15 => ⟨S2x40x64x27648, .i8⟩
  | 16 => ⟨S2x2560x27648, .i8⟩
  | 17 => ⟨S2x40x27648, .i32⟩
  | 18 => ⟨S2x40x27648, .i8⟩
  | _ => ⟨S2x2560x27648, .i8⟩

abbrev hbmTy (i : Nat) : BufTy := match i / 128 with
  | 0 => hbmTy0_0 i
  | 1 => hbmTy0_1 i
  | _ => ⟨S2x2560x27648, .i8⟩

abbrev bufTy : (tb : Table) → Fin (tcTables nBuf tb) → BufTy
  | .hbm, ⟨i, _⟩ => hbmTy i
  | _, _ => ⟨S2x2560x27648, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_1 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_call0_v0 : Ref sig .tc := ⟨.hbm, 59, rfl⟩
abbrev main_call0_v1 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_call1_v0 : Ref sig .tc := ⟨.hbm, 87, rfl⟩
abbrev main_call1_v1 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_12 : Ref sig .tc := ⟨.hbm, 95, rfl⟩
abbrev main_cst_13 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_14 : Ref sig .tc := ⟨.hbm, 110, rfl⟩
abbrev main_cst_15 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_16 : Ref sig .tc := ⟨.hbm, 124, rfl⟩
abbrev main_cst_17 : Ref sig .tc := ⟨.hbm, 125, rfl⟩
abbrev main_call7_v0 : Ref sig .tc := ⟨.hbm, 126, rfl⟩
abbrev main_call7_v1 : Ref sig .tc := ⟨.hbm, 127, rfl⟩
abbrev main_call7_v2 : Ref sig .tc := ⟨.hbm, 128, rfl⟩
abbrev main_call7_v3 : Ref sig .tc := ⟨.hbm, 129, rfl⟩
abbrev main_call7_v4 : Ref sig .tc := ⟨.hbm, 130, rfl⟩
abbrev main_v86 : Ref sig .tc := ⟨.hbm, 131, rfl⟩
abbrev main_v87 : Ref sig .tc := ⟨.hbm, 132, rfl⟩
abbrev main_c_18 : Ref sig .tc := ⟨.hbm, 133, rfl⟩
abbrev main_v88 : Ref sig .tc := ⟨.hbm, 134, rfl⟩
abbrev main_v89 : Ref sig .tc := ⟨.hbm, 135, rfl⟩
abbrev main_c_19 : Ref sig .tc := ⟨.hbm, 136, rfl⟩
abbrev main_v90 : Ref sig .tc := ⟨.hbm, 137, rfl⟩
abbrev main_v91 : Ref sig .tc := ⟨.hbm, 138, rfl⟩
abbrev main_c_20 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩

abbrev nD : Nat := 1
abbrev τ : Topo := Topo.v7x

variable {F : FTy → Type} [FloatOps F]
-- ==== Proof.KernelFrame.Runs.lean ====
/- The kernel's frame: its host part up to the one region, the contents the arrays have there, the blocks a point reads, and what
   the two cases of the body share. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.OwnFrame

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 54) — by arithmetic of the point. -/
theorem hcond0_0 : ∀ t : Fin cfg0.N, cond0_0 (grid0.coords t) ↔ t.val % 54 = 0 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 1 % 54 := Pipeline.Grid.coords_val t 1 (by decide) rfl
    simp only [cond0_0, e0, e1]
    word_cmp
   : ∀ t : Fin grid0.N, cond0_0 (grid0.coords t) ↔ t.val % 54 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x2560x512 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x40x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x40x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5120x96 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x96x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2560x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x40x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x40x512 .i8 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S5120x128 .bf16 := Memref.whole cc0_scratch0
abbrev scM0_1 : Memref sig .tc .vmem S256x512 .bf16 := Memref.whole cc0_scratch1
abbrev scM0_2 : Memref sig .tc .vmem S40x512 .f32 := Memref.whole cc0_scratch2
abbrev scM0_3 : Memref sig .tc .vmem S5120x512 .f32 := Memref.whole cc0_scratch3
abbrev scM0_4 : Memref sig .tc .vmem S4x320x128 .f32 := Memref.whole cc0_scratch4
abbrev scM0_5 : Memref sig .tc .vmem S4x320x128 .f32 := Memref.whole cc0_scratch5
abbrev scM0_6 : Memref sig .tc .vmem S40x512 .f32 := Memref.whole cc0_scratch6
abbrev scM0_7 : Memref sig .tc .vmem S40x512 .i32 := Memref.whole cc0_scratch7
abbrev scM0_8 : Memref sig .tc .vmem S40x512 .i32 := Memref.whole cc0_scratch8
abbrev scM0_9 : Memref sig .tc .vmem S40x512 .i32 := Memref.whole cc0_scratch9
/-- The scratch `arg11` the kernel carries between points, as a view: what it holds is stated through it. -/
abbrev VS0_0 : View sig .tc .vmem S5120x128 .bf16 := scM0_0.view
/-- The scratch `arg12` the kernel carries between points, as a view: what it holds is stated through it. -/
abbrev VS0_1 : View sig .tc .vmem S256x512 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.Kernel.OwnFrame

end
-- ==== Proof.KernelFrame.RunA.lean ====
/- The kernel's frame: the body run at a point where its first condition holds. -/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.OwnFrame

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1640000 in set_option sl_exec.squeezeSlice true in
/-- What the body's stores leave in each output's staging memref, as pieces (last first) IN CASE A (`scf.if` 0 taken: points 0, 54), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8) at anything, handed back at some contents nothing names. -/
noncomputable def kernelRun0_A (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (hc0 : cond0_0 i)
    (x0 : Vec F S1x2560x512 .i8) (x1 : Vec F S1x40x512 .bf16) (x2 : Vec F S1x40x512 .i8) (x3 : Vec F S1x5120x96 .bf16) (x4 : Vec F S1x96x512 .bf16) (x5 : Vec F S1x1x512 .bf16) :
    Σ' (LS0 : List (View.Piece (Elt F) S5120x128 .bf16)), { LS1 : List (View.Piece (Elt F) S256x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_dora_requant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun E K => ?run⟩
  case run =>
    simp only [cc0_dora_requant_eq_skeleton]; unfold cc0_dora_requant_skel
    simp only [k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    iexists _, _; isplitr; swap; · iexact HS9
    ipureintro; rfl

end Cert.Kernel.OwnFrame

end
-- ==== Proof.KernelFrame.RunB.lean ====
/- The kernel's frame: the body run at a point where its first condition does not hold. -/
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.OwnFrame

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in set_option sl_exec.squeezeSlice true in
/-- What the body's stores leave in each output's staging memref, as pieces (last first) IN CASE B (`scf.if` 0 not taken: points 1, 2, … 107: 106 of 108), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8) at anything, handed back at some contents nothing names. -/
noncomputable def kernelRun0_B (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (hc0 : ¬cond0_0 i)
    (x0 : Vec F S1x2560x512 .i8) (x1 : Vec F S1x40x512 .bf16) (x2 : Vec F S1x40x512 .i8) (x3 : Vec F S1x5120x96 .bf16) (x4 : Vec F S1x96x512 .bf16) (x5 : Vec F S1x1x512 .bf16) (xs0 : Vec F S5120x128 .bf16) (xs1 : Vec F S256x512 .bf16) :
    Σ' (LS0 : List (View.Piece (Elt F) S5120x128 .bf16)), { LS1 : List (View.Piece (Elt F) S256x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (arg12.view.loc (c : Thread nD τ) ↦[arg12.view.set]{fullShare} arg12.view.writes (Elt F) (harg12.unread xs1) LS1) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_dora_requant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨[], ?_, fun E K => ?run⟩
  case run =>
    simp only [cc0_dora_requant_eq_skeleton]; unfold cc0_dora_requant_skel
    simp only [k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg12.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _; isplitr; · ipureintro; exact harg11.read_unread _
      iexact HS0
    isplitl [HS1]; · iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    iexists _, _; isplitr; swap; · iexact HS9
    ipureintro; rfl

end Cert.Kernel.OwnFrame

end
-- ==== Proof.KernelFrame.Frame.lean ====
/- The kernel's frame: the proof data with the outputs unnamed, the body obligation, the run, and the claim that it ends with its
   arguments unchanged and every semaphore counter at zero. -/
module

public import proofs.«01_k».proof.Proof.KernelFrame.RunB
public import Idealize.ShloMosaic.Lib.Claim

@[expose] public section

-- membership in a rectangle of production extents (`View.cover_of_tiled`): the elaborator's structural look
-- recurses once per coordinate of the long axes
set_option maxRecDepth 16384

noncomputable section

namespace Cert.Kernel.OwnFrame

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg11`, which the kernel carries between points, cover it: one of them a store of the WHOLE buffer (Lib/Ring.lean `sl_whole_mem`). -/
theorem scover0_A_0 (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (hc0 : cond0_0 i)
    (x0 : Vec F S1x2560x512 .i8) (x1 : Vec F S1x40x512 .bf16) (x2 : Vec F S1x40x512 .i8) (x3 : Vec F S1x5120x96 .bf16) (x4 : Vec F S1x96x512 .bf16) (x5 : Vec F S1x1x512 .bf16) (y : S5120x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5).1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5).1 (by sl_whole_mem) y

/-- What case A leaves in scratch `arg11`: its pieces read back over junk. -/
def sout0_A_0 (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (hc0 : cond0_0 i)
    (x0 : Vec F S1x2560x512 .i8) (x1 : Vec F S1x40x512 .bf16) (x2 : Vec F S1x40x512 .i8) (x3 : Vec F S1x5120x96 .bf16) (x4 : Vec F S1x96x512 .bf16) (x5 : Vec F S1x1x512 .bf16) : Vec F S5120x128 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5).1)

/-- Case A's pieces for scratch `arg12`, which the kernel carries between points, cover it: one of them a store of the WHOLE buffer (Lib/Ring.lean `sl_whole_mem`). -/
theorem scover0_A_1 (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (hc0 : cond0_0 i)
    (x0 : Vec F S1x2560x512 .i8) (x1 : Vec F S1x40x512 .bf16) (x2 : Vec F S1x40x512 .i8) (x3 : Vec F S1x5120x96 .bf16) (x4 : Vec F S1x96x512 .bf16) (x5 : Vec F S1x1x512 .bf16) (y : S256x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5).2.1 (by sl_whole_mem) y

/-- What case A leaves in scratch `arg12`: its pieces read back over junk. -/
def sout0_A_1 (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (hc0 : cond0_0 i)
    (x0 : Vec F S1x2560x512 .i8) (x1 : Vec F S1x40x512 .bf16) (x2 : Vec F S1x40x512 .i8) (x3 : Vec F S1x5120x96 .bf16) (x4 : Vec F S1x96x512 .bf16) (x5 : Vec F S1x1x512 .bf16) : Vec F S256x512 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5).2.1)

/-- Case B stores nothing into scratch `arg11`: it holds what the point before left. -/
def sout0_B_0 (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (hc0 : ¬cond0_0 i)
    (x0 : Vec F S1x2560x512 .i8) (x1 : Vec F S1x40x512 .bf16) (x2 : Vec F S1x40x512 .i8) (x3 : Vec F S1x5120x96 .bf16) (x4 : Vec F S1x96x512 .bf16) (x5 : Vec F S1x1x512 .bf16) (xs0 : Vec F S5120x128 .bf16) (xs1 : Vec F S256x512 .bf16) : Vec F S5120x128 .bf16 := xs0

/-- What case B leaves in scratch `arg12`: its pieces (stores, a counted loop's segment) read back over what the point before left there, which it read first. -/
def sout0_B_1 (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (hc0 : ¬cond0_0 i)
    (x0 : Vec F S1x2560x512 .i8) (x1 : Vec F S1x40x512 .bf16) (x2 : Vec F S1x40x512 .i8) (x3 : Vec F S1x5120x96 .bf16) (x4 : Vec F S1x96x512 .bf16) (x5 : Vec F S1x1x512 .bf16) (xs0 : Vec F S5120x128 .bf16) (xs1 : Vec F S256x512 .bf16) : Vec F S256x512 .bf16 :=
  arg12.view.read (Elt F) (arg12.view.writes (Elt F) (harg12.unread xs1) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 xs0 xs1).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S5120x128 .bf16 × Vec F S256x512 .bf16
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 54 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 54 = 0) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 54 = 0) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  cases n with
  | zero => exact absurd rfl hz
  | succ n => rfl

/-! ## The pipeline's proof data -/

/-- The output windows this certificate FORGETS (6, 7, 8): nothing reads what the kernel leaves in them, so nothing
    of it is named (Lib/Pipeline/Dat.lean `Dat.toRForget`). -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 108 := lt_of_lt_of_eq t.isLt (show cfg0.N = 108 from N_0)
  by_cases h0 : t.val % 54 = 0
  · by_cases hz : t.val = 0
    · rw [PhiS_castSucc m c t, PhiS_zero m c _ _ hz, PhiA0_eq]
      rw [outsAt0_A m c t h0]
      unfold sout0_A_0 sout0_A_1; (try dsimp only)
      iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iintro ⟨H0, H1, H2, H3, H4, H5, H6, H7, H8, ⟨%es0, HS0⟩, ⟨%es1, HS1⟩, HS2, HS3, HS4, HS5, HS6, HS7, HS8, HS9⟩
      isplitl [HS0 HS1 HS2 HS3 HS4 HS5 HS6 HS7 HS8 HS9 Hg]
      · isplitl [HS0 HS1 HS2 HS3 HS4 HS5 HS6 HS7 HS8 HS9]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _)
          isplitl [HS2]
          · iexact HS2
          isplitl [HS3]
          · iexact HS3
          isplitl [HS4]
          · iexact HS4
          isplitl [HS5]
          · iexact HS5
          isplitl [HS6]
          · iexact HS6
          isplitl [HS7]
          · iexact HS7
          isplitl [HS8]
          · iexact HS8
          iexact HS9
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [PhiS_castSucc m c t, PhiS_pos m c _ _ hz]
      rw [outsAt0_A m c t h0]
      unfold sout0_A_0 sout0_A_1; (try dsimp only)
      iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexists _; iexact HS0
      isplitl [HS1]; · iexists _; iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iintro ⟨H0, H1, H2, H3, H4, H5, H6, H7, H8, ⟨%es0, HS0⟩, ⟨%es1, HS1⟩, HS2, HS3, HS4, HS5, HS6, HS7, HS8, HS9⟩
      isplitl [HS0 HS1 HS2 HS3 HS4 HS5 HS6 HS7 HS8 HS9 Hg]
      · isplitl [HS0 HS1 HS2 HS3 HS4 HS5 HS6 HS7 HS8 HS9]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _)
          isplitl [HS2]
          · iexact HS2
          isplitl [HS3]
          · iexact HS3
          isplitl [HS4]
          · iexact HS4
          isplitl [HS5]
          · iexact HS5
          isplitl [HS6]
          · iexact HS6
          isplitl [HS7]
          · iexact HS7
          isplitl [HS8]
          · iexact HS8
          iexact HS9
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · by_cases hz : t.val = 0
    · exfalso; have hN : t.val < 108 := lt_of_lt_of_eq t.isLt (show cfg0.N = 108 from N_0); omega
    · rw [PhiS_castSucc m c t, PhiS_pos m c _ _ hz]
      rw [outsAt0_B m c t h0]
      unfold sout0_B_0 sout0_B_1; (try dsimp only)
      iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iintro ⟨H0, H1, H2, H3, H4, H5, H6, H7, H8, HS0, HS1, HS2, HS3, HS4, HS5, HS6, HS7, HS8, HS9⟩
      isplitl [HS0 HS1 HS2 HS3 HS4 HS5 HS6 HS7 HS8 HS9 Hg]
      · isplitl [HS0 HS1 HS2 HS3 HS4 HS5 HS6 HS7 HS8 HS9]
        · isplitl [HS0]
          · iexact HS0
          isplitl [HS1]
          · unfold owns; iexists _; isplitr
            swap; · iexact HS1
            ipureintro; rfl
          isplitl [HS2]
          · iexact HS2
          isplitl [HS3]
          · iexact HS3
          isplitl [HS4]
          · iexact HS4
          isplitl [HS5]
          · iexact HS5
          isplitl [HS6]
          · iexact HS6
          isplitl [HS7]
          · iexact HS7
          isplitl [HS8]
          · iexact HS8
          iexact HS9
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9⟩, Hg⟩
  isplitl [HS0 HS1 HS2 HS3 HS4 HS5 HS6 HS7 HS8 HS9]
  · isplitl [HS0]
    · iexists _; iexact HS0
    isplitl [HS1]
    · iexists _; iexact HS1
    isplitl [HS2]
    · iexact HS2
    isplitl [HS3]
    · iexact HS3
    isplitl [HS4]
    · iexact HS4
    isplitl [HS5]
    · iexact HS5
    isplitl [HS6]
    · iexact HS6
    isplitl [HS7]
    · iexact HS7
    isplitl [HS8]
    · iexact HS8
    iexact HS9
  iexact Hg

/-- The same after the last point. -/
theorem hout (c : Dev nD) : (dats m 0 c).Φ (Fin.last cfg0.N) ⊢ Pipeline.ΦA spec0 c :=
  Phi_out m c _ (by rw [Fin.val_last]; have : cfg0.N = 108 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The frame, at any floats: the program runs, its argument arrays end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.OwnFrame

end
-- ==== Proof.Tile.lean ====
/- One group of the first loop, as functions of vectors. -/
module

public import proofs.«01_k».proof.Proof.Gen.KernelIdeal.Loops
public import Idealize.ShloMosaic.Lib.Pointwise

@[expose] public section

set_option maxRecDepth 16384

noncomputable section

namespace Cert.KernelIdeal.Own

open Cert.KernelIdeal.Gen
open Idealize.ShloMosaic Idealize.ShloMosaic.TcCoe Idealize.ShloMosaic.Tactic

variable {F : FTy → Type} [FloatOps F]

/-- The number of group `w` of trip `k`, as the kernel computes it. -/
abbrev cWord (k : Fin k0_t1_loop.trips) (w : BitVec 32) : BitVec 32 := Scalar.addi (Scalar.muli (Scf.iv 0#32 1#32 k) 8#32) w

/-- The left factor's tile: a block of rows of `lora_a` beside the one-hot columns of group `g`. -/
def cLhs (v35 : IVec S128x128 32) (g : BitVec 32) (a : FVec F S128x128 .bf16) : FVec F S128x256 .bf16 :=
  concatenate S128x256 1 [⟨S128x128, a⟩, ⟨S128x128, truncf .bf16
    (select (ori (cmpi .eq v35 (broadcast S128x128 g)) (cmpi .eq v35 (broadcast S128x128 (Scalar.addi g 64#32))))
      (broadcast S128x128 (FloatOps.ofBits .f32 0x3F800000#32)) (broadcast S128x128 (FloatOps.ofBits .f32 0x00000000#32))) bitsLt_bf16_f32⟩]
    concatenates_S128x128_S128x128_S128x256_d1

/-- The product of the tile with 256 columns of the right factor. -/
def cD (l : FVec F S128x256 .bf16) (b : FVec F S256x256 .bf16) : FVec F S128x256 .f32 :=
  matmul dot_S128x256_S256x256_S128x256_1_0_0_1_n_n none l b (constant S128x256 .f32 0x00000000#32)

/-- The 64 codes of 32 packed rows. -/
def cUnp (C : IVec S1x32x128 8) : FVec F S64x128 .f32 :=
  extf .f32 (sitofp .bf16 (shapeCast S64x128 (concatenate S32x2x128 1
    [⟨S32x1x128, shapeCast S32x1x128 (andi (extui 32 (shapeCast S32x128 C shapeCasts_S1x32x128_S32x128) natLt_8_32) (broadcast S32x128 15#32)) shapeCasts_S32x128_S32x1x128⟩,
     ⟨S32x1x128, shapeCast S32x1x128 (shrui (extui 32 (shapeCast S32x128 C shapeCasts_S1x32x128_S32x128) natLt_8_32) (broadcast S32x128 4#32)) shapeCasts_S32x128_S32x1x128⟩]
    concatenates_S32x1x128_S32x1x128_S32x2x128_d1) shapeCasts_S32x2x128_S64x128) : FVec F S64x128 .bf16) bitsLt_bf16_f32

/-- 64 rows of a lane tile of the direction matrix. -/
def cV (d : FVec F S128x256 .f32) (s : FVec F S1x128 .f32) (C : IVec S1x32x128 8) (off : Fin 2 → Nat) (h : S128x256.Slices off S64x128) :
    FVec F S64x128 .f32 :=
  addf (mulf (cUnp C) (broadcastTo S64x128 s broadcasts_S1x128_S64x128)) (extractStridedSlice S64x128 off d h)

/-- Eight slices of eight rows. -/
def cPart (v : FVec F S64x128 .f32) : Fin 8 → FVec F S8x128 .f32
  | 0 => extractStridedSlice S8x128 ![0, 0] v slices_S64x128_o0_0_S8x128
  | 1 => extractStridedSlice S8x128 ![8, 0] v slices_S64x128_o8_0_S8x128
  | 2 => extractStridedSlice S8x128 ![16, 0] v slices_S64x128_o16_0_S8x128
  | 3 => extractStridedSlice S8x128 ![24, 0] v slices_S64x128_o24_0_S8x128
  | 4 => extractStridedSlice S8x128 ![32, 0] v slices_S64x128_o32_0_S8x128
  | 5 => extractStridedSlice S8x128 ![40, 0] v slices_S64x128_o40_0_S8x128
  | 6 => extractStridedSlice S8x128 ![48, 0] v slices_S64x128_o48_0_S8x128
  | 7 => extractStridedSlice S8x128 ![56, 0] v slices_S64x128_o56_0_S8x128

/-- The running minimum of the sixteen slices. -/
def cMin (v u : FVec F S64x128 .f32) : FVec F S8x128 .f32 :=
  minimumf (minimumf (minimumf (minimumf (minimumf (minimumf (minimumf (minimumf (minimumf (minimumf (minimumf (minimumf (minimumf (minimumf (minimumf
    (cPart v 0) (cPart v 1)) (cPart v 2)) (cPart v 3)) (cPart v 4)) (cPart v 5)) (cPart v 6)) (cPart v 7))
    (cPart u 0)) (cPart u 1)) (cPart u 2)) (cPart u 3)) (cPart u 4)) (cPart u 5)) (cPart u 6)) (cPart u 7)

/-- The running maximum of the sixteen slices. -/
def cMax (v u : FVec F S64x128 .f32) : FVec F S8x128 .f32 :=
  maximumf (maximumf (maximumf (maximumf (maximumf (maximumf (maximumf (maximumf (maximumf (maximumf (maximumf (maximumf (maximumf (maximumf (maximumf
    (cPart v 0) (cPart v 1)) (cPart v 2)) (cPart v 3)) (cPart v 4)) (cPart v 5)) (cPart v 6)) (cPart v 7))
    (cPart u 0)) (cPart u 1)) (cPart u 2)) (cPart u 3)) (cPart u 4)) (cPart u 5)) (cPart u 6)) (cPart u 7)

/-- One slice's square added to the running sum. -/
abbrev cSq1 (s x : FVec F S8x128 .f32) : FVec F S8x128 .f32 := addf s (mulf x x)

/-- The squares of sixteen slices added to the running sum. -/
def cSq (s : FVec F S8x128 .f32) (v u : FVec F S64x128 .f32) : FVec F S8x128 .f32 :=
  cSq1 (cSq1 (cSq1 (cSq1 (cSq1 (cSq1 (cSq1 (cSq1 (cSq1 (cSq1 (cSq1 (cSq1 (cSq1 (cSq1 (cSq1 (cSq1 s
    (cPart v 0)) (cPart v 1)) (cPart v 2)) (cPart v 3)) (cPart v 4)) (cPart v 5)) (cPart v 6)) (cPart v 7))
    (cPart u 0)) (cPart u 1)) (cPart u 2)) (cPart u 3)) (cPart u 4)) (cPart u 5)) (cPart u 6)) (cPart u 7)

end Cert.KernelIdeal.Own
end
-- ==== Proof.Trip.lean ====
/- What one trip of the first loop stores, listed: eight groups, four lane tiles, two halves of a group. -/
module

public import proofs.«01_k».proof.Proof.Tile

@[expose] public section

set_option maxRecDepth 16384

noncomputable section

namespace Cert.KernelIdeal.Own

open Cert.KernelIdeal.Gen
open Idealize.ShloMosaic Idealize.ShloMosaic.TcCoe Idealize.ShloMosaic.Tactic

variable {F : FTy → Type} [FloatOps F]

/-- The word of a group within a trip. -/
abbrev wG (r : Fin 8) : BitVec 32 := BitVec.ofNat 32 r.val
/-- The row offset of a half of a group, in rows. -/
abbrev wQ (q : Fin 2) : BitVec 32 := BitVec.ofNat 32 (64 * q.val)
/-- The row offset of a half of a group, in packed rows. -/
abbrev wP (q : Fin 2) : BitVec 32 := BitVec.ofNat 32 (32 * q.val)

/-- The store of lane tile `j` of half `q` of group `r` in the direction matrix. -/
def oV (v : FVec F S64x128 .f32) : Fin 4 → Fin k0_t1_loop.trips → Fin 8 → Fin 2 → View.Piece (Elt F) S5120x512 .f32
  | 0, k, r, q => ⟨Rect.unit (s:=S5120x512) (k0_off4 k (wG r) (wQ q)) S64x128.size (k0_off4_inb k r q), shapeCast S64x128 v shapeCasts_S64x128_S64x128⟩
  | 1, k, r, q => ⟨Rect.unit (s:=S5120x512) (k0_off8 k (wG r) (wQ q)) S64x128.size (k0_off8_inb k r q), shapeCast S64x128 v shapeCasts_S64x128_S64x128⟩
  | 2, k, r, q => ⟨Rect.unit (s:=S5120x512) (k0_off12 k (wG r) (wQ q)) S64x128.size (k0_off12_inb k r q), shapeCast S64x128 v shapeCasts_S64x128_S64x128⟩
  | 3, k, r, q => ⟨Rect.unit (s:=S5120x512) (k0_off16 k (wG r) (wQ q)) S64x128.size (k0_off16_inb k r q), shapeCast S64x128 v shapeCasts_S64x128_S64x128⟩

/-- The store of the minima or maxima of lane tile `j` of group `r`. -/
def oM (v : FVec F S8x128 .f32) : Fin 4 → Fin k0_t1_loop.trips → Fin 8 → View.Piece (Elt F) S4x320x128 .f32
  | 0, k, r => ⟨Rect.unit (s:=S4x320x128) (k0_off5 k (wG r)) S1x8x128.size (k0_off5_inb k r), shapeCast S1x8x128 v shapeCasts_S8x128_S1x8x128⟩
  | 1, k, r => ⟨Rect.unit (s:=S4x320x128) (k0_off9 k (wG r)) S1x8x128.size (k0_off9_inb k r), shapeCast S1x8x128 v shapeCasts_S8x128_S1x8x128⟩
  | 2, k, r => ⟨Rect.unit (s:=S4x320x128) (k0_off13 k (wG r)) S1x8x128.size (k0_off13_inb k r), shapeCast S1x8x128 v shapeCasts_S8x128_S1x8x128⟩
  | 3, k, r => ⟨Rect.unit (s:=S4x320x128) (k0_off17 k (wG r)) S1x8x128.size (k0_off17_inb k r), shapeCast S1x8x128 v shapeCasts_S8x128_S1x8x128⟩

/-- The scale row of group `r` within the eight rows of the trip. -/
theorem row_inb : ∀ r : Fin 8, ∀ a, (![r.val, 0] : Fin 2 → Nat) a + S1x128.size a ≤ S8x128.size a := by decide

/-- The product of a group's rows with the left or right 256 columns. -/
def tD (arg11 : Memref sig .tc .vmem S5120x128 .bf16) (arg12 : Memref sig .tc .vmem S256x512 .bf16) (v35 : IVec S128x128 32) (X11 : BufTy.Contents (Elt F) arg11.view.ty) (X12 : BufTy.Contents (Elt F) arg12.view.ty) (k : Fin k0_t1_loop.trips) (r : Fin 8) (off : Fin 2 → Nat) (h : ∀ a, off a + S256x256.size a ≤ S256x512.size a) : FVec F S128x256 .f32 :=
  cD (cLhs v35 (cWord k (wG r)) (View.readAt (Elt F) arg11.view (Rect.unit (s:=S5120x128) (k0_off1 k (wG r)) S128x128.size (k0_off1_inb k r)).toLoadRect X11))
    (View.readAt (Elt F) arg12.view (Rect.unit (s:=S256x512) off S256x256.size h).toLoadRect X12)

/-- One lane tile of half a group of the direction matrix, as the kernel computes it. -/
def tV (arg2 : Memref sig .tc .vmem S1x2560x512 .i8) (arg11 : Memref sig .tc .vmem S5120x128 .bf16) (arg12 : Memref sig .tc .vmem S256x512 .bf16) (arg13 : Memref sig .tc .vmem S40x512 .f32) (v35 : IVec S128x128 32) (X2 : BufTy.Contents (Elt F) arg2.view.ty) (X11 : BufTy.Contents (Elt F) arg11.view.ty) (X12 : BufTy.Contents (Elt F) arg12.view.ty) (X13 : BufTy.Contents (Elt F) arg13.view.ty) (k : Fin k0_t1_loop.trips) (r : Fin 8) : Fin 4 → Fin 2 → FVec F S64x128 .f32
  | 0, 0 => cV (tD arg11 arg12 v35 X11 X12 k r ![0, 0] inb_S256x512_S256x256_0_0)
      (View.readAt (Elt F) arg13.view ((Rect.unit (s:=S40x512) (k0_off2 k) S8x128.size (k0_off2_inb k)).withinL (Rect.unit (s:=S8x128) ![r.val, 0] S1x128.size (row_inb r)).toLoadRect (fun _ => rfl)) X13)
      (View.readAt (Elt F) arg2.view (Rect.unit (s:=S1x2560x512) (k0_off3 k (wG r) (wP 0)) S1x32x128.size (k0_off3_inb k r 0)).toLoadRect X2)
      ![0, 0] slices_S128x256_o0_0_S64x128
  | 0, 1 => cV (tD arg11 arg12 v35 X11 X12 k r ![0, 0] inb_S256x512_S256x256_0_0)
      (View.readAt (Elt F) arg13.view ((Rect.unit (s:=S40x512) (k0_off2 k) S8x128.size (k0_off2_inb k)).withinL (Rect.unit (s:=S8x128) ![r.val, 0] S1x128.size (row_inb r)).toLoadRect (fun _ => rfl)) X13)
      (View.readAt (Elt F) arg2.view (Rect.unit (s:=S1x2560x512) (k0_off3 k (wG r) (wP 1)) S1x32x128.size (k0_off3_inb k r 1)).toLoadRect X2)
      ![64, 0] slices_S128x256_o64_0_S64x128
  | 1, 0 => cV (tD arg11 arg12 v35 X11 X12 k r ![0, 0] inb_S256x512_S256x256_0_0)
      (View.readAt (Elt F) arg13.view ((Rect.unit (s:=S40x512) (k0_off6 k) S8x128.size (k0_off6_inb k)).withinL (Rect.unit (s:=S8x128) ![r.val, 0] S1x128.size (row_inb r)).toLoadRect (fun _ => rfl)) X13)
      (View.readAt (Elt F) arg2.view (Rect.unit (s:=S1x2560x512) (k0_off7 k (wG r) (wP 0)) S1x32x128.size (k0_off7_inb k r 0)).toLoadRect X2)
      ![0, 128] slices_S128x256_o0_128_S64x128
  | 1, 1 => cV (tD arg11 arg12 v35 X11 X12 k r ![0, 0] inb_S256x512_S256x256_0_0)
      (View.readAt (Elt F) arg13.view ((Rect.unit (s:=S40x512) (k0_off6 k) S8x128.size (k0_off6_inb k)).withinL (Rect.unit (s:=S8x128) ![r.val, 0] S1x128.size (row_inb r)).toLoadRect (fun _ => rfl)) X13)
      (View.readAt (Elt F) arg2.view (Rect.unit (s:=S1x2560x512) (k0_off7 k (wG r) (wP 1)) S1x32x128.size (k0_off7_inb k r 1)).toLoadRect X2)
      ![64, 128] slices_S128x256_o64_128_S64x128
  | 2, 0 => cV (tD arg11 arg12 v35 X11 X12 k r ![0, 256] inb_S256x512_S256x256_0_256)
      (View.readAt (Elt F) arg13.view ((Rect.unit (s:=S40x512) (k0_off10 k) S8x128.size (k0_off10_inb k)).withinL (Rect.unit (s:=S8x128) ![r.val, 0] S1x128.size (row_inb r)).toLoadRect (fun _ => rfl)) X13)
      (View.readAt (Elt F) arg2.view (Rect.unit (s:=S1x2560x512) (k0_off11 k (wG r) (wP 0)) S1x32x128.size (k0_off11_inb k r 0)).toLoadRect X2)
      ![0, 0] slices_S128x256_o0_0_S64x128
  | 2, 1 => cV (tD arg11 arg12 v35 X11 X12 k r ![0, 256] inb_S256x512_S256x256_0_256)
      (View.readAt (Elt F) arg13.view ((Rect.unit (s:=S40x512) (k0_off10 k) S8x128.size (k0_off10_inb k)).withinL (Rect.unit (s:=S8x128) ![r.val, 0] S1x128.size (row_inb r)).toLoadRect (fun _ => rfl)) X13)
      (View.readAt (Elt F) arg2.view (Rect.unit (s:=S1x2560x512) (k0_off11 k (wG r) (wP 1)) S1x32x128.size (k0_off11_inb k r 1)).toLoadRect X2)
      ![64, 0] slices_S128x256_o64_0_S64x128
  | 3, 0 => cV (tD arg11 arg12 v35 X11 X12 k r ![0, 256] inb_S256x512_S256x256_0_256)
      (View.readAt (Elt F) arg13.view ((Rect.unit (s:=S40x512) (k0_off14 k) S8x128.size (k0_off14_inb k)).withinL (Rect.unit (s:=S8x128) ![r.val, 0] S1x128.size (row_inb r)).toLoadRect (fun _ => rfl)) X13)
      (View.readAt (Elt F) arg2.view (Rect.unit (s:=S1x2560x512) (k0_off15 k (wG r) (wP 0)) S1x32x128.size (k0_off15_inb k r 0)).toLoadRect X2)
      ![0, 128] slices_S128x256_o0_128_S64x128
  | 3, 1 => cV (tD arg11 arg12 v35 X11 X12 k r ![0, 256] inb_S256x512_S256x256_0_256)
      (View.readAt (Elt F) arg13.view ((Rect.unit (s:=S40x512) (k0_off14 k) S8x128.size (k0_off14_inb k)).withinL (Rect.unit (s:=S8x128) ![r.val, 0] S1x128.size (row_inb r)).toLoadRect (fun _ => rfl)) X13)
      (View.readAt (Elt F) arg2.view (Rect.unit (s:=S1x2560x512) (k0_off15 k (wG r) (wP 1)) S1x32x128.size (k0_off15_inb k r 1)).toLoadRect X2)
      ![64, 128] slices_S128x256_o64_128_S64x128

/-- The stores of the direction matrix in one trip, last first. -/
def tL14 (arg2 : Memref sig .tc .vmem S1x2560x512 .i8) (arg11 : Memref sig .tc .vmem S5120x128 .bf16) (arg12 : Memref sig .tc .vmem S256x512 .bf16) (arg13 : Memref sig .tc .vmem S40x512 .f32) (v35 : IVec S128x128 32) (X2 : BufTy.Contents (Elt F) arg2.view.ty) (X11 : BufTy.Contents (Elt F) arg11.view.ty) (X12 : BufTy.Contents (Elt F) arg12.view.ty) (X13 : BufTy.Contents (Elt F) arg13.view.ty) (k : Fin k0_t1_loop.trips) : List (View.Piece (Elt F) S5120x512 .f32) :=
  [7,6,5,4,3,2,1,0].flatMap fun r : Fin 8 => [3,2,1,0].flatMap fun j : Fin 4 => [1,0].map fun q : Fin 2 =>
    oV (tV arg2 arg11 arg12 arg13 v35 X2 X11 X12 X13 k r j q) j k r q

/-- The stores of the minima in one trip, last first. -/
def tL15 (arg2 : Memref sig .tc .vmem S1x2560x512 .i8) (arg11 : Memref sig .tc .vmem S5120x128 .bf16) (arg12 : Memref sig .tc .vmem S256x512 .bf16) (arg13 : Memref sig .tc .vmem S40x512 .f32) (v35 : IVec S128x128 32) (X2 : BufTy.Contents (Elt F) arg2.view.ty) (X11 : BufTy.Contents (Elt F) arg11.view.ty) (X12 : BufTy.Contents (Elt F) arg12.view.ty) (X13 : BufTy.Contents (Elt F) arg13.view.ty) (k : Fin k0_t1_loop.trips) : List (View.Piece (Elt F) S4x320x128 .f32) :=
  [7,6,5,4,3,2,1,0].flatMap fun r : Fin 8 => [3,2,1,0].map fun j : Fin 4 =>
    oM (cMin (tV arg2 arg11 arg12 arg13 v35 X2 X11 X12 X13 k r j 0) (tV arg2 arg11 arg12 arg13 v35 X2 X11 X12 X13 k r j 1)) j k r

/-- The stores of the maxima in one trip, last first. -/
def tL16 (arg2 : Memref sig .tc .vmem S1x2560x512 .i8) (arg11 : Memref sig .tc .vmem S5120x128 .bf16) (arg12 : Memref sig .tc .vmem S256x512 .bf16) (arg13 : Memref sig .tc .vmem S40x512 .f32) (v35 : IVec S128x128 32) (X2 : BufTy.Contents (Elt F) arg2.view.ty) (X11 : BufTy.Contents (Elt F) arg11.view.ty) (X12 : BufTy.Contents (Elt F) arg12.view.ty) (X13 : BufTy.Contents (Elt F) arg13.view.ty) (k : Fin k0_t1_loop.trips) : List (View.Piece (Elt F) S4x320x128 .f32) :=
  [7,6,5,4,3,2,1,0].flatMap fun r : Fin 8 => [3,2,1,0].map fun j : Fin 4 =>
    oM (cMax (tV arg2 arg11 arg12 arg13 v35 X2 X11 X12 X13 k r j 0) (tV arg2 arg11 arg12 arg13 v35 X2 X11 X12 X13 k r j 1)) j k r

/-- The running sum of squares of lane tile `j` after one trip. -/
def tR (arg2 : Memref sig .tc .vmem S1x2560x512 .i8) (arg11 : Memref sig .tc .vmem S5120x128 .bf16) (arg12 : Memref sig .tc .vmem S256x512 .bf16) (arg13 : Memref sig .tc .vmem S40x512 .f32) (v35 : IVec S128x128 32) (X2 : BufTy.Contents (Elt F) arg2.view.ty) (X11 : BufTy.Contents (Elt F) arg11.view.ty) (X12 : BufTy.Contents (Elt F) arg12.view.ty) (X13 : BufTy.Contents (Elt F) arg13.view.ty) (k : Fin k0_t1_loop.trips) (j : Fin 4) (s : FVec F S8x128 .f32) : FVec F S8x128 .f32 :=
  [0,1,2,3,4,5,6,7].foldl (fun s (r : Fin 8) => cSq s (tV arg2 arg11 arg12 arg13 v35 X2 X11 X12 X13 k r j 0) (tV arg2 arg11 arg12 arg13 v35 X2 X11 X12 X13 k r j 1)) s

set_option maxHeartbeats 4000000 in
theorem tL14_eq (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (v31 : FVec F S40x512 .bf16) (v35 : IVec S128x128 32) (X2 : BufTy.Contents (Elt F) arg2.view.ty) (X11 : BufTy.Contents (Elt F) arg11.view.ty) (X12 : BufTy.Contents (Elt F) arg12.view.ty) (X13 : BufTy.Contents (Elt F) arg13.view.ty) (k : Fin k0_t1_loop.trips) (acc) :
    (trip_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 v35 X2 X11 X12 X13 k).2.1 acc = tL14 arg2 arg11 arg12 arg13 v35 X2 X11 X12 X13 k := by
  unfold trip_k0_t1
  rfl

set_option maxHeartbeats 4000000 in
theorem tL15_eq (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (v31 : FVec F S40x512 .bf16) (v35 : IVec S128x128 32) (X2 : BufTy.Contents (Elt F) arg2.view.ty) (X11 : BufTy.Contents (Elt F) arg11.view.ty) (X12 : BufTy.Contents (Elt F) arg12.view.ty) (X13 : BufTy.Contents (Elt F) arg13.view.ty) (k : Fin k0_t1_loop.trips) (acc) :
    (trip_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 v35 X2 X11 X12 X13 k).2.2.1 acc = tL15 arg2 arg11 arg12 arg13 v35 X2 X11 X12 X13 k := by
  unfold trip_k0_t1
  rfl

set_option maxHeartbeats 4000000 in
theorem tL16_eq (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (v31 : FVec F S40x512 .bf16) (v35 : IVec S128x128 32) (X2 : BufTy.Contents (Elt F) arg2.view.ty) (X11 : BufTy.Contents (Elt F) arg11.view.ty) (X12 : BufTy.Contents (Elt F) arg12.view.ty) (X13 : BufTy.Contents (Elt F) arg13.view.ty) (k : Fin k0_t1_loop.trips) (acc) :
    (trip_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 v35 X2 X11 X12 X13 k).2.2.2.1 acc = tL16 arg2 arg11 arg12 arg13 v35 X2 X11 X12 X13 k := by
  unfold trip_k0_t1
  rfl

set_option maxHeartbeats 4000000 in
theorem tR_eq (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (v31 : FVec F S40x512 .bf16) (v35 : IVec S128x128 32) (X2 : BufTy.Contents (Elt F) arg2.view.ty) (X11 : BufTy.Contents (Elt F) arg11.view.ty) (X12 : BufTy.Contents (Elt F) arg12.view.ty) (X13 : BufTy.Contents (Elt F) arg13.view.ty) (k : Fin k0_t1_loop.trips) (acc) :
    (trip_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 v35 X2 X11 X12 X13 k).1 acc = (tR arg2 arg11 arg12 arg13 v35 X2 X11 X12 X13 k 0 acc.1, tR arg2 arg11 arg12 arg13 v35 X2 X11 X12 X13 k 1 acc.2.1,
      tR arg2 arg11 arg12 arg13 v35 X2 X11 X12 X13 k 2 acc.2.2.1, tR arg2 arg11 arg12 arg13 v35 X2 X11 X12 X13 k 3 acc.2.2.2) := by
  unfold trip_k0_t1
  rfl

end Cert.KernelIdeal.Own
end
-- ==== Proof.Trip2.lean ====
/- What one trip of the second loop stores: 64 codes of a lane tile at a time, packed in 32 rows. -/
module

public import proofs.«01_k».proof.Proof.Trip

@[expose] public section

set_option maxRecDepth 16384

noncomputable section

namespace Cert.KernelIdeal.Own

open Cert.KernelIdeal.Gen
open Idealize.ShloMosaic Idealize.ShloMosaic.TcCoe Idealize.ShloMosaic.Tactic

variable {F : FTy → Type} [FloatOps F]

/-- A row of words, each two equal bounds side by side, as sixteen rows of bounds. -/
def cBnd (w : IVec S1x128 32) : FVec F S16x128 .bf16 :=
  bitcastToFloat .bf16 (bitcast S16x128 16 (broadcastTo S8x128 (shapeCast S1x128 w shapeCasts_S1x128_S1x128) broadcasts_S1x128_S8x128) bitcasts_S8x128_w32_S16x128_w16)

/-- A row of words, each four equal zero points side by side, over eight rows. -/
def cZp (w : IVec S1x128 32) : IVec S8x128 32 := broadcastTo S8x128 (shapeCast S1x128 w shapeCasts_S1x128_S1x128) broadcasts_S1x128_S8x128

/-- The rounded products, moved into the sixteen bits of a float of exponent 2^7. -/
def cRnd (s : FVec F S1x128 .f32) (v : FVec F S64x128 .f32) : IVec S64x128 16 :=
  trunci 16 (addi (fptosi 32 (roundeven (mulf v (broadcastTo S64x128 s broadcasts_S1x128_S64x128)))) (broadcast S64x128 1258308416#32)) natLt_16_32

/-- The clamp, and the code's low byte. -/
def cClp (lo hi : FVec F S16x128 .bf16) (t : IVec S16x128 16) : IVec S16x128 16 :=
  trunci 16 (addi (fptosi 32 (extf .f32 (minimumf (maximumf (bitcastToFloat (F := F) .bf16 t) lo) hi) bitsLt_bf16_f32)) (broadcast S16x128 17024#32)) natLt_16_32

/-- The zero points added to the bytes of 32 rows. -/
def cByt (z : IVec S8x128 32) (x y : IVec S16x128 16) : IVec S32x128 8 :=
  bitcast S32x128 8 (addi (bitcast S8x128 32 (trunci 8 (concatenate S32x128 0 [⟨S16x128, x⟩, ⟨S16x128, y⟩] concatenates_S16x128_S16x128_S32x128_d0) natLt_8_16)
    bitcasts_S32x128_w8_S8x128_w32) z) bitcasts_S8x128_w32_S32x128_w8

/-- The 64 rows of bytes, paired. -/
def cAll (lo hi : FVec F S16x128 .bf16) (z : IVec S8x128 32) (t : IVec S64x128 16) : IVec S32x2x128 32 :=
  shapeCast S32x2x128 (extsi 32 (concatenate S64x128 0
    [⟨S32x128, cByt z (cClp lo hi (extractStridedSlice S16x128 ![0, 0] t slices_S64x128_o0_0_S16x128)) (cClp lo hi (extractStridedSlice S16x128 ![16, 0] t slices_S64x128_o16_0_S16x128))⟩,
     ⟨S32x128, cByt z (cClp lo hi (extractStridedSlice S16x128 ![32, 0] t slices_S64x128_o32_0_S16x128)) (cClp lo hi (extractStridedSlice S16x128 ![48, 0] t slices_S64x128_o48_0_S16x128))⟩]
    concatenates_S32x128_S32x128_S64x128_d0) natLt_8_32) shapeCasts_S64x128_S32x2x128

/-- Two codes packed in a byte. -/
def cPak (x : IVec S32x2x128 32) : IVec S1x32x128 8 :=
  shapeCast S1x32x128 (trunci 8 (ori
    (andi (shapeCast S32x128 (extractStridedSlice S32x1x128 ![0, 0, 0] x slices_S32x2x128_o0_0_0_S32x1x128) shapeCasts_S32x1x128_S32x128) (broadcast S32x128 15#32))
    (shli (andi (shapeCast S32x128 (extractStridedSlice S32x1x128 ![0, 1, 0] x slices_S32x2x128_o0_1_0_S32x1x128) shapeCasts_S32x1x128_S32x128) (broadcast S32x128 15#32)) (broadcast S32x128 4#32)))
    natLt_8_32) shapeCasts_S32x128_S1x32x128

/-- The packed codes of a lane tile of half a group. -/
def cCode (s : FVec F S1x128 .f32) (lo hi z : IVec S1x128 32) (v : FVec F S64x128 .f32) : IVec S1x32x128 8 :=
  cPak (cAll (F := F) (cBnd lo) (cBnd hi) (cZp z) (cRnd s v))

/-- The packed codes stored for lane tile `j` of half `q` of group `r`, with where they go. -/
def uC (arg14 : Memref sig .tc .vmem S5120x512 .f32) (arg17 : Memref sig .tc .vmem S40x512 .f32) (arg18 : Memref sig .tc .vmem S40x512 .i32) (arg19 : Memref sig .tc .vmem S40x512 .i32) (arg20 : Memref sig .tc .vmem S40x512 .i32) (X14 : BufTy.Contents (Elt F) arg14.view.ty) (X17 : BufTy.Contents (Elt F) arg17.view.ty) (X18 : BufTy.Contents (Elt F) arg18.view.ty) (X19 : BufTy.Contents (Elt F) arg19.view.ty) (X20 : BufTy.Contents (Elt F) arg20.view.ty) (k : Fin k0_t2_loop.trips) (r : Fin 8) : Fin 4 → Fin 2 → View.Piece (Elt F) S1x2560x512 .i8
  | 0, q => ⟨Rect.unit (s:=S1x2560x512) (k0_off20 k (wG r) (wP q)) S1x32x128.size (k0_off20_inb k r q),
      cCode (F := F) (View.readAt (Elt F) arg17.view ((Rect.unit (s:=S40x512) (k0_off18 k) S8x128.size (k0_off18_inb k)).withinL (Rect.unit (s:=S8x128) ![r.val, 0] S1x128.size (row_inb r)).toLoadRect (fun _ => rfl)) X17)
        (View.readAt (Elt F) arg18.view ((Rect.unit (s:=S40x512) (k0_off18 k) S8x128.size (k0_off18_inb k)).withinL (Rect.unit (s:=S8x128) ![r.val, 0] S1x128.size (row_inb r)).toLoadRect (fun _ => rfl)) X18)
        (View.readAt (Elt F) arg19.view ((Rect.unit (s:=S40x512) (k0_off18 k) S8x128.size (k0_off18_inb k)).withinL (Rect.unit (s:=S8x128) ![r.val, 0] S1x128.size (row_inb r)).toLoadRect (fun _ => rfl)) X19)
        (View.readAt (Elt F) arg20.view ((Rect.unit (s:=S40x512) (k0_off18 k) S8x128.size (k0_off18_inb k)).withinL (Rect.unit (s:=S8x128) ![r.val, 0] S1x128.size (row_inb r)).toLoadRect (fun _ => rfl)) X20)
        (View.readAt (Elt F) arg14.view (Rect.unit (s:=S5120x512) (k0_off19 k (wG r) (wQ q)) S64x128.size (k0_off19_inb k r q)).toLoadRect X14)⟩
  | 1, q => ⟨Rect.unit (s:=S1x2560x512) (k0_off23 k (wG r) (wP q)) S1x32x128.size (k0_off23_inb k r q),
      cCode (F := F) (View.readAt (Elt F) arg17.view ((Rect.unit (s:=S40x512) (k0_off21 k) S8x128.size (k0_off21_inb k)).withinL (Rect.unit (s:=S8x128) ![r.val, 0] S1x128.size (row_inb r)).toLoadRect (fun _ => rfl)) X17)
        (View.readAt (Elt F) arg18.view ((Rect.unit (s:=S40x512) (k0_off21 k) S8x128.size (k0_off21_inb k)).withinL (Rect.unit (s:=S8x128) ![r.val, 0] S1x128.size (row_inb r)).toLoadRect (fun _ => rfl)) X18)
        (View.readAt (Elt F) arg19.view ((Rect.unit (s:=S40x512) (k0_off21 k) S8x128.size (k0_off21_inb k)).withinL (Rect.unit (s:=S8x128) ![r.val, 0] S1x128.size (row_inb r)).toLoadRect (fun _ => rfl)) X19)
        (View.readAt (Elt F) arg20.view ((Rect.unit (s:=S40x512) (k0_off21 k) S8x128.size (k0_off21_inb k)).withinL (Rect.unit (s:=S8x128) ![r.val, 0] S1x128.size (row_inb r)).toLoadRect (fun _ => rfl)) X20)
        (View.readAt (Elt F) arg14.view (Rect.unit (s:=S5120x512) (k0_off22 k (wG r) (wQ q)) S64x128.size (k0_off22_inb k r q)).toLoadRect X14)⟩
  | 2, q => ⟨Rect.unit (s:=S1x2560x512) (k0_off26 k (wG r) (wP q)) S1x32x128.size (k0_off26_inb k r q),
      cCode (F := F) (View.readAt (Elt F) arg17.view ((Rect.unit (s:=S40x512) (k0_off24 k) S8x128.size (k0_off24_inb k)).withinL (Rect.unit (s:=S8x128) ![r.val, 0] S1x128.size (row_inb r)).toLoadRect (fun _ => rfl)) X17)
        (View.readAt (Elt F) arg18.view ((Rect.unit (s:=S40x512) (k0_off24 k) S8x128.size (k0_off24_inb k)).withinL (Rect.unit (s:=S8x128) ![r.val, 0] S1x128.size (row_inb r)).toLoadRect (fun _ => rfl)) X18)
        (View.readAt (Elt F) arg19.view ((Rect.unit (s:=S40x512) (k0_off24 k) S8x128.size (k0_off24_inb k)).withinL (Rect.unit (s:=S8x128) ![r.val, 0] S1x128.size (row_inb r)).toLoadRect (fun _ => rfl)) X19)
        (View.readAt (Elt F) arg20.view ((Rect.unit (s:=S40x512) (k0_off24 k) S8x128.size (k0_off24_inb k)).withinL (Rect.unit (s:=S8x128) ![r.val, 0] S1x128.size (row_inb r)).toLoadRect (fun _ => rfl)) X20)
        (View.readAt (Elt F) arg14.view (Rect.unit (s:=S5120x512) (k0_off25 k (wG r) (wQ q)) S64x128.size (k0_off25_inb k r q)).toLoadRect X14)⟩
  | 3, q => ⟨Rect.unit (s:=S1x2560x512) (k0_off29 k (wG r) (wP q)) S1x32x128.size (k0_off29_inb k r q),
      cCode (F := F) (View.readAt (Elt F) arg17.view ((Rect.unit (s:=S40x512) (k0_off27 k) S8x128.size (k0_off27_inb k)).withinL (Rect.unit (s:=S8x128) ![r.val, 0] S1x128.size (row_inb r)).toLoadRect (fun _ => rfl)) X17)
        (View.readAt (Elt F) arg18.view ((Rect.unit (s:=S40x512) (k0_off27 k) S8x128.size (k0_off27_inb k)).withinL (Rect.unit (s:=S8x128) ![r.val, 0] S1x128.size (row_inb r)).toLoadRect (fun _ => rfl)) X18)
        (View.readAt (Elt F) arg19.view ((Rect.unit (s:=S40x512) (k0_off27 k) S8x128.size (k0_off27_inb k)).withinL (Rect.unit (s:=S8x128) ![r.val, 0] S1x128.size (row_inb r)).toLoadRect (fun _ => rfl)) X19)
        (View.readAt (Elt F) arg20.view ((Rect.unit (s:=S40x512) (k0_off27 k) S8x128.size (k0_off27_inb k)).withinL (Rect.unit (s:=S8x128) ![r.val, 0] S1x128.size (row_inb r)).toLoadRect (fun _ => rfl)) X20)
        (View.readAt (Elt F) arg14.view (Rect.unit (s:=S5120x512) (k0_off28 k (wG r) (wQ q)) S64x128.size (k0_off28_inb k r q)).toLoadRect X14)⟩

/-- The stores of one trip, last first. -/
def uL8 (arg14 : Memref sig .tc .vmem S5120x512 .f32) (arg17 : Memref sig .tc .vmem S40x512 .f32) (arg18 : Memref sig .tc .vmem S40x512 .i32) (arg19 : Memref sig .tc .vmem S40x512 .i32) (arg20 : Memref sig .tc .vmem S40x512 .i32) (X14 : BufTy.Contents (Elt F) arg14.view.ty) (X17 : BufTy.Contents (Elt F) arg17.view.ty) (X18 : BufTy.Contents (Elt F) arg18.view.ty) (X19 : BufTy.Contents (Elt F) arg19.view.ty) (X20 : BufTy.Contents (Elt F) arg20.view.ty) (k : Fin k0_t2_loop.trips) : List (View.Piece (Elt F) S1x2560x512 .i8) :=
  [7,6,5,4,3,2,1,0].flatMap fun r : Fin 8 => [3,2,1,0].flatMap fun j : Fin 4 => [1,0].map fun q : Fin 2 => uC arg14 arg17 arg18 arg19 arg20 X14 X17 X18 X19 X20 k r j q

set_option maxHeartbeats 4000000 in
/-- The stores the trip makes are those listed. -/
theorem uL8_eq (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (X14 : BufTy.Contents (Elt F) arg14.view.ty) (X17 : BufTy.Contents (Elt F) arg17.view.ty) (X18 : BufTy.Contents (Elt F) arg18.view.ty) (X19 : BufTy.Contents (Elt F) arg19.view.ty) (X20 : BufTy.Contents (Elt F) arg20.view.ty) (k : Fin k0_t2_loop.trips) :
    (trip_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X14 X17 X18 X19 X20 k).1 = uL8 arg14 arg17 arg18 arg19 arg20 X14 X17 X18 X19 X20 k := by
  unfold trip_k0_t2
  rfl

end Cert.KernelIdeal.Own
end
-- ==== Proof.Run.A.lean ====
/- The whole-body run of the kernel in case A: the first column block of a batch (`program_id(1) == 0`), which first fills the two factors.
   From named contents of every buffer the body runs to named contents of the three outputs and of the two scratch
   buffers the next grid point may read; those contents are what the run found. -/
module

public import proofs.«01_k».proof.Proof.Gen.KernelIdeal.Loops

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one test: the column block is the batch's first. -/
abbrev Cond0 (i : grid0.Coords) : Prop := (Scalar.cmpi .ne (Scalar.extui (Scalar.cmpi .eq (BitVec.ofNat 32 (i 1).val) 0#32)) 0#32) = 1#1

set_option maxHeartbeats 1640000 in set_option sl_exec.squeezeSlice true in
/-- What the body leaves in the outputs (arg8, arg9, arg10) and in the left factor (arg11) in case A, with the proof that it
    does: the contents are the witness the run finds. -/
noncomputable def runA (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (hc0 : Cond0 i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) :
    Σ' (G8 : BufTy.Contents (Elt F) arg8.view.ty) (G9 : BufTy.Contents (Elt F) arg9.view.ty) (G10 : BufTy.Contents (Elt F) arg10.view.ty), { G11 : BufTy.Contents (Elt F) arg11.view.ty //
      ∀ (E : Set ℕ) (K : PUnit → sProp 𝕄),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} G8) ∗ (arg9.view.loc (c : Thread nD τ) ↦[arg9.view.set]{fullShare} G9) ∗ (arg10.view.loc (c : Thread nD τ) ↦[arg10.view.set]{fullShare} G10) ∗ (arg11.view.loc (c : Thread nD τ) ↦[arg11.view.set]{fullShare} G11) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f)) -∗ K ⟨⟩))
          ⊢ wp frame (wpE (defs₀ (F := F)) Variants.none c none) E (cc0_dora_requant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0_dora_requant_eq_skeleton]; unfold cc0_dora_requant_skel
    simp only [k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton]
    iintro ⟨H2, H3, H4, H5, H6, H7, H8, H9, H10, H11, H12, H13, H14, H15, H16, H17, H18, H19, H20, Hk⟩
    sl_exec (disch := first | sl_exact hc0)
    sl_step
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexists _; iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [H18]
    · iexists _; iexact H18
    isplitl [H19]
    · iexists _; iexact H19
    iexists _; iexact H20

end Cert.KernelIdeal.Own

end
-- ==== Proof.Run.B.lean ====
/- The whole-body run of the kernel in case B: a later column block of a batch, which reads the left factor the first one left.
   From named contents of every buffer the body runs to named contents of the three outputs and of the two scratch
   buffers the next grid point may read; those contents are what the run found. -/
module

public import proofs.«01_k».proof.Proof.Run.A

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1640000 in set_option sl_exec.squeezeSlice true in
/-- What the body leaves in the outputs (arg8, arg9, arg10) and in the left factor (arg11) in case B, with the proof that it
    does: the contents are the witness the run finds. -/
noncomputable def runB (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (hc0 : ¬ Cond0 i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) :
    Σ' (G8 : BufTy.Contents (Elt F) arg8.view.ty) (G9 : BufTy.Contents (Elt F) arg9.view.ty) (G10 : BufTy.Contents (Elt F) arg10.view.ty), { G11 : BufTy.Contents (Elt F) arg11.view.ty //
      ∀ (E : Set ℕ) (K : PUnit → sProp 𝕄),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} G8) ∗ (arg9.view.loc (c : Thread nD τ) ↦[arg9.view.set]{fullShare} G9) ∗ (arg10.view.loc (c : Thread nD τ) ↦[arg10.view.set]{fullShare} G10) ∗ (arg11.view.loc (c : Thread nD τ) ↦[arg11.view.set]{fullShare} G11) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f)) -∗ K ⟨⟩))
          ⊢ wp frame (wpE (defs₀ (F := F)) Variants.none c none) E (cc0_dora_requant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0_dora_requant_eq_skeleton]; unfold cc0_dora_requant_skel
    simp only [k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton]
    iintro ⟨H2, H3, H4, H5, H6, H7, H8, H9, H10, H11, H12, H13, H14, H15, H16, H17, H18, H19, H20, Hk⟩
    sl_exec (disch := first | sl_exact hc0)
    sl_step
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexists _; iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [H18]
    · iexists _; iexact H18
    isplitl [H19]
    · iexists _; iexact H19
    iexists _; iexact H20

end Cert.KernelIdeal.Own

end
-- ==== Proof.Params.lean ====
/- The parameters of a block, between the two loops: what is stored for each lane tile and each group, and what the
   whole body leaves in its outputs, in words of the two loops and of these parameters. -/
module

public import proofs.«01_k».proof.Proof.Trip2
public import proofs.«01_k».proof.Proof.Run.A
public import proofs.«01_k».proof.Proof.Run.B

@[expose] public section

set_option maxRecDepth 16384

noncomputable section

namespace Cert.KernelIdeal.Own

open Cert.KernelIdeal.Gen
open Idealize.ShloMosaic Idealize.ShloMosaic.TcCoe Idealize.ShloMosaic.Tactic

variable {F : FTy → Type} [FloatOps F]

/-- Every eighth row from row `s` stays inside the extremes' buffer. -/
theorem sl_inb (s : Fin 8) : ∀ a, S40x128.size a = 0 ∨ (![s.val, 0] : Fin 2 → ℕ) a + (![8, 1] : Fin 2 → ℕ) a * (S40x128.size a - 1) < S320x128.size a := by
  revert s; decide
/-- The plane of lane tile `j` lies in the buffer. -/
theorem pl_inb (j : Fin 4) : ∀ a, (![j.val, 0, 0] : Fin 3 → ℕ) a + S1x320x128.size a ≤ S4x320x128.size a := by revert j; decide
/-- The lanes of tile `j` lie in the row of magnitudes. -/
theorem mg_inb (j : Fin 4) : ∀ a, (![0, 0, 128 * j.val] : Fin 3 → ℕ) a + S1x1x128.size a ≤ S1x1x512.size a := by revert j; decide
/-- The lanes of tile `j` lie in an output block of one batch. -/
theorem p3_inb (j : Fin 4) : ∀ a, (![0, 0, 128 * j.val] : Fin 3 → ℕ) a + S1x40x128.size a ≤ S1x40x512.size a := by revert j; decide
/-- The lanes of tile `j` lie in a parameter buffer. -/
theorem p2_inb (j : Fin 4) : ∀ a, (![0, 128 * j.val] : Fin 2 → ℕ) a + S40x128.size a ≤ S40x512.size a := by revert j; decide

/-- Every eighth row, from row `s` on, of the 320 rows of a lane tile. -/
def sLr (s : Fin 8) : LoadRect S320x128 := { off := ![s.val, 0], size := S40x128.size, stride := ![8, 1], inb := sl_inb s }

/-- Every eighth row, from row `s` on, of lane tile `j`'s minima or maxima. -/
def sRd (m : Memref sig .tc .vmem S4x320x128 .f32) (X : BufTy.Contents (Elt F) m.view.ty) (j : Fin 4) (s : Fin 8) : FVec F S40x128 .f32 :=
  LoadRect.valAlong (lr := sLr s) (LoadRect.numel_consLift (sLr s) ![1, 320, 128] rfl (fun i => by revert i; decide))
    (View.readAt (Elt F) m.view ((Rect.unit (s := S4x320x128) ![j.val, 0, 0] S1x320x128.size (pl_inb j)).withinL
      (LoadRect.consLift (sLr s) ![1, 320, 128] rfl (fun i => by revert i; decide)) (fun _ => rfl)) X)

/-- Component `j` of four. -/
def pickF {α : Type} (p : α × α × α × α) : Fin 4 → α
  | 0 => p.1 | 1 => p.2.1 | 2 => p.2.2.1 | 3 => p.2.2.2

section
variable (k : FVec F S1x128 .f32) (e e' : Fin 8 → FVec F S40x128 .f32)

/-- The least weight of each group. -/
def pLo : FVec F S40x128 .f32 :=
  k0_pay1419 k (k0_pay1415 (k0_pay1414 (e 0) (e 1)) (e 2) (e 3) (e 4)) (k0_pay1416 (e' 0) (e' 1) (e' 2) (e' 3) (e' 4)) (e 5) (e' 5) (e 6) (e' 6) (e 7) (e' 7)
/-- The greatest weight of each group. -/
def pHi : FVec F S40x128 .f32 :=
  k0_pay1420 k (k0_pay1415 (k0_pay1414 (e 0) (e 1)) (e 2) (e 3) (e 4)) (k0_pay1416 (e' 0) (e' 1) (e' 2) (e' 3) (e' 4)) (e 5) (e' 5) (e 6) (e' 6) (e 7) (e' 7)
/-- Whether the two are equal. -/
def pEq : IVec S40x128 1 :=
  k0_pay1421 k (k0_pay1415 (k0_pay1414 (e 0) (e 1)) (e 2) (e 3) (e 4)) (k0_pay1416 (e' 0) (e' 1) (e' 2) (e' 3) (e' 4)) (e 5) (e' 5) (e 6) (e' 6) (e 7) (e' 7)
/-- Their difference. -/
def pDf : FVec F S40x128 .f32 :=
  k0_pay1422 k (k0_pay1415 (k0_pay1414 (e 0) (e 1)) (e 2) (e 3) (e 4)) (k0_pay1416 (e' 0) (e' 1) (e' 2) (e' 3) (e' 4)) (e 5) (e' 5) (e 6) (e' 6) (e 7) (e' 7)
/-- The zero point the codes use. -/
def pZ : FVec F S40x128 .f32 := k0_pay1431 (pLo k e e') (pHi k e e') (pEq k e e') (pDf k e e')
end

section
variable (k : Fin 4 → FVec F S1x128 .f32) (e e' : Fin 4 → Fin 8 → FVec F S40x128 .f32)

/-- The scales stored. -/
def l9 : List (View.Piece (Elt F) S1x40x512 .bf16) :=
  [3, 2, 1, 0].map fun j : Fin 4 => ⟨Rect.unit (s := S1x40x512) ![0, 0, 128 * j.val] S1x40x128.size (p3_inb j), k0_pay1427 (pEq (k j) (e j) (e' j)) (pDf (k j) (e j) (e' j))⟩
/-- The zero points stored. -/
def l10 : List (View.Piece (Elt F) S1x40x512 .i8) :=
  [3, 2, 1, 0].map fun j : Fin 4 => ⟨Rect.unit (s := S1x40x512) ![0, 0, 128 * j.val] S1x40x128.size (p3_inb j), k0_pay1428 (pLo (k j) (e j) (e' j)) (pEq (k j) (e j) (e' j)) (pDf (k j) (e j) (e' j))⟩
/-- The factors stored. -/
def l17 : List (View.Piece (Elt F) S40x512 .f32) :=
  [3, 2, 1, 0].map fun j : Fin 4 => ⟨Rect.unit (s := S40x512) ![0, 128 * j.val] S40x128.size (p2_inb j), k0_pay1432 (k j) (pLo (k j) (e j) (e' j)) (pHi (k j) (e j) (e' j)) (pEq (k j) (e j) (e' j)) (pDf (k j) (e j) (e' j))⟩
/-- The lower bounds stored. -/
def l18 : List (View.Piece (Elt F) S40x512 .i32) :=
  [3, 2, 1, 0].map fun j : Fin 4 => ⟨Rect.unit (s := S40x512) ![0, 128 * j.val] S40x128.size (p2_inb j), k0_pay1434 (pZ (k j) (e j) (e' j))⟩
/-- The upper bounds stored. -/
def l19 : List (View.Piece (Elt F) S40x512 .i32) :=
  [3, 2, 1, 0].map fun j : Fin 4 => ⟨Rect.unit (s := S40x512) ![0, 128 * j.val] S40x128.size (p2_inb j), k0_pay1435 (pZ (k j) (e j) (e' j))⟩
/-- The words of zero points stored. -/
def l20 : List (View.Piece (Elt F) S40x512 .i32) :=
  [3, 2, 1, 0].map fun j : Fin 4 => ⟨Rect.unit (s := S40x512) ![0, 128 * j.val] S40x128.size (p2_inb j), k0_pay1436 (pZ (k j) (e j) (e' j))⟩
end

section
variable (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty)

/-- What the first loop leaves: the four sums and the three lists of stores. -/
def lp := st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (k0_pay1410 (View.readAt (Elt F) arg3.view (Rect.unit (s := S1x40x512) ![0, 0, 0] S1x40x512.size inb_S1x40x512_S1x40x512_0_0_0).toLoadRect X3) (View.readAt (Elt F) arg4.view (Rect.unit (s := S1x40x512) ![0, 0, 0] S1x40x512.size inb_S1x40x512_S1x40x512_0_0_0).toLoadRect X4))
  (iota Kind.tc S128x128 32 [1] iota_S128x128_d1_w32) X2 X11 X12 X13 (k0_pay1412, k0_pay1412, k0_pay1412, k0_pay1412) k0_t1_loop.trips

/-- The factor of each column of lane tile `j`. -/
def kF (j : Fin 4) : FVec F S1x128 .f32 :=
  k0_pay1413 (pickF (lp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13).1 j) (View.readAt (Elt F) arg7.view (Rect.unit (s := S1x1x512) ![0, 0, 128 * j.val] S1x1x128.size (mg_inb j)).toLoadRect X7)
/-- The minima of lane tile `j`. -/
def eF (j : Fin 4) (s : Fin 8) : FVec F S40x128 .f32 := sRd arg15 (arg15.view.writes (Elt F) X15 (lp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13).2.2.1) j s
/-- The maxima of lane tile `j`. -/
def gF (j : Fin 4) (s : Fin 8) : FVec F S40x128 .f32 := sRd arg16 (arg16.view.writes (Elt F) X16 (lp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13).2.2.2) j s

/-- The scales the body leaves. -/
def o9 : BufTy.Contents (Elt F) arg9.view.ty := arg9.view.writes (Elt F) arg9.view.junk (l9 (kF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) (eF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) (gF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16))
/-- The zero points the body leaves. -/
def o10 : BufTy.Contents (Elt F) arg10.view.ty := arg10.view.writes (Elt F) arg10.view.junk (l10 (kF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) (eF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) (gF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16))
/-- The codes the body leaves. -/
def o8 : BufTy.Contents (Elt F) arg8.view.ty :=
  arg8.view.writes (Elt F) X8 (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (arg14.view.writes (Elt F) X14 (lp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13).2.1)
    (arg17.view.writes (Elt F) arg17.view.junk (l17 (kF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) (eF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) (gF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16))) (arg18.view.writes (Elt F) arg18.view.junk (l18 (kF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) (eF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) (gF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16)))
    (arg19.view.writes (Elt F) arg19.view.junk (l19 (kF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) (eF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) (gF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16))) (arg20.view.writes (Elt F) arg20.view.junk (l20 (kF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) (eF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) (gF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16))) k0_t2_loop.trips)

/-- The left factor the first column block of a batch stores. -/
def x11 : BufTy.Contents (Elt F) arg11.view.ty :=
  arg11.view.writes (Elt F) arg11.view.junk [⟨Rect.unit (s := S5120x128) ![0, 0] S5120x96.size inb_S5120x128_S5120x96_0_0, k0_pay1402 (View.readAt (Elt F) arg5.view (Rect.unit (s := S1x5120x96) ![0, 0, 0] S1x5120x96.size inb_S1x5120x96_S1x5120x96_0_0_0).toLoadRect X5)⟩,
    ⟨Rect.unit (s := S5120x128) ![0, 0] S5120x128.size inb_S5120x128_S5120x128_0_0, k0_pay1401⟩]
/-- The three blocks of rows every column block stores in the right factor. -/
def h12 : List (View.Piece (Elt F) S256x512 .bf16) :=
  [⟨Rect.unit (s := S256x512) ![192, 0] S40x512.size inb_S256x512_S40x512_192_0, k0_pay1411 (k0_pay1410 (View.readAt (Elt F) arg3.view (Rect.unit (s := S1x40x512) ![0, 0, 0] S1x40x512.size inb_S1x40x512_S1x40x512_0_0_0).toLoadRect X3) (View.readAt (Elt F) arg4.view (Rect.unit (s := S1x40x512) ![0, 0, 0] S1x40x512.size inb_S1x40x512_S1x40x512_0_0_0).toLoadRect X4))⟩,
   ⟨Rect.unit (s := S256x512) ![128, 0] S40x512.size inb_S256x512_S40x512_128_0, k0_pay1409 (View.readAt (Elt F) arg3.view (Rect.unit (s := S1x40x512) ![0, 0, 0] S1x40x512.size inb_S1x40x512_S1x40x512_0_0_0).toLoadRect X3) (View.readAt (Elt F) arg4.view (Rect.unit (s := S1x40x512) ![0, 0, 0] S1x40x512.size inb_S1x40x512_S1x40x512_0_0_0).toLoadRect X4)⟩,
   ⟨Rect.unit (s := S256x512) ![0, 0] S96x512.size inb_S256x512_S96x512_0_0, k0_pay1408 (View.readAt (Elt F) arg6.view (Rect.unit (s := S1x96x512) ![0, 0, 0] S1x96x512.size inb_S1x96x512_S1x96x512_0_0_0).toLoadRect X6)⟩]
/-- The right factor after a batch's first column block. -/
def x12A : BufTy.Contents (Elt F) arg12.view.ty :=
  arg12.view.writes (Elt F) arg12.view.junk (h12 arg3 arg4 arg6 X3 X4 X6 ++ [⟨Rect.unit (s := S256x512) ![0, 0] S256x512.size inb_S256x512_S256x512_0_0, k0_pay1403⟩])
/-- The right factor after another column block. -/
def x12B : BufTy.Contents (Elt F) arg12.view.ty := arg12.view.writes (Elt F) X12 (h12 arg3 arg4 arg6 X3 X4 X6)
/-- The scales of the block, widened. -/
def x13 : BufTy.Contents (Elt F) arg13.view.ty :=
  arg13.view.writes (Elt F) arg13.view.junk [⟨Rect.unit (s := S40x512) ![0, 0] S40x512.size inb_S40x512_S40x512_0_0, k0_pay1407 (View.readAt (Elt F) arg3.view (Rect.unit (s := S1x40x512) ![0, 0, 0] S1x40x512.size inb_S1x40x512_S1x40x512_0_0_0).toLoadRect X3)⟩]

end

end Cert.KernelIdeal.Own
end
-- ==== Proof.TileValue.lean ====
/- One lane tile of the first loop, read at an index over the extended reals. -/
module
public import proofs.«01_k».proof.Proof.Trip
@[expose] public section
set_option maxRecDepth 16384
noncomputable section
namespace Cert.KernelIdeal.Own
open Cert.KernelIdeal.Gen
open Idealize.ShloMosaic Idealize.ShloMosaic.TcCoe Idealize.ShloMosaic.Tactic

/-- A code of a packed byte: the low four bits at an even row, the high four at an odd one. -/
def nib (b : BitVec 8) (r : ℕ) : BitVec 32 :=
  if r % 2 < 1 then IntOp.andi (b.setWidth 32) 15#32 else IntOp.shrui .vector (b.setWidth 32) 4#32

/-- The direction matrix of a block: code times scale, plus the low-rank product, plus the two rows of zero points. -/
def VS (c : S1x2560x512.Idx → BitVec 8) (s : S40x512.Idx → EReal) (a : S5120x128.Idx → EReal) (b : S256x512.Idx → EReal)
    (r : Fin 5120) (col : Fin 512) : EReal :=
  FloatOps.sitofp (F := Ideal) .bf16 (nib (c (ix3 0 ⟨r.val / 2, by omega⟩ col)) r.val) * s (ix2 ⟨r.val / 128, by omega⟩ col)
    + (∑ x : Fin 128, a (ix2 r x) * b (ix2 ⟨x.val, by omega⟩ col)
      + (b (ix2 ⟨128 + r.val / 128, by omega⟩ col) + b (ix2 ⟨192 + r.val / 128, by omega⟩ col)))

/-- Unpacked codes: row `a` is a nibble of byte row `a / 2`. -/
theorem cUnp_apply (C : IVec S1x32x128 8) (a : Fin 64) (l : Fin 128) :
    cUnp (F := Ideal) C (ix2 a l) = FloatOps.sitofp (F := Ideal) .bf16 (nib (C (ix3 0 ⟨a.val / 2, by omega⟩ l)) a.val) := by
  pointwise [cUnp, nib]
  rfl

/-- A sum against the indicator of one index is the term there. -/
theorem hot_sum (g : ℕ) (hg : g < 40) (w : BitVec 32) (hw : w.toNat = g) (f : Fin 128 → EReal) :
    ∑ x : Fin 128, Scalar.select (IntOp.ori (IntOp.cmpi .eq (BitVec.ofNat 32 x.val) w) (IntOp.cmpi .eq (BitVec.ofNat 32 x.val) (Scalar.addi w 64#32))) (f x) 0
      = f ⟨g, by omega⟩ + f ⟨64 + g, by omega⟩ := by
  have key : ∀ x : Fin 128, Scalar.select (IntOp.ori (IntOp.cmpi .eq (BitVec.ofNat 32 x.val) w) (IntOp.cmpi .eq (BitVec.ofNat 32 x.val) (Scalar.addi w 64#32))) (f x) 0
      = (if x = (⟨g, by omega⟩ : Fin 128) then f x else 0) + (if x = (⟨64 + g, by omega⟩ : Fin 128) then f x else 0) := by
    intro x
    have e1 : (BitVec.ofNat 32 x.val = w) ↔ x = (⟨g, by omega⟩ : Fin 128) := by
      rw [← BitVec.toNat_inj, BitVec.toNat_ofNat, hw, Nat.mod_eq_of_lt (by omega), Fin.ext_iff]
    have e2 : (BitVec.ofNat 32 x.val = Scalar.addi w 64#32) ↔ x = (⟨64 + g, by omega⟩ : Fin 128) := by
      rw [← BitVec.toNat_inj, BitVec.toNat_ofNat, Nat.mod_eq_of_lt (by omega), Fin.ext_iff]
      show _ = (w + 64#32).toNat ↔ _
      rw [BitVec.toNat_add, hw]
      simp only [BitVec.toNat_ofNat]
      omega
    have ne : (⟨g, by omega⟩ : Fin 128) ≠ ⟨64 + g, by omega⟩ := by simp [Fin.ext_iff]
    have q1 : (BitVec.ofNat 32 x.val == w) = decide (x = (⟨g, by omega⟩ : Fin 128)) := by rw [Bool.eq_iff_iff, beq_iff_eq, decide_eq_true_iff]; exact e1
    have q2 : (BitVec.ofNat 32 x.val == Scalar.addi w 64#32) = decide (x = (⟨64 + g, by omega⟩ : Fin 128)) := by rw [Bool.eq_iff_iff, beq_iff_eq, decide_eq_true_iff]; exact e2
    have q3 : IntOp.ori (IntOp.cmpi .eq (BitVec.ofNat 32 x.val) w) (IntOp.cmpi .eq (BitVec.ofNat 32 x.val) (Scalar.addi w 64#32))
        = IntOp.ori (BitVec.ofBool (decide (x = (⟨g, by omega⟩ : Fin 128)))) (BitVec.ofBool (decide (x = (⟨64 + g, by omega⟩ : Fin 128)))) :=
      congrArg₂ IntOp.ori (congrArg BitVec.ofBool q1) (congrArg BitVec.ofBool q2)
    rw [q3]
    by_cases h1 : x = (⟨g, by omega⟩ : Fin 128)
    · have h2 : ¬ x = (⟨64 + g, by omega⟩ : Fin 128) := fun h => ne (h1.symm.trans h)
      rw [if_pos h1, if_neg h2, decide_eq_true h1, decide_eq_false h2, add_zero]; rfl
    · by_cases h2 : x = (⟨64 + g, by omega⟩ : Fin 128)
      · rw [if_neg h1, if_pos h2, decide_eq_false h1, decide_eq_true h2, zero_add]; rfl
      · rw [if_neg h1, if_neg h2, decide_eq_false h1, decide_eq_false h2, add_zero]; rfl
  rw [Finset.sum_congr rfl fun x _ => key x, Finset.sum_add_distrib, Finset.sum_ite_eq' , Finset.sum_ite_eq']
  simp

/-- The product of a group's operands, read at a row and a lane. -/
theorem cD_apply (g : ℕ) (hg : g < 40) (w : BitVec 32) (hw : w.toNat = g) (A : FVec Ideal S128x128 .bf16) (B : FVec Ideal S256x256 .bf16) (a : Fin 128) (l : Fin 256) :
    cD (F := Ideal) (cLhs (iota .tc S128x128 32 [1] iota_S128x128_d1_w32) w A) B (ix2 a l)
      = ∑ x : Fin 128, A (ix2 a x) * B (ix2 ⟨x.val, by omega⟩ l) + (B (ix2 ⟨128 + g, by omega⟩ l) + B (ix2 ⟨192 + g, by omega⟩ l)) := by
  pointwise [cD, cLhs]
  have h := hot_sum g hg w hw fun x => B (ix2 ⟨128 + x.val, by omega⟩ l)
  have e : (⟨192 + g, by omega⟩ : Fin 256) = ⟨128 + (64 + g), by omega⟩ := Fin.ext (by simp; omega)
  rw [e]
  exact congrArg (_ + ·) h

/-- The weights of half a group from the product, the scales and the codes. -/
theorem cV_apply (d : FVec Ideal S128x256 .f32) (s : FVec Ideal S1x128 .f32) (C : IVec S1x32x128 8) (off : Fin 2 → Nat) (h : S128x256.Slices off S64x128)
    (a : Fin 64) (l : Fin 128) (a' : Fin 128) (l' : Fin 256) (ha : a'.val = off 0 + a.val) (hl : l'.val = off 1 + l.val) :
    cV d s C off h (ix2 a l) = FloatOps.sitofp (F := Ideal) .bf16 (nib (C (ix3 0 ⟨a.val / 2, by omega⟩ l)) a.val) * s (ix2 0 l) + d (ix2 a' l') := by
  pointwise [cV]
  rw [cUnp_apply]
  have e1 : a' = ⟨off 0 + a.val, by omega⟩ := Fin.ext ha
  have e2 : l' = ⟨off 1 + l.val, by omega⟩ := Fin.ext hl
  rw [e1, e2]
/-- The eight rows of part `i` of a half group. -/
theorem cPart_apply (v : FVec Ideal S64x128 .f32) (i : Fin 8) (a : Fin 8) (l : Fin 128) : cPart v i (ix2 a l) = v (ix2 ⟨8 * i.val + a.val, by omega⟩ l) := by
  match i with
  | 0 => pointwise [cPart]
  | 1 => pointwise [cPart]
  | 2 => pointwise [cPart]
  | 3 => pointwise [cPart]
  | 4 => pointwise [cPart]
  | 5 => pointwise [cPart]
  | 6 => pointwise [cPart]
  | 7 => pointwise [cPart]
/-- A load of a unit rectangle of two axes, read at an index. -/
theorem rd2 {sg : RefSig} {κ : Kind} {sp : Space} {m0 m1 n0 n1 : ℕ} {e : EltTy} (v : View sg κ sp ⟨2, ![m0, m1]⟩ e) (off : Fin 2 → Nat) (h)
    (f : BufTy.Contents (Elt Ideal) v.ty) (a : Fin n0) (b : Fin n1) (i : Fin m0) (j : Fin m1)
    (hi : i.val = off 0 + a.val) (hj : j.val = off 1 + b.val) :
    View.readAt (Elt Ideal) v (Rect.unit (s := ⟨2, ![m0, m1]⟩) off ![n0, n1] h).toLoadRect f (ix2 a b) = v.read (Elt Ideal) f (ix2 i j) := by
  refine congrArg (v.read (Elt Ideal) f) ?_
  funext x
  apply Fin.ext
  match x with
  | ⟨0, _⟩ => show off 0 + 1 * a.val = i.val; omega
  | ⟨1, _⟩ => show off 1 + 1 * b.val = j.val; omega

/-- A load of a unit rectangle of three axes, read at an index. -/
theorem rd3 {sg : RefSig} {κ : Kind} {sp : Space} {m0 m1 m2 n0 n1 n2 : ℕ} {e : EltTy} (v : View sg κ sp ⟨3, ![m0, m1, m2]⟩ e) (off : Fin 3 → Nat) (h)
    (f : BufTy.Contents (Elt Ideal) v.ty) (a : Fin n0) (b : Fin n1) (c : Fin n2) (i : Fin m0) (j : Fin m1) (l : Fin m2)
    (hi : i.val = off 0 + a.val) (hj : j.val = off 1 + b.val) (hl : l.val = off 2 + c.val) :
    View.readAt (Elt Ideal) v (Rect.unit (s := ⟨3, ![m0, m1, m2]⟩) off ![n0, n1, n2] h).toLoadRect f (ix3 a b c) = v.read (Elt Ideal) f (ix3 i j l) := by
  refine congrArg (v.read (Elt Ideal) f) ?_
  funext x
  apply Fin.ext
  match x with
  | ⟨0, _⟩ => show off 0 + 1 * a.val = i.val; omega
  | ⟨1, _⟩ => show off 1 + 1 * b.val = j.val; omega
  | ⟨2, _⟩ => show off 2 + 1 * c.val = l.val; omega

/-- A load of a row within eight rows, read at an index. -/
theorem rdRow {sg : RefSig} {κ : Kind} {sp : Space} (v : View sg κ sp S40x512 .f32) (off : Fin 2 → Nat) (h) (r : Fin 8) (h') (hh)
    (f : BufTy.Contents (Elt Ideal) v.ty) (l : Fin 128) (i : Fin 40) (j : Fin 512)
    (hi : i.val = off 0 + r.val) (hj : j.val = off 1 + l.val) :
    View.readAt (Elt Ideal) v ((Rect.unit (s := S40x512) off S8x128.size h).withinL (Rect.unit (s := S8x128) ![r.val, 0] S1x128.size h').toLoadRect hh) f (ix2 0 l)
      = v.read (Elt Ideal) f (ix2 i j) := by
  refine congrArg (v.read (Elt Ideal) f) ?_
  funext x
  apply Fin.ext
  match x with
  | ⟨0, _⟩ => show off 0 + r.val + 1 * 0 = i.val; omega
  | ⟨1, _⟩ => show off 1 + 0 + 1 * l.val = j.val; omega

/-- The number of group `r` of trip `k`. -/
theorem word_eq : ∀ (k : Fin k0_t1_loop.trips) (r : Fin 8), (cWord k (wG r)).toNat = 8 * k.val + r.val := by decide +kernel
/-- Where the body reads or writes at trip `k`, in closed form. -/
theorem off1_eq : ∀ (k : Fin k0_t1_loop.trips) (r : Fin 8), k0_off1 k (wG r) = ![1024 * k.val + 128 * r.val, 0] := by decide +kernel
/-- Where the body reads or writes at trip `k`, in closed form. -/
theorem off2_eq : ∀ k : Fin k0_t1_loop.trips, k0_off2 k = ![8 * k.val, 0] := by decide +kernel
/-- Where the body reads or writes at trip `k`, in closed form. -/
theorem off3_eq : ∀ (k : Fin k0_t1_loop.trips) (r : Fin 8) (q : Fin 2), k0_off3 k (wG r) (wP q) = ![0, 512 * k.val + 64 * r.val + 32 * q.val, 0] := by decide +kernel
/-- Where the body reads or writes at trip `k`, in closed form. -/
theorem off4_eq : ∀ (k : Fin k0_t1_loop.trips) (r : Fin 8) (q : Fin 2), k0_off4 k (wG r) (wQ q) = ![1024 * k.val + 128 * r.val + 64 * q.val, 0] := by decide +kernel
/-- Where the body reads or writes at trip `k`, in closed form. -/
theorem off5_eq : ∀ (k : Fin k0_t1_loop.trips) (r : Fin 8), k0_off5 k (wG r) = ![0, 64 * k.val + 8 * r.val, 0] := by decide +kernel
/-- Where the body reads or writes at trip `k`, in closed form. -/
theorem off6_eq : ∀ k : Fin k0_t1_loop.trips, k0_off6 k = ![8 * k.val, 128] := by decide +kernel
/-- Where the body reads or writes at trip `k`, in closed form. -/
theorem off7_eq : ∀ (k : Fin k0_t1_loop.trips) (r : Fin 8) (q : Fin 2), k0_off7 k (wG r) (wP q) = ![0, 512 * k.val + 64 * r.val + 32 * q.val, 128] := by decide +kernel
/-- Where the body reads or writes at trip `k`, in closed form. -/
theorem off8_eq : ∀ (k : Fin k0_t1_loop.trips) (r : Fin 8) (q : Fin 2), k0_off8 k (wG r) (wQ q) = ![1024 * k.val + 128 * r.val + 64 * q.val, 128] := by decide +kernel
/-- Where the body reads or writes at trip `k`, in closed form. -/
theorem off9_eq : ∀ (k : Fin k0_t1_loop.trips) (r : Fin 8), k0_off9 k (wG r) = ![1, 64 * k.val + 8 * r.val, 0] := by decide +kernel
/-- Where the body reads or writes at trip `k`, in closed form. -/
theorem off10_eq : ∀ k : Fin k0_t1_loop.trips, k0_off10 k = ![8 * k.val, 256] := by decide +kernel
/-- Where the body reads or writes at trip `k`, in closed form. -/
theorem off11_eq : ∀ (k : Fin k0_t1_loop.trips) (r : Fin 8) (q : Fin 2), k0_off11 k (wG r) (wP q) = ![0, 512 * k.val + 64 * r.val + 32 * q.val, 256] := by decide +kernel
/-- Where the body reads or writes at trip `k`, in closed form. -/
theorem off12_eq : ∀ (k : Fin k0_t1_loop.trips) (r : Fin 8) (q : Fin 2), k0_off12 k (wG r) (wQ q) = ![1024 * k.val + 128 * r.val + 64 * q.val, 256] := by decide +kernel
/-- Where the body reads or writes at trip `k`, in closed form. -/
theorem off13_eq : ∀ (k : Fin k0_t1_loop.trips) (r : Fin 8), k0_off13 k (wG r) = ![2, 64 * k.val + 8 * r.val, 0] := by decide +kernel
/-- Where the body reads or writes at trip `k`, in closed form. -/
theorem off14_eq : ∀ k : Fin k0_t1_loop.trips, k0_off14 k = ![8 * k.val, 384] := by decide +kernel
/-- Where the body reads or writes at trip `k`, in closed form. -/
theorem off15_eq : ∀ (k : Fin k0_t1_loop.trips) (r : Fin 8) (q : Fin 2), k0_off15 k (wG r) (wP q) = ![0, 512 * k.val + 64 * r.val + 32 * q.val, 384] := by decide +kernel
/-- Where the body reads or writes at trip `k`, in closed form. -/
theorem off16_eq : ∀ (k : Fin k0_t1_loop.trips) (r : Fin 8) (q : Fin 2), k0_off16 k (wG r) (wQ q) = ![1024 * k.val + 128 * r.val + 64 * q.val, 384] := by decide +kernel
/-- Where the body reads or writes at trip `k`, in closed form. -/
theorem off17_eq : ∀ (k : Fin k0_t1_loop.trips) (r : Fin 8), k0_off17 k (wG r) = ![3, 64 * k.val + 8 * r.val, 0] := by decide +kernel

/-- The loop has five trips. -/
theorem trips_le (k : Fin k0_t1_loop.trips) : k.val < 5 := k.isLt

/-- The product of a group's rows with 256 columns, read at an index. -/
theorem tD_apply (arg11 : Memref sig .tc .vmem S5120x128 .bf16) (arg12 : Memref sig .tc .vmem S256x512 .bf16) (X11 : BufTy.Contents (Elt Ideal) arg11.view.ty) (X12 : BufTy.Contents (Elt Ideal) arg12.view.ty) (k : Fin k0_t1_loop.trips) (r : Fin 8) (off : Fin 2 → Nat) (h : ∀ a, off a + S256x256.size a ≤ S256x512.size a)
    (a : Fin 128) (l : Fin 256) (i : Fin 5120) (j : Fin 512) (hi : i.val = 1024 * k.val + 128 * r.val + a.val) (h0 : off 0 = 0) (hj : j.val = off 1 + l.val) :
    tD (F := Ideal) arg11 arg12 (iota .tc S128x128 32 [1] iota_S128x128_d1_w32) X11 X12 k r off h (ix2 a l)
      = ∑ x : Fin 128, (arg11.view.read (Elt Ideal) X11 (ix2 i x) : EReal) * arg12.view.read (Elt Ideal) X12 (ix2 ⟨x.val, by omega⟩ j)
        + (arg12.view.read (Elt Ideal) X12 (ix2 ⟨128 + i.val / 128, by omega⟩ j) + arg12.view.read (Elt Ideal) X12 (ix2 ⟨192 + i.val / 128, by omega⟩ j)) := by
  have hk := trips_le k
  unfold tD
  rw [cD_apply (8 * k.val + r.val) (by omega) _ (word_eq k r)]
  have o1 := off1_eq k r
  congr 1
  · refine Finset.sum_congr rfl fun x _ => ?_
    congr 1
    · exact rd2 arg11.view _ _ X11 a x i x (by rw [o1]; exact hi) (by rw [o1]; simp)
    · exact rd2 arg12.view _ _ X12 _ l _ j (by simp [h0]) hj
  · congr 1
    · exact rd2 arg12.view _ _ X12 _ l _ j (by simp only [h0]; omega) hj
    · exact rd2 arg12.view _ _ X12 _ l _ j (by simp only [h0]; omega) hj

/-- A lane tile of half a group, at any lane offsets, read at an index. -/
theorem cV_tile (arg2 : Memref sig .tc .vmem S1x2560x512 .i8) (arg11 : Memref sig .tc .vmem S5120x128 .bf16) (arg12 : Memref sig .tc .vmem S256x512 .bf16) (arg13 : Memref sig .tc .vmem S40x512 .f32) (X2 : BufTy.Contents (Elt Ideal) arg2.view.ty) (X11 : BufTy.Contents (Elt Ideal) arg11.view.ty) (X12 : BufTy.Contents (Elt Ideal) arg12.view.ty) (X13 : BufTy.Contents (Elt Ideal) arg13.view.ty) (k : Fin k0_t1_loop.trips) (r : Fin 8) (j q p : ℕ) (hp : p = 32 * q) (oB : Fin 2 → ℕ) hB (oS : Fin 2 → ℕ) hS hS1 hS2 (oC : Fin 3 → ℕ) hC' (oD : Fin 2 → ℕ) hD
    (eB0 : oB 0 = 0) (eBD : oB 1 + oD 1 = 128 * j) (eS : oS = ![8 * k.val, 128 * j]) (eC : oC = ![0, 512 * k.val + 64 * r.val + p, 128 * j]) (eD : oD 0 = 64 * q)
    (hq : q < 2) (hD1 : oD 1 < 129) (a : Fin 64) (l : Fin 128)
    (R : Fin 5120) (C : Fin 512) (hR : R.val = 1024 * k.val + 128 * r.val + 64 * q + a.val) (hC : C.val = 128 * j + l.val) :
    cV (F := Ideal) (tD arg11 arg12 (iota .tc S128x128 32 [1] iota_S128x128_d1_w32) X11 X12 k r oB hB)
      (View.readAt (Elt Ideal) arg13.view ((Rect.unit (s:=S40x512) oS S8x128.size hS).withinL (Rect.unit (s:=S8x128) ![r.val, 0] S1x128.size hS1).toLoadRect hS2) X13)
      (View.readAt (Elt Ideal) arg2.view (Rect.unit (s:=S1x2560x512) oC S1x32x128.size hC').toLoadRect X2) oD hD (ix2 a l)
      = VS (arg2.view.read (Elt Ideal) X2) (arg13.view.read (Elt Ideal) X13) (arg11.view.read (Elt Ideal) X11) (arg12.view.read (Elt Ideal) X12) R C := by
  have hk := trips_le k
  subst hp
  have par : ∀ b, nib b a.val = nib b R.val := fun b => by
    unfold nib; rw [show a.val % 2 = R.val % 2 by omega]
  unfold VS
  rw [← par]
  refine (cV_apply _ _ _ oD hD a l ⟨oD 0 + a.val, by omega⟩ ⟨oD 1 + l.val, by omega⟩ rfl rfl).trans ?_
  have e1 := tD_apply arg11 arg12 X11 X12 k r oB hB ⟨oD 0 + a.val, by omega⟩ ⟨oD 1 + l.val, by omega⟩ R C (by simp only; omega) eB0 (by simp only; omega)
  have e2 := rdRow arg13.view oS hS r hS1 hS2 X13 l ⟨R.val / 128, by omega⟩ C (by rw [eS]; show R.val / 128 = 8 * k.val + r.val; omega) (by rw [eS]; exact hC)
  have e3 := rd3 arg2.view oC hC' X2 (0 : Fin 1) ⟨a.val / 2, by omega⟩ l 0 ⟨R.val / 2, by omega⟩ C (by rw [eC]; rfl) (by rw [eC]; show R.val / 2 = 512 * k.val + 64 * r.val + 32 * q + a.val / 2; omega) (by rw [eC]; exact hC)
  exact congrArg₂ (· + ·) (congrArg₂ (· * ·) (congrArg (fun b => FloatOps.sitofp (F := Ideal) .bf16 (nib b a.val)) e3) e2) e1

/-- A lane tile of half a group of the direction matrix, read at an index. -/
theorem tV_apply (arg2 : Memref sig .tc .vmem S1x2560x512 .i8) (arg11 : Memref sig .tc .vmem S5120x128 .bf16) (arg12 : Memref sig .tc .vmem S256x512 .bf16) (arg13 : Memref sig .tc .vmem S40x512 .f32) (X2 : BufTy.Contents (Elt Ideal) arg2.view.ty) (X11 : BufTy.Contents (Elt Ideal) arg11.view.ty) (X12 : BufTy.Contents (Elt Ideal) arg12.view.ty) (X13 : BufTy.Contents (Elt Ideal) arg13.view.ty) (k : Fin k0_t1_loop.trips) (r : Fin 8) (j : Fin 4) (q : Fin 2) (a : Fin 64) (l : Fin 128)
    (R : Fin 5120) (C : Fin 512) (hR : R.val = 1024 * k.val + 128 * r.val + 64 * q.val + a.val) (hC : C.val = 128 * j.val + l.val) :
    tV (F := Ideal) arg2 arg11 arg12 arg13 (iota .tc S128x128 32 [1] iota_S128x128_d1_w32) X2 X11 X12 X13 k r j q (ix2 a l)
      = VS (arg2.view.read (Elt Ideal) X2) (arg13.view.read (Elt Ideal) X13) (arg11.view.read (Elt Ideal) X11) (arg12.view.read (Elt Ideal) X12) R C := by
  match j, q with
  | 0, 0 => exact cV_tile arg2 arg11 arg12 arg13 X2 X11 X12 X13 k r 0 0 0 rfl _ _ _ _ _ _ _ _ _ _ rfl rfl (off2_eq k) (off3_eq k r 0) rfl (by omega) (by simp) a l R C hR hC
  | 0, 1 => exact cV_tile arg2 arg11 arg12 arg13 X2 X11 X12 X13 k r 0 1 32 rfl _ _ _ _ _ _ _ _ _ _ rfl rfl (off2_eq k) (off3_eq k r 1) rfl (by omega) (by simp) a l R C hR hC
  | 1, 0 => exact cV_tile arg2 arg11 arg12 arg13 X2 X11 X12 X13 k r 1 0 0 rfl _ _ _ _ _ _ _ _ _ _ rfl rfl (off6_eq k) (off7_eq k r 0) rfl (by omega) (by simp) a l R C hR hC
  | 1, 1 => exact cV_tile arg2 arg11 arg12 arg13 X2 X11 X12 X13 k r 1 1 32 rfl _ _ _ _ _ _ _ _ _ _ rfl rfl (off6_eq k) (off7_eq k r 1) rfl (by omega) (by simp) a l R C hR hC
  | 2, 0 => exact cV_tile arg2 arg11 arg12 arg13 X2 X11 X12 X13 k r 2 0 0 rfl _ _ _ _ _ _ _ _ _ _ rfl rfl (off10_eq k) (off11_eq k r 0) rfl (by omega) (by simp) a l R C hR hC
  | 2, 1 => exact cV_tile arg2 arg11 arg12 arg13 X2 X11 X12 X13 k r 2 1 32 rfl _ _ _ _ _ _ _ _ _ _ rfl rfl (off10_eq k) (off11_eq k r 1) rfl (by omega) (by simp) a l R C hR hC
  | 3, 0 => exact cV_tile arg2 arg11 arg12 arg13 X2 X11 X12 X13 k r 3 0 0 rfl _ _ _ _ _ _ _ _ _ _ rfl rfl (off14_eq k) (off15_eq k r 0) rfl (by omega) (by simp) a l R C hR hC
  | 3, 1 => exact cV_tile arg2 arg11 arg12 arg13 X2 X11 X12 X13 k r 3 1 32 rfl _ _ _ _ _ _ _ _ _ _ rfl rfl (off14_eq k) (off15_eq k r 1) rfl (by omega) (by simp) a l R C hR hC

end Cert.KernelIdeal.Own
end
-- ==== Proof.TripValue.lean ====
/- The first loop over the extended reals: what its three buffers and its four sums hold after the five trips. -/
module

public import proofs.«01_k».proof.Proof.TileValue

@[expose] public section

set_option maxRecDepth 16384

noncomputable section

namespace Cert.KernelIdeal.Own

open Cert.KernelIdeal.Gen
open Idealize.ShloMosaic Idealize.ShloMosaic.TcCoe Idealize.ShloMosaic.Tactic

/-- Sixteen minima in a row are the infimum. -/
theorem inf16 {α : Type*} [CompleteLinearOrder α] (f : Fin 16 → α) :
    (min (min (min (min (min (min (min (min (min (min (min (min (min (min (min (f 0) (f 1)) (f 2)) (f 3)) (f 4)) (f 5)) (f 6)) (f 7)) (f 8)) (f 9)) (f 10)) (f 11)) (f 12)) (f 13)) (f 14)) (f 15)) = ⨅ i, f i := by
  refine le_antisymm (le_iInf fun i => ?_) ?_
  · simp only [min_le_iff, or_assoc]
    fin_cases i <;> simp
  · simp only [le_inf_iff]
    repeat' apply And.intro
    all_goals exact iInf_le f _

/-- Sixteen maxima in a row are the supremum. -/
theorem sup16 {α : Type*} [CompleteLinearOrder α] (f : Fin 16 → α) :
    (max (max (max (max (max (max (max (max (max (max (max (max (max (max (max (f 0) (f 1)) (f 2)) (f 3)) (f 4)) (f 5)) (f 6)) (f 7)) (f 8)) (f 9)) (f 10)) (f 11)) (f 12)) (f 13)) (f 14)) (f 15)) = ⨆ i, f i := by
  refine le_antisymm ?_ (iSup_le fun i => ?_)
  · simp only [sup_le_iff]
    repeat' apply And.intro
    all_goals exact le_iSup f _
  · simp only [le_max_iff, or_assoc]
    fin_cases i <;> simp

/-- The running minimum of sixteen slices is their infimum. -/
theorem cMin_apply (v u : FVec Ideal S64x128 .f32) (f : Fin 16 → EReal) (a : Fin 8) (l : Fin 128)
    (hv : ∀ i : Fin 8, v (ix2 ⟨8 * i.val + a.val, by omega⟩ l) = f ⟨i.val, by omega⟩)
    (hu : ∀ i : Fin 8, u (ix2 ⟨8 * i.val + a.val, by omega⟩ l) = f ⟨8 + i.val, by omega⟩) :
    cMin v u (ix2 a l) = ⨅ i, f i := by
  pointwise [cMin]
  simp only [cPart_apply, hv, hu]
  exact inf16 f

/-- The running maximum of sixteen slices is their supremum. -/
theorem cMax_apply (v u : FVec Ideal S64x128 .f32) (f : Fin 16 → EReal) (a : Fin 8) (l : Fin 128)
    (hv : ∀ i : Fin 8, v (ix2 ⟨8 * i.val + a.val, by omega⟩ l) = f ⟨i.val, by omega⟩)
    (hu : ∀ i : Fin 8, u (ix2 ⟨8 * i.val + a.val, by omega⟩ l) = f ⟨8 + i.val, by omega⟩) :
    cMax v u (ix2 a l) = ⨆ i, f i := by
  pointwise [cMax]
  simp only [cPart_apply, hv, hu]
  exact sup16 f

/-- The running sum of sixteen squares. -/
theorem cSq_apply (s : FVec Ideal S8x128 .f32) (v u : FVec Ideal S64x128 .f32) (f : Fin 16 → EReal) (a : Fin 8) (l : Fin 128)
    (hv : ∀ i : Fin 8, v (ix2 ⟨8 * i.val + a.val, by omega⟩ l) = f ⟨i.val, by omega⟩)
    (hu : ∀ i : Fin 8, u (ix2 ⟨8 * i.val + a.val, by omega⟩ l) = f ⟨8 + i.val, by omega⟩) :
    cSq s v u (ix2 a l) = s (ix2 a l) + ∑ i, f i * f i := by
  pointwise [cSq, cSq1]
  simp only [cPart_apply, hv, hu]
  simp [Fin.sum_univ_succ, add_assoc]

/-- A store of 64 rows holds the function it covers. -/
theorem piece14 (off : Fin 2 → ℕ) (h) (v : FVec Ideal S64x128 .f32) (W : Fin 5120 → Fin 512 → EReal) (R0 C0 : ℕ) (e : off = ![R0, C0])
    (hv : ∀ (a : Fin 64) (l : Fin 128) (R : Fin 5120) (C : Fin 512), R.val = R0 + a.val → C.val = C0 + l.val → v (ix2 a l) = W R C) :
    ∀ x, (⟨Rect.unit (s := S5120x512) off S64x128.size h, shapeCast S64x128 v shapeCasts_S64x128_S64x128⟩ : View.Piece (Elt Ideal) S5120x512 .f32).2 x
      = (fun y : S5120x512.Idx => W (y 0) (y 1)) ((Rect.unit (s := S5120x512) off S64x128.size h).emb x) := by
  intro x
  subst e
  show shapeCast S64x128 v shapeCasts_S64x128_S64x128 x = _
  rw [shapeCast_self, eq_ix2 (n0 := 64) (n1 := 128) x]
  refine hv (x 0) (x 1) _ _ ?_ ?_
  · show R0 + 1 * (x 0).val = R0 + (x 0).val; omega
  · show C0 + 1 * (x 1).val = C0 + (x 1).val; omega

/-- A store of eight rows of one plane holds the function it covers. -/
theorem piece15 (off : Fin 3 → ℕ) (h) (v : FVec Ideal S8x128 .f32) (W : Fin 4 → Fin 320 → Fin 128 → EReal) (j : Fin 4) (R0 : ℕ) (e : off = ![j.val, R0, 0])
    (hv : ∀ (a : Fin 8) (l : Fin 128) (R : Fin 320), R.val = R0 + a.val → v (ix2 a l) = W j R l) :
    ∀ x, (⟨Rect.unit (s := S4x320x128) off S1x8x128.size h, shapeCast S1x8x128 v shapeCasts_S8x128_S1x8x128⟩ : View.Piece (Elt Ideal) S4x320x128 .f32).2 x
      = (fun y : S4x320x128.Idx => W (y 0) (y 1) (y 2)) ((Rect.unit (s := S4x320x128) off S1x8x128.size h).emb x) := by
  intro x
  subst e
  show shapeCast S1x8x128 v shapeCasts_S8x128_S1x8x128 x = _
  have h0 : (x 0).val = 0 := by have := (x 0).isLt; change (x 0).val < 1 at this; omega
  have e0 : x = (ix3 (n0 := 1) (n1 := 8) (n2 := 128) 0 (x 1) (x 2)) := by
    funext a; match a with | ⟨0, _⟩ => exact Fin.ext h0 | ⟨1, _⟩ => rfl | ⟨2, _⟩ => rfl
  have e1 : shapeCast S1x8x128 v shapeCasts_S8x128_S1x8x128 (ix3 (n0 := 1) (n1 := 8) (n2 := 128) 0 (x 1) (x 2)) = v (ix2 (n0 := 8) (n1 := 128) (x 1) (x 2)) := by
    pointwise []
  refine ((congrArg _ e0).trans e1).trans ((hv (x 1) (x 2) ⟨R0 + (x 1).val, by have := h 1; have h2 := (x 1).isLt; change (x 1).val < 8 at h2; change R0 + 8 ≤ 320 at this; omega⟩ rfl).trans ?_)
  refine congr (congr (congrArg W (Fin.ext ?_)) (Fin.ext ?_)) (Fin.ext ?_)
  · show j.val = j.val + 1 * (x 0).val; omega
  · show R0 + (x 1).val = R0 + 1 * (x 1).val; omega
  · show (x 2).val = 0 + 1 * (x 2).val; omega

/-- The direction matrix read from the blocks held by four buffers. -/
abbrev WS (arg2 : Memref sig .tc .vmem S1x2560x512 .i8) (arg11 : Memref sig .tc .vmem S5120x128 .bf16) (arg12 : Memref sig .tc .vmem S256x512 .bf16) (arg13 : Memref sig .tc .vmem S40x512 .f32) (X2 : BufTy.Contents (Elt Ideal) arg2.view.ty) (X11 : BufTy.Contents (Elt Ideal) arg11.view.ty) (X12 : BufTy.Contents (Elt Ideal) arg12.view.ty) (X13 : BufTy.Contents (Elt Ideal) arg13.view.ty) : Fin 5120 → Fin 512 → EReal :=
  VS (arg2.view.read (Elt Ideal) X2) (arg13.view.read (Elt Ideal) X13) (arg11.view.read (Elt Ideal) X11) (arg12.view.read (Elt Ideal) X12)

/-- The column numbers beside which the one-hot columns are made. -/
abbrev vIota : IVec S128x128 32 := iota .tc S128x128 32 [1] iota_S128x128_d1_w32

/-- Row `p` (of 320) gathers sixteen rows: those of its group with its remainder modulo eight. -/
def mrow (p : Fin 320) (i : Fin 16) : Fin 5120 := ⟨128 * (p.val / 8) + 8 * i.val + p.val % 8, by omega⟩

/-- Column `l` of lane tile `j`. -/
def mcol (j : Fin 4) (l : Fin 128) : Fin 512 := ⟨128 * j.val + l.val, by omega⟩

/-- A stored tile of weights agrees with `W` where it lies. -/
theorem oV_ok (v : FVec Ideal S64x128 .f32) (W : Fin 5120 → Fin 512 → EReal) (k : Fin k0_t1_loop.trips) (r : Fin 8) (j : Fin 4) (q : Fin 2)
    (hv : ∀ (a : Fin 64) (l : Fin 128) (R : Fin 5120) (C : Fin 512), R.val = 1024 * k.val + 128 * r.val + 64 * q.val + a.val → C.val = 128 * j.val + l.val → v (ix2 a l) = W R C) :
    ∀ x, (oV v j k r q).2 x = (fun y : S5120x512.Idx => W (y 0) (y 1)) ((oV v j k r q).1.emb x) := by
  match j with
  | 0 => exact piece14 _ _ v W _ _ (off4_eq k r q) hv
  | 1 => exact piece14 _ _ v W _ _ (off8_eq k r q) hv
  | 2 => exact piece14 _ _ v W _ _ (off12_eq k r q) hv
  | 3 => exact piece14 _ _ v W _ _ (off16_eq k r q) hv

/-- Which elements a stored tile of weights covers. -/
theorem oV_set (v : FVec Ideal S64x128 .f32) (k : Fin k0_t1_loop.trips) (r : Fin 8) (j : Fin 4) (q : Fin 2) (y : S5120x512.Idx)
    (h0 : 1024 * k.val + 128 * r.val + 64 * q.val ≤ (y 0).val ∧ (y 0).val < 1024 * k.val + 128 * r.val + 64 * q.val + 64)
    (h1 : 128 * j.val ≤ (y 1).val ∧ (y 1).val < 128 * j.val + 128) : y ∈ (oV v j k r q).1.set := by
  have key : ∀ (off : Fin 2 → ℕ) (h), off = ![1024 * k.val + 128 * r.val + 64 * q.val, 128 * j.val] → y ∈ (Rect.unit (s := S5120x512) off S64x128.size h).set := by
    intro off h e
    subst e
    rw [Rect.mem_set_unit]
    intro a
    match a with
    | ⟨0, _⟩ => exact h0
    | ⟨1, _⟩ => exact h1
  match j with
  | 0 => exact key _ (k0_off4_inb k r q) (off4_eq k r q)
  | 1 => exact key _ (k0_off8_inb k r q) (off8_eq k r q)
  | 2 => exact key _ (k0_off12_inb k r q) (off12_eq k r q)
  | 3 => exact key _ (k0_off16_inb k r q) (off16_eq k r q)

/-- A stored tile of extremes agrees with `W` where it lies. -/
theorem oM_ok (v : FVec Ideal S8x128 .f32) (W : Fin 4 → Fin 320 → Fin 128 → EReal) (k : Fin k0_t1_loop.trips) (r : Fin 8) (j : Fin 4)
    (hv : ∀ (a : Fin 8) (l : Fin 128) (R : Fin 320), R.val = 64 * k.val + 8 * r.val + a.val → v (ix2 a l) = W j R l) :
    ∀ x, (oM v j k r).2 x = (fun y : S4x320x128.Idx => W (y 0) (y 1) (y 2)) ((oM v j k r).1.emb x) := by
  match j with
  | 0 => exact piece15 _ _ v W 0 _ (off5_eq k r) hv
  | 1 => exact piece15 _ _ v W 1 _ (off9_eq k r) hv
  | 2 => exact piece15 _ _ v W 2 _ (off13_eq k r) hv
  | 3 => exact piece15 _ _ v W 3 _ (off17_eq k r) hv

/-- Which elements a stored tile of extremes covers. -/
theorem oM_set (v : FVec Ideal S8x128 .f32) (k : Fin k0_t1_loop.trips) (r : Fin 8) (j : Fin 4) (y : S4x320x128.Idx)
    (h0 : (y 0).val = j.val)
    (h1 : 64 * k.val + 8 * r.val ≤ (y 1).val ∧ (y 1).val < 64 * k.val + 8 * r.val + 8) : y ∈ (oM v j k r).1.set := by
  have key : ∀ (off : Fin 3 → ℕ) (h), off = ![j.val, 64 * k.val + 8 * r.val, 0] → y ∈ (Rect.unit (s := S4x320x128) off S1x8x128.size h).set := by
    intro off h e
    subst e
    rw [Rect.mem_set_unit]
    intro a
    match a with
    | ⟨0, _⟩ => exact ⟨h0.ge, by show (y 0).val < j.val + 1; omega⟩
    | ⟨1, _⟩ => exact h1
    | ⟨2, _⟩ => exact ⟨Nat.zero_le _, by show (y 2).val < 0 + 128; have := (y 2).isLt; change (y 2).val < 128 at this; omega⟩
  match j with
  | 0 => exact key _ (k0_off5_inb k r) (off5_eq k r)
  | 1 => exact key _ (k0_off9_inb k r) (off9_eq k r)
  | 2 => exact key _ (k0_off13_inb k r) (off13_eq k r)
  | 3 => exact key _ (k0_off17_inb k r) (off17_eq k r)

section
variable (arg2 : Memref sig .tc .vmem S1x2560x512 .i8) (arg11 : Memref sig .tc .vmem S5120x128 .bf16) (arg12 : Memref sig .tc .vmem S256x512 .bf16) (arg13 : Memref sig .tc .vmem S40x512 .f32) (X2 : BufTy.Contents (Elt Ideal) arg2.view.ty) (X11 : BufTy.Contents (Elt Ideal) arg11.view.ty) (X12 : BufTy.Contents (Elt Ideal) arg12.view.ty) (X13 : BufTy.Contents (Elt Ideal) arg13.view.ty)

/-- The least weights a trip stores. -/
theorem tMin_apply (k : Fin k0_t1_loop.trips) (r : Fin 8) (j : Fin 4) (a : Fin 8) (l : Fin 128) (R : Fin 320) (hR : R.val = 64 * k.val + 8 * r.val + a.val) :
    cMin (tV (F := Ideal) arg2 arg11 arg12 arg13 vIota X2 X11 X12 X13 k r j 0) (tV arg2 arg11 arg12 arg13 vIota X2 X11 X12 X13 k r j 1) (ix2 a l)
      = ⨅ i, WS arg2 arg11 arg12 arg13 X2 X11 X12 X13 (mrow R i) (mcol j l) := by
  refine cMin_apply _ _ (fun i => WS arg2 arg11 arg12 arg13 X2 X11 X12 X13 (mrow R i) (mcol j l)) a l (fun i => ?_) (fun i => ?_)
  · exact tV_apply arg2 arg11 arg12 arg13 X2 X11 X12 X13 k r j 0 _ l _ _ (by simp only [mrow, Fin.val_zero]; omega) rfl
  · exact tV_apply arg2 arg11 arg12 arg13 X2 X11 X12 X13 k r j 1 _ l _ _ (by simp only [mrow, Fin.val_one]; omega) rfl

/-- The greatest weights a trip stores. -/
theorem tMax_apply (k : Fin k0_t1_loop.trips) (r : Fin 8) (j : Fin 4) (a : Fin 8) (l : Fin 128) (R : Fin 320) (hR : R.val = 64 * k.val + 8 * r.val + a.val) :
    cMax (tV (F := Ideal) arg2 arg11 arg12 arg13 vIota X2 X11 X12 X13 k r j 0) (tV arg2 arg11 arg12 arg13 vIota X2 X11 X12 X13 k r j 1) (ix2 a l)
      = ⨆ i, WS arg2 arg11 arg12 arg13 X2 X11 X12 X13 (mrow R i) (mcol j l) := by
  refine cMax_apply _ _ (fun i => WS arg2 arg11 arg12 arg13 X2 X11 X12 X13 (mrow R i) (mcol j l)) a l (fun i => ?_) (fun i => ?_)
  · exact tV_apply arg2 arg11 arg12 arg13 X2 X11 X12 X13 k r j 0 _ l _ _ (by simp only [mrow, Fin.val_zero]; omega) rfl
  · exact tV_apply arg2 arg11 arg12 arg13 X2 X11 X12 X13 k r j 1 _ l _ _ (by simp only [mrow, Fin.val_one]; omega) rfl

/-- The row of the accumulators that slice `i` of group `r` of trip `k` adds to row `a`. -/
def srow (k : Fin 5) (r : Fin 8) (i : Fin 16) (a : Fin 8) : Fin 5120 := ⟨1024 * k.val + 128 * r.val + 8 * i.val + a.val, by omega⟩

/-- The sums of squares a trip adds. -/
theorem tR_apply (k : Fin k0_t1_loop.trips) (j : Fin 4) (s : FVec Ideal S8x128 .f32) (a : Fin 8) (l : Fin 128) :
    tR (F := Ideal) arg2 arg11 arg12 arg13 vIota X2 X11 X12 X13 k j s (ix2 a l)
      = s (ix2 a l) + ∑ r : Fin 8, ∑ i : Fin 16, WS arg2 arg11 arg12 arg13 X2 X11 X12 X13 (srow k r i a) (mcol j l) * WS arg2 arg11 arg12 arg13 X2 X11 X12 X13 (srow k r i a) (mcol j l) := by
  have h : ∀ (s : FVec Ideal S8x128 .f32) (r : Fin 8),
      cSq s (tV (F := Ideal) arg2 arg11 arg12 arg13 vIota X2 X11 X12 X13 k r j 0) (tV arg2 arg11 arg12 arg13 vIota X2 X11 X12 X13 k r j 1) (ix2 a l)
        = s (ix2 a l) + ∑ i : Fin 16, WS arg2 arg11 arg12 arg13 X2 X11 X12 X13 (srow k r i a) (mcol j l) * WS arg2 arg11 arg12 arg13 X2 X11 X12 X13 (srow k r i a) (mcol j l) := by
    intro s r
    refine cSq_apply s _ _ (fun i => WS arg2 arg11 arg12 arg13 X2 X11 X12 X13 (srow k r i a) (mcol j l)) a l (fun i => ?_) (fun i => ?_)
    · exact tV_apply arg2 arg11 arg12 arg13 X2 X11 X12 X13 k r j 0 _ l _ _ (by simp only [srow, Fin.val_zero]; omega) rfl
    · exact tV_apply arg2 arg11 arg12 arg13 X2 X11 X12 X13 k r j 1 _ l _ _ (by simp only [srow, Fin.val_one]; omega) rfl
  unfold tR
  simp only [List.foldl_cons, List.foldl_nil, h]
  rw [Fin.sum_univ_eight]
  simp only [add_assoc]

end

section
variable (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (v31 : FVec Ideal S40x512 .bf16) (X2 : BufTy.Contents (Elt Ideal) arg2.view.ty) (X11 : BufTy.Contents (Elt Ideal) arg11.view.ty) (X12 : BufTy.Contents (Elt Ideal) arg12.view.ty) (X13 : BufTy.Contents (Elt Ideal) arg13.view.ty)

/-- What one trip makes of the carried sums and of the lists of stores. -/
def tStep (arg2 : Memref sig .tc .vmem S1x2560x512 .i8) (arg11 : Memref sig .tc .vmem S5120x128 .bf16) (arg12 : Memref sig .tc .vmem S256x512 .bf16) (arg13 : Memref sig .tc .vmem S40x512 .f32) (X2 : BufTy.Contents (Elt Ideal) arg2.view.ty) (X11 : BufTy.Contents (Elt Ideal) arg11.view.ty) (X12 : BufTy.Contents (Elt Ideal) arg12.view.ty) (X13 : BufTy.Contents (Elt Ideal) arg13.view.ty) (k : Fin k0_t1_loop.trips)
    (p : (FVec Ideal S8x128 .f32 × FVec Ideal S8x128 .f32 × FVec Ideal S8x128 .f32 × FVec Ideal S8x128 .f32) × List (View.Piece (Elt Ideal) S5120x512 .f32) × List (View.Piece (Elt Ideal) S4x320x128 .f32) × List (View.Piece (Elt Ideal) S4x320x128 .f32)) :
    (FVec Ideal S8x128 .f32 × FVec Ideal S8x128 .f32 × FVec Ideal S8x128 .f32 × FVec Ideal S8x128 .f32) × List (View.Piece (Elt Ideal) S5120x512 .f32) × List (View.Piece (Elt Ideal) S4x320x128 .f32) × List (View.Piece (Elt Ideal) S4x320x128 .f32) :=
  ((tR arg2 arg11 arg12 arg13 vIota X2 X11 X12 X13 k 0 p.1.1, tR arg2 arg11 arg12 arg13 vIota X2 X11 X12 X13 k 1 p.1.2.1, tR arg2 arg11 arg12 arg13 vIota X2 X11 X12 X13 k 2 p.1.2.2.1, tR arg2 arg11 arg12 arg13 vIota X2 X11 X12 X13 k 3 p.1.2.2.2),
    tL14 arg2 arg11 arg12 arg13 vIota X2 X11 X12 X13 k ++ p.2.1, tL15 arg2 arg11 arg12 arg13 vIota X2 X11 X12 X13 k ++ p.2.2.1, tL16 arg2 arg11 arg12 arg13 vIota X2 X11 X12 X13 k ++ p.2.2.2)

/-- The carried sums after a trip are those before it and the trip's own. -/
theorem st_step (init) (k : Fin k0_t1_loop.trips) :
    st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 vIota X2 X11 X12 X13 init (k.val + 1)
      = tStep arg2 arg11 arg12 arg13 X2 X11 X12 X13 k (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 vIota X2 X11 X12 X13 init k.val) := by
  rw [st_k0_t1_succ]
  unfold tStep tripR_k0_t1 tripL_k0_t1
  rw [tL14_eq, tL15_eq, tL16_eq, tR_eq]

/-- The four sums and the lists of stores after the five trips. -/
theorem st_five (init) :
    st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 vIota X2 X11 X12 X13 init k0_t1_loop.trips
      = tStep arg2 arg11 arg12 arg13 X2 X11 X12 X13 (4 : Fin 5) (tStep arg2 arg11 arg12 arg13 X2 X11 X12 X13 (3 : Fin 5) (tStep arg2 arg11 arg12 arg13 X2 X11 X12 X13 (2 : Fin 5)
          (tStep arg2 arg11 arg12 arg13 X2 X11 X12 X13 (1 : Fin 5) (tStep arg2 arg11 arg12 arg13 X2 X11 X12 X13 (0 : Fin 5) (init, [], [], []))))) := by
  have h := st_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 X2 X11 X12 X13 init
  refine (h (4 : Fin 5)).trans (congrArg _ ?_)
  refine (h (3 : Fin 5)).trans (congrArg _ ?_)
  refine (h (2 : Fin 5)).trans (congrArg _ ?_)
  refine (h (1 : Fin 5)).trans (congrArg _ ?_)
  exact h (0 : Fin 5)

/-- Membership in the stores of five trips is membership in those of one. -/
theorem mem_five {α : Type*} (p : α) (L : Fin 5 → List α) : p ∈ L 4 ++ (L 3 ++ (L 2 ++ (L 1 ++ (L 0 ++ [])))) ↔ ∃ k, p ∈ L k := by
  simp only [List.mem_append, List.not_mem_nil, or_false]
  constructor
  · rintro (h | h | h | h | h)
    exacts [⟨4, h⟩, ⟨3, h⟩, ⟨2, h⟩, ⟨1, h⟩, ⟨0, h⟩]
  · rintro ⟨k, h⟩
    fin_cases k
    exacts [.inr (.inr (.inr (.inr h))), .inr (.inr (.inr (.inl h))), .inr (.inr (.inl h)), .inr (.inl h), .inl h]

/-- The eight groups of a trip are listed. -/
theorem mem_all8 (r : Fin 8) : r ∈ ([7,6,5,4,3,2,1,0] : List (Fin 8)) := by revert r; decide
/-- The four lane tiles are listed. -/
theorem mem_all4 (j : Fin 4) : j ∈ ([3,2,1,0] : List (Fin 4)) := by revert j; decide
/-- The two halves of a group are listed. -/
theorem mem_all2 (q : Fin 2) : q ∈ ([1,0] : List (Fin 2)) := by revert q; decide

/-- The direction matrix the loop leaves, read at an index. -/
theorem read14 (init) (f14 : BufTy.Contents (Elt Ideal) arg14.view.ty) (R : Fin 5120) (C : Fin 512) :
    arg14.view.read (Elt Ideal) (arg14.view.writes (Elt Ideal) f14 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 vIota X2 X11 X12 X13 init k0_t1_loop.trips).2.1) (ix2 R C)
      = WS arg2 arg11 arg12 arg13 X2 X11 X12 X13 R C := by
  rw [st_five]
  refine View.read_writes_apply_of_pieces arg14.view f14 (fun y : S5120x512.Idx => WS arg2 arg11 arg12 arg13 X2 X11 X12 X13 (y 0) (y 1)) _ ?_ (ix2 R C) ?_
  · intro p hp
    obtain ⟨k, hp⟩ := (mem_five p fun k : Fin 5 => tL14 (F := Ideal) arg2 arg11 arg12 arg13 vIota X2 X11 X12 X13 k).mp hp
    obtain ⟨r, -, hp⟩ := List.mem_flatMap.mp hp
    obtain ⟨j, -, hp⟩ := List.mem_flatMap.mp hp
    obtain ⟨q, -, rfl⟩ := List.mem_map.mp hp
    exact oV_ok _ _ k r j q fun a l R C hR hC => tV_apply arg2 arg11 arg12 arg13 X2 X11 X12 X13 k r j q a l R C hR hC
  · have hR := R.isLt
    have hC := C.isLt
    refine ⟨_, (mem_five _ fun k : Fin 5 => tL14 (F := Ideal) arg2 arg11 arg12 arg13 vIota X2 X11 X12 X13 k).mpr ⟨⟨R.val / 1024, by omega⟩,
      List.mem_flatMap.mpr ⟨⟨R.val / 128 % 8, by omega⟩, mem_all8 _, List.mem_flatMap.mpr ⟨⟨C.val / 128, by omega⟩, mem_all4 _, List.mem_map.mpr ⟨⟨R.val / 64 % 2, by omega⟩, mem_all2 _, rfl⟩⟩⟩⟩, ?_⟩
    refine oV_set _ _ _ _ _ _ ?_ ?_
    · show _ ≤ R.val ∧ R.val < _
      simp only
      omega
    · show _ ≤ C.val ∧ C.val < _
      simp only
      omega

/-- The minima the loop leaves, read at an index. -/
theorem read15 (init) (f15 : BufTy.Contents (Elt Ideal) arg15.view.ty) (j : Fin 4) (R : Fin 320) (l : Fin 128) :
    arg15.view.read (Elt Ideal) (arg15.view.writes (Elt Ideal) f15 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 vIota X2 X11 X12 X13 init k0_t1_loop.trips).2.2.1) (ix3 j R l)
      = ⨅ i, WS arg2 arg11 arg12 arg13 X2 X11 X12 X13 (mrow R i) (mcol j l) := by
  rw [st_five]
  refine View.read_writes_apply_of_pieces arg15.view f15 (fun y : S4x320x128.Idx => (fun j R l => ⨅ i, WS arg2 arg11 arg12 arg13 X2 X11 X12 X13 (mrow R i) (mcol j l) : Fin 4 → Fin 320 → Fin 128 → EReal) (y 0) (y 1) (y 2)) _ ?_ (ix3 j R l) ?_
  · intro p hp
    obtain ⟨k, hp⟩ := (mem_five p fun k : Fin 5 => tL15 (F := Ideal) arg2 arg11 arg12 arg13 vIota X2 X11 X12 X13 k).mp hp
    obtain ⟨r, -, hp⟩ := List.mem_flatMap.mp hp
    obtain ⟨j, -, rfl⟩ := List.mem_map.mp hp
    exact oM_ok _ (fun j R l => ⨅ i, WS arg2 arg11 arg12 arg13 X2 X11 X12 X13 (mrow R i) (mcol j l)) k r j fun a l R hR => tMin_apply arg2 arg11 arg12 arg13 X2 X11 X12 X13 k r j a l R hR
  · have hR := R.isLt
    refine ⟨_, (mem_five _ fun k : Fin 5 => tL15 (F := Ideal) arg2 arg11 arg12 arg13 vIota X2 X11 X12 X13 k).mpr ⟨⟨R.val / 64, by omega⟩,
      List.mem_flatMap.mpr ⟨⟨R.val / 8 % 8, by omega⟩, mem_all8 _, List.mem_map.mpr ⟨j, mem_all4 _, rfl⟩⟩⟩, ?_⟩
    refine oM_set _ _ _ _ _ rfl ?_
    show _ ≤ R.val ∧ R.val < _
    simp only
    omega

/-- The maxima the loop leaves, read at an index. -/
theorem read16 (init) (f16 : BufTy.Contents (Elt Ideal) arg16.view.ty) (j : Fin 4) (R : Fin 320) (l : Fin 128) :
    arg16.view.read (Elt Ideal) (arg16.view.writes (Elt Ideal) f16 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 vIota X2 X11 X12 X13 init k0_t1_loop.trips).2.2.2) (ix3 j R l)
      = ⨆ i, WS arg2 arg11 arg12 arg13 X2 X11 X12 X13 (mrow R i) (mcol j l) := by
  rw [st_five]
  refine View.read_writes_apply_of_pieces arg16.view f16 (fun y : S4x320x128.Idx => (fun j R l => ⨆ i, WS arg2 arg11 arg12 arg13 X2 X11 X12 X13 (mrow R i) (mcol j l) : Fin 4 → Fin 320 → Fin 128 → EReal) (y 0) (y 1) (y 2)) _ ?_ (ix3 j R l) ?_
  · intro p hp
    obtain ⟨k, hp⟩ := (mem_five p fun k : Fin 5 => tL16 (F := Ideal) arg2 arg11 arg12 arg13 vIota X2 X11 X12 X13 k).mp hp
    obtain ⟨r, -, hp⟩ := List.mem_flatMap.mp hp
    obtain ⟨j, -, rfl⟩ := List.mem_map.mp hp
    exact oM_ok _ (fun j R l => ⨆ i, WS arg2 arg11 arg12 arg13 X2 X11 X12 X13 (mrow R i) (mcol j l)) k r j fun a l R hR => tMax_apply arg2 arg11 arg12 arg13 X2 X11 X12 X13 k r j a l R hR
  · have hR := R.isLt
    refine ⟨_, (mem_five _ fun k : Fin 5 => tL16 (F := Ideal) arg2 arg11 arg12 arg13 vIota X2 X11 X12 X13 k).mpr ⟨⟨R.val / 64, by omega⟩,
      List.mem_flatMap.mpr ⟨⟨R.val / 8 % 8, by omega⟩, mem_all8 _, List.mem_map.mpr ⟨j, mem_all4 _, rfl⟩⟩⟩, ?_⟩
    refine oM_set _ _ _ _ _ rfl ?_
    show _ ≤ R.val ∧ R.val < _
    simp only
    omega

/-- The sum of squares of lane tile `j` over the five trips. -/
theorem tR_five (j : Fin 4) (a : Fin 8) (l : Fin 128) :
    tR (F := Ideal) arg2 arg11 arg12 arg13 vIota X2 X11 X12 X13 (4 : Fin 5) j (tR arg2 arg11 arg12 arg13 vIota X2 X11 X12 X13 (3 : Fin 5) j (tR arg2 arg11 arg12 arg13 vIota X2 X11 X12 X13 (2 : Fin 5) j
      (tR arg2 arg11 arg12 arg13 vIota X2 X11 X12 X13 (1 : Fin 5) j (tR arg2 arg11 arg12 arg13 vIota X2 X11 X12 X13 (0 : Fin 5) j k0_pay1412)))) (ix2 a l)
      = ∑ k : Fin 5, ∑ r : Fin 8, ∑ i : Fin 16, WS arg2 arg11 arg12 arg13 X2 X11 X12 X13 (srow k r i a) (mcol j l) * WS arg2 arg11 arg12 arg13 X2 X11 X12 X13 (srow k r i a) (mcol j l) := by
  rw [Fin.sum_univ_five]
  have h := tR_apply arg2 arg11 arg12 arg13 X2 X11 X12 X13
  refine (h (4 : Fin 5) j _ a l).trans (congrArg (· + _) ?_)
  refine (h (3 : Fin 5) j _ a l).trans (congrArg (· + _) ?_)
  refine (h (2 : Fin 5) j _ a l).trans (congrArg (· + _) ?_)
  refine (h (1 : Fin 5) j _ a l).trans (congrArg (· + _) ?_)
  refine (h (0 : Fin 5) j _ a l).trans ?_
  have z : k0_pay1412 (F := Ideal) (ix2 a l) = 0 := by pointwise [k0_pay1412]
  rw [z, zero_add]

/-- The running sum of lane tile `j` among the four. -/
abbrev pick (p : FVec Ideal S8x128 .f32 × FVec Ideal S8x128 .f32 × FVec Ideal S8x128 .f32 × FVec Ideal S8x128 .f32) : Fin 4 → FVec Ideal S8x128 .f32
  | 0 => p.1
  | 1 => p.2.1
  | 2 => p.2.2.1
  | 3 => p.2.2.2

/-- The four sums after the loop, read at an index. -/
theorem readR (j : Fin 4) (a : Fin 8) (l : Fin 128) :
    pick (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 vIota X2 X11 X12 X13 (k0_pay1412, k0_pay1412, k0_pay1412, k0_pay1412) k0_t1_loop.trips).1 j (ix2 a l)
      = ∑ k : Fin 5, ∑ r : Fin 8, ∑ i : Fin 16, WS arg2 arg11 arg12 arg13 X2 X11 X12 X13 (srow k r i a) (mcol j l) * WS arg2 arg11 arg12 arg13 X2 X11 X12 X13 (srow k r i a) (mcol j l) := by
  refine (congrArg (fun p => pick p.1 j (ix2 a l)) (st_five c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 X2 X11 X12 X13 _)).trans ?_
  refine Eq.trans ?_ (tR_five arg2 arg11 arg12 arg13 X2 X11 X12 X13 j a l)
  match j with
  | 0 => rfl
  | 1 => rfl
  | 2 => rfl
  | 3 => rfl

end

end Cert.KernelIdeal.Own
end
-- ==== Proof.CodeValue.lean ====
/- One lane tile of the second loop, read at an index over the extended reals: the packed codes. -/
module

public import proofs.«01_k».proof.Proof.Trip2
public import proofs.«01_k».proof.Proof.TripValue
public import Idealize.ShloMosaic.Lib.BitcastFour

@[expose] public section

set_option maxRecDepth 16384

noncomputable section

namespace Cert.KernelIdeal.Own

open Cert.KernelIdeal.Gen
open Idealize.ShloMosaic Idealize.ShloMosaic.TcCoe Idealize.ShloMosaic.Tactic

/-- A wider matrix read in narrower elements: `k` of them to a word, the lowest bits first. -/
theorem narrow_apply {v w k R r n : ℕ} (x : (⟨2, ![r, n]⟩ : Shape).Idx → BitVec v)
    (h : (⟨2, ![r, n]⟩ : Shape).Bitcasts v ⟨2, ![R, n]⟩ w) (hv : v = w * k) (hw : 0 < w) (hk : 0 < k) (a : Fin R) (l : Fin n) (p : Fin r) (hp : p.val = a.val / k) :
    bitcast ⟨2, ![R, n]⟩ w x h (ix2 a l) = (x (ix2 p l)).extractLsb' (w * (a.val % k)) w := by
  apply BitVec.eq_of_getLsbD_eq
  intro q hq
  rw [bitcast_getLsbD x h _ q hq (by rw [hv]; exact Nat.mul_pos hw hk), BitVec.getLsbD_extractLsb']
  have hrow : Shape.row (s := ⟨2, ![R, n]⟩) (ix2 a l) = a.val := rfl
  have e1 : (Shape.row (s := ⟨2, ![R, n]⟩) (ix2 a l) * w + q) / v = p.val := by
    rw [hrow, hv, ← Nat.div_div_eq_div_mul, hp, mul_comm, Nat.mul_add_div hw, Nat.div_eq_of_lt hq, add_zero]
  have e2 : (Shape.row (s := ⟨2, ![R, n]⟩) (ix2 a l) * w + q) % v = w * (a.val % k) + q := by
    rw [hrow, hv, Nat.mod_mul, mul_comm, Nat.mul_add_mod, Nat.mod_eq_of_lt hq, Nat.mul_add_div hw, Nat.div_eq_of_lt hq, add_zero, add_comm]
  rw [e2]
  simp only [hq, decide_true, Bool.true_and]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The bf16 patterns of the integers from 128 to 255. -/
theorem ofBits_code (m : ℕ) (h0 : 128 ≤ m) (h1 : m < 256) (b : BitVec 16) (hb : b.toNat = 17024 + m) : Ideal.ofBits .bf16 b = ((m : ℝ) : EReal) := by
  have e1 : (b.extractLsb' 15 1 == 1#1) = false := by
    rw [beq_eq_false_iff_ne]
    intro h
    have := congrArg BitVec.toNat h
    rw [BitVec.extractLsb'_toNat, hb, Nat.shiftRight_eq_div_pow] at this
    simp at this
    omega
  have e2 : (b.extractLsb' 7 8).toNat = 134 := by
    rw [BitVec.extractLsb'_toNat, hb, Nat.shiftRight_eq_div_pow]; omega
  have e3 : (b.extractLsb' 0 7).toNat = m - 128 := by
    rw [BitVec.extractLsb'_toNat, hb, Nat.shiftRight_eq_div_pow]; omega
  obtain ⟨k, rfl⟩ := Nat.exists_eq_add_of_le h0
  rw [Nat.add_sub_cancel_left] at e3
  show Ideal.ieee 8 7 b = _
  unfold Ideal.ieee
  simp only [Nat.reduceAdd, e1, e2, e3]
  norm_num

/-- A whole number within range, converted. -/
theorem fptosi_int (n : ℤ) (h0 : -2147483648 ≤ n) (h1 : n ≤ 2147483647) : Ideal.fptosi 32 ((n : ℝ) : EReal) = BitVec.ofInt 32 n := by
  unfold Ideal.fptosi
  rw [Ideal.toIntClamped_coe]
  congr 1
  have : (if (0 : ℝ) ≤ (n : ℝ) then ⌊(n : ℝ)⌋ else ⌈(n : ℝ)⌉) = n := by
    rw [Int.floor_intCast, Int.ceil_intCast, ite_self]
  rw [this]
  norm_num
  omega

/-- The bound of a row and a lane: the half of the lane's word that the row's parity picks. -/
theorem cBnd_apply (w : IVec S1x128 32) (a : Fin 16) (l : Fin 128) :
    cBnd (F := Ideal) w (ix2 a l) = Ideal.ofBits .bf16 ((w (ix2 0 l)).extractLsb' (16 * (a.val % 2)) 16) := by
  show Ideal.ofBits .bf16 (bitcast S16x128 16 (broadcastTo S8x128 (shapeCast S1x128 w shapeCasts_S1x128_S1x128) broadcasts_S1x128_S8x128) bitcasts_S8x128_w32_S16x128_w16 (ix2 a l)) = _
  congr 1
  refine (narrow_apply (k := 2) _ bitcasts_S8x128_w32_S16x128_w16 rfl (by decide) (by decide) a l ⟨a.val / 2, by omega⟩ rfl).trans ?_
  congr 1
  pointwise []

/-- The zero-point words of a tile repeat one row. -/
theorem cZp_apply (w : IVec S1x128 32) (a : Fin 8) (l : Fin 128) : cZp w (ix2 a l) = w (ix2 0 l) := by
  pointwise [cZp]

/-- The rounded product of a row, in sixteen bits. -/
theorem cRnd_apply (s : FVec Ideal S1x128 .f32) (v : FVec Ideal S64x128 .f32) (p : Fin 64) (l : Fin 128) (n : ℤ)
    (hr : Ideal.liftRound Ideal.roundHalfEven (v (ix2 p l) * s (ix2 0 l)) = ((n : ℝ) : EReal)) (h0 : -31 ≤ n) (h1 : n ≤ 31) :
    (cRnd s v (ix2 p l)).toNat = (17216 + n).toNat := by
  pointwise [cRnd]
  have e : FloatOps.fptosi (F := Ideal) (φ := .f32) 32 (FloatOps.roundeven (v (ix2 p l) * s (ix2 0 l))) = BitVec.ofInt 32 n :=
    (congrArg (Ideal.fptosi 32) hr).trans (fptosi_int n (by omega) (by omega))
  refine (congrArg (fun b : BitVec 32 => (BitVec.setWidth 16 (b + 1258308416#32)).toNat) e).trans ?_
  rw [BitVec.toNat_setWidth, BitVec.toNat_add, BitVec.toNat_ofInt]
  simp only [BitVec.toNat_ofNat]
  omega

/-- The clamp of a row's sixteen bits, its low byte. -/
theorem cClp_apply (lo hi : FVec Ideal S16x128 .bf16) (t : IVec S16x128 16) (a : Fin 16) (l : Fin 128) (n : ℤ) (z : ℕ) (hz : z ≤ 15)
    (h0 : -31 ≤ n) (h1 : n ≤ 31) (ht : (t (ix2 a l)).toNat = (17216 + n).toNat)
    (hlo : lo (ix2 a l) = (((192 - z : ℕ) : ℝ) : EReal)) (hhi : hi (ix2 a l) = (((207 - z : ℕ) : ℝ) : EReal)) :
    ((cClp lo hi t (ix2 a l)).setWidth 8).toNat = (64 + min (max n (-z)) (15 - z)).toNat := by
  pointwise [cClp]
  have e0 : FloatOps.ofBits (F := Ideal) .bf16 (t (ix2 a l)) = (((192 + n : ℤ) : ℝ) : EReal) := by
    refine (ofBits_code (192 + n).toNat (by omega) (by omega) _ (by rw [ht]; omega)).trans ?_
    congr 1
    have : (((192 + n).toNat : ℤ) : ℝ) = ((192 + n : ℤ) : ℝ) := by rw [Int.toNat_of_nonneg (by omega)]
    exact_mod_cast this
  have e : min (max (FloatOps.ofBits (F := Ideal) .bf16 (t (ix2 a l)) : EReal) (lo (ix2 a l))) (hi (ix2 a l)) = (((192 + min (max n (-z)) (15 - z) : ℤ) : ℝ) : EReal) := by
    rw [e0, hlo, hhi, ← EReal.coe_strictMono.monotone.map_max, ← EReal.coe_strictMono.monotone.map_min]
    congr 1
    have : (min (max (192 + n) ((192 - z : ℕ) : ℤ)) ((207 - z : ℕ) : ℤ)) = 192 + min (max n (-z)) (15 - z) := by omega
    rw [← this]
    push_cast
    rfl
  have e1 : Ideal.fptosi 32 (min (max (FloatOps.ofBits (F := Ideal) .bf16 (t (ix2 a l)) : EReal) (lo (ix2 a l))) (hi (ix2 a l))) = BitVec.ofInt 32 (192 + min (max n (-z)) (15 - z)) := by
    rw [e]; exact fptosi_int _ (by omega) (by omega)
  have : ∀ b : BitVec 32, b = BitVec.ofInt 32 (192 + min (max n (-z)) (15 - z)) → ((BitVec.setWidth 16 (b + 17024#32)).setWidth 8).toNat = (64 + min (max n (-z)) (15 - z)).toNat := by
    intro b hb
    rw [hb, BitVec.toNat_setWidth, BitVec.toNat_setWidth, BitVec.toNat_add, BitVec.toNat_ofInt]
    simp only [BitVec.toNat_ofNat]
    omega
  exact this _ e1

/-- The digits of a number in base 256. -/
theorem digits (a b c d : ℕ) (ha : a < 256) (hb : b < 256) (hc : c < 256) (hd : d < 256) (T : ℕ) (hT : T = a + 256 * (b + 256 * (c + 256 * d))) :
    T % 256 = a ∧ T / 256 % 256 = b ∧ T / 65536 % 256 = c ∧ T / 16777216 % 256 = d := by
  have h1 : T / 256 = b + 256 * (c + 256 * d) := by omega
  have h2 : T / 65536 = c + 256 * d := by rw [show 65536 = 256 * 256 by norm_num, ← Nat.div_div_eq_div_mul, h1]; omega
  have h3 : T / 16777216 = d := by rw [show 16777216 = 65536 * 256 by norm_num, ← Nat.div_div_eq_div_mul, h2]; omega
  omega

/-- A constant added to each byte of a word carries nothing when every byte leaves room. -/
theorem add_bytes (W : BitVec 32) (z : ℕ) (hz : z ≤ 15) (b : ℕ → ℕ) (hb : ∀ q, q < 4 → b q ≤ 200)
    (h : ∀ q, q < 4 → (W.extractLsb' (8 * q) 8).toNat = b q) (q : ℕ) (hq : q < 4) :
    ((W + BitVec.ofNat 32 (16843009 * z)).extractLsb' (8 * q) 8).toNat = b q + z := by
  have h0 := h 0 (by decide); have h1 := h 1 (by decide); have h2 := h 2 (by decide); have h3 := h 3 (by decide)
  have b0 := hb 0 (by decide); have b1 := hb 1 (by decide); have b2 := hb 2 (by decide); have b3 := hb 3 (by decide)
  have hW := W.isLt
  rw [BitVec.extractLsb'_toNat, Nat.shiftRight_eq_div_pow] at h0 h1 h2 h3 ⊢
  rw [BitVec.toNat_add, BitVec.toNat_ofNat]
  norm_num at h0 h1 h2 h3 ⊢
  have d1 : W.toNat / 65536 = W.toNat / 256 / 256 := by rw [Nat.div_div_eq_div_mul]
  have d2 : W.toNat / 16777216 = W.toNat / 256 / 256 / 256 := by rw [Nat.div_div_eq_div_mul, Nat.div_div_eq_div_mul]
  have dec : W.toNat = b 0 + 256 * (b 1 + 256 * (b 2 + 256 * b 3)) := by omega
  rw [Nat.mod_eq_of_lt (show W.toNat + 16843009 * z < 4294967296 by omega)]
  obtain ⟨t0, t1, t2, t3⟩ := digits (b 0 + z) (b 1 + z) (b 2 + z) (b 3 + z) (by omega) (by omega) (by omega) (by omega) (W.toNat + 16843009 * z) (by omega)
  interval_cases q
  · simpa using t0
  · simpa using t1
  · simpa using t2
  · simpa using t3

/-- The bytes of 32 rows, the zero point added. -/
theorem cByt_apply (z : IVec S8x128 32) (x y : IVec S16x128 16) (l : Fin 128) (zz : ℕ) (hz : zz ≤ 15) (b : ℕ → ℕ) (hb : ∀ q, b q ≤ 200)
    (hx : ∀ a : Fin 16, ((x (ix2 a l)).setWidth 8).toNat = b a.val) (hy : ∀ a : Fin 16, ((y (ix2 a l)).setWidth 8).toNat = b (16 + a.val))
    (hzw : ∀ a : Fin 8, z (ix2 a l) = BitVec.ofNat 32 (16843009 * zz)) (p : Fin 32) :
    (cByt z x y (ix2 p l)).toNat = b p.val + zz := by
  unfold cByt
  rw [show bitcast S32x128 8 _ bitcasts_S8x128_w32_S32x128_w8 (ix2 p l) = _ from narrow_apply (k := 4) _ bitcasts_S8x128_w32_S32x128_w8 rfl (by decide) (by decide) p l ⟨p.val / 4, by omega⟩ rfl]
  have hbyte : ∀ r : Fin 32, ((trunci 8 (concatenate S32x128 0 [⟨S16x128, x⟩, ⟨S16x128, y⟩] concatenates_S16x128_S16x128_S32x128_d0) natLt_8_16) (ix2 r l)).toNat = b r.val := by
    intro r
    show (BitVec.setWidth 8 (concatenate S32x128 0 [⟨S16x128, x⟩, ⟨S16x128, y⟩] concatenates_S16x128_S16x128_S32x128_d0 (ix2 r l))).toNat = _
    pointwise []
    by_cases hr : r.val < 16
    · rw [dif_pos hr]
      exact hx ⟨r.val, hr⟩
    · rw [dif_neg hr, hy ⟨r.val - 16, by omega⟩]
      show b (16 + (r.val - 16)) = _
      rw [show 16 + (r.val - 16) = r.val by omega]
  show ((bitcast S8x128 32 _ bitcasts_S32x128_w8_S8x128_w32 (ix2 ⟨p.val / 4, _⟩ l) + z (ix2 ⟨p.val / 4, _⟩ l)).extractLsb' (8 * (p.val % 4)) 8).toNat = _
  rw [hzw]
  refine (add_bytes _ zz hz (fun q => b (4 * (p.val / 4) + q)) (fun q _ => hb _) ?_ (p.val % 4) (by omega)).trans ?_
  · intro q hq
    rw [← hbyte ⟨4 * (p.val / 4) + q, by omega⟩]
    congr 1
    apply BitVec.eq_of_getLsbD_eq
    intro i hi
    rw [BitVec.getLsbD_extractLsb']
    simp only [hi, decide_true, Bool.true_and]
    refine (bitcast_8_32_getLsbD_ix2 _ bitcasts_S32x128_w8_S8x128_w32 _ l (8 * q + i) (by omega) ⟨4 * (p.val / 4) + q, by omega⟩ (by show _ = _; simp only; omega)).trans ?_
    rw [show (8 * q + i) % 8 = i by omega]
    rfl
  · show b _ + zz = b _ + zz
    rw [show 4 * (p.val / 4) + p.val % 4 = p.val by omega]

/-- The clipped code of a rounded quotient. -/
def clipCode (n : ℤ) (z : ℕ) : ℕ := (min (max (n + z) 0) 15).toNat

/-- The bytes of the 64 rows. -/
theorem cAll_apply (lo hi : FVec Ideal S16x128 .bf16) (z : IVec S8x128 32) (t : IVec S64x128 16) (l : Fin 128) (n : ℕ → ℤ) (zz : ℕ) (hz : zz ≤ 15)
    (hn : ∀ p, -31 ≤ n p ∧ n p ≤ 31) (ht : ∀ p : Fin 64, (t (ix2 p l)).toNat = (17216 + n p.val).toNat)
    (hlo : ∀ a : Fin 16, lo (ix2 a l) = (((192 - zz : ℕ) : ℝ) : EReal)) (hhi : ∀ a : Fin 16, hi (ix2 a l) = (((207 - zz : ℕ) : ℝ) : EReal))
    (hzw : ∀ a : Fin 8, z (ix2 a l) = BitVec.ofNat 32 (16843009 * zz)) (a : Fin 32) (e : Fin 2) :
    cAll lo hi z t (ix3 a e l) = BitVec.ofNat 32 (64 + clipCode (n (2 * a.val + e.val)) zz) := by
  have hc : ∀ (o : ℕ) (h : S64x128.Slices ![o, 0] S16x128) (p : Fin 16),
      ((cClp lo hi (extractStridedSlice S16x128 ![o, 0] t h) (ix2 p l)).setWidth 8).toNat = (64 + min (max (n (o + p.val)) (-zz)) (15 - zz)).toNat := by
    intro o h p
    have ho : o + 16 ≤ 64 := h.2 0
    refine cClp_apply lo hi _ p l _ zz hz (hn _).1 (hn _).2 ?_ (hlo p) (hhi p)
    rw [← ht ⟨o + p.val, by omega⟩]
    congr 2
    pointwise []
  have hb : ∀ (o : ℕ) (h1 : S64x128.Slices ![o, 0] S16x128) (h2 : S64x128.Slices ![o + 16, 0] S16x128) (p : Fin 32),
      (cByt z (cClp lo hi (extractStridedSlice S16x128 ![o, 0] t h1)) (cClp lo hi (extractStridedSlice S16x128 ![o + 16, 0] t h2)) (ix2 p l)).toNat = 64 + clipCode (n (o + p.val)) zz := by
    intro o h1 h2 p
    refine (cByt_apply z _ _ l zz hz (fun q => (64 + min (max (n (o + q)) (-zz)) (15 - zz)).toNat) (fun q => by have := hn (o + q); omega) (fun a => hc o h1 a) (fun a => ?_) hzw p).trans ?_
    · refine (hc (o + 16) h2 a).trans ?_
      rw [add_assoc]
    · unfold clipCode
      have := hn (o + p.val)
      show (64 + min (max (n (o + p.val)) (-zz)) (15 - zz)).toNat + zz = _
      omega
  pointwise [cAll]
  have hx : ∀ (b : BitVec 8) (c : ℕ), b.toNat = 64 + clipCode (n c) zz → b.signExtend 32 = BitVec.ofNat 32 (64 + clipCode (n c) zz) := by
    intro b c h
    have hc : clipCode (n c) zz ≤ 15 := by unfold clipCode; omega
    rw [BitVec.signExtend_eq_setWidth_of_msb_false (by rw [BitVec.msb_eq_false_iff_two_mul_lt]; omega)]
    apply BitVec.eq_of_toNat_eq
    rw [BitVec.toNat_setWidth, BitVec.toNat_ofNat, h]
  rw [show 2 * a.val + e.val = a.val * 2 + e.val by omega]
  by_cases h : a.val * 2 + e.val < 32
  · rw [dif_pos h]
    refine hx _ _ ((hb 0 _ _ ⟨a.val * 2 + e.val, h⟩).trans ?_)
    rw [zero_add]
  · rw [dif_neg h]
    refine hx _ _ ((hb 32 _ _ ⟨a.val * 2 + e.val - 32, by omega⟩).trans ?_)
    show 64 + clipCode (n (32 + (a.val * 2 + e.val - 32))) zz = _
    rw [show 32 + (a.val * 2 + e.val - 32) = a.val * 2 + e.val by omega]

/-- A packed byte: the even row's code in the low nibble, the odd row's in the high. -/
theorem cPak_apply (x : IVec S32x2x128 32) (a : Fin 32) (l : Fin 128) (c d : ℕ) (hc : c ≤ 15) (hd : d ≤ 15)
    (h0 : x (ix3 a 0 l) = BitVec.ofNat 32 (64 + c)) (h1 : x (ix3 a 1 l) = BitVec.ofNat 32 (64 + d)) :
    cPak x (ix3 0 a l) = BitVec.ofNat 8 (c + 16 * d) := by
  have e : cPak x (ix3 0 a l) = BitVec.setWidth 8 (IntOp.ori (IntOp.andi (x (ix3 a 0 l)) 15#32) (IntOp.shli .vector (IntOp.andi (x (ix3 a 1 l)) 15#32) 4#32)) := by
    pointwise [cPak]
  rw [e, h0, h1]
  clear e h0 h1
  interval_cases c <;> interval_cases d <;> rfl

/-- The packed codes of a lane tile: of each pair of rows the even row's code in the low four bits. -/
theorem cCode_apply (s : FVec Ideal S1x128 .f32) (lo hi z : IVec S1x128 32) (v : FVec Ideal S64x128 .f32) (l : Fin 128) (n : ℕ → ℤ) (zz : ℕ) (hz : zz ≤ 15)
    (hn : ∀ p, -31 ≤ n p ∧ n p ≤ 31)
    (hr : ∀ p : Fin 64, Ideal.liftRound Ideal.roundHalfEven (v (ix2 p l) * s (ix2 0 l)) = ((n p.val : ℝ) : EReal))
    (hlo : lo (ix2 0 l) = BitVec.ofNat 32 (65537 * (17216 - zz))) (hhi : hi (ix2 0 l) = BitVec.ofNat 32 (65537 * (17231 - zz)))
    (hzw : z (ix2 0 l) = BitVec.ofNat 32 (16843009 * zz)) (a : Fin 32) :
    cCode s lo hi z v (ix3 0 a l) = BitVec.ofNat 8 (clipCode (n (2 * a.val)) zz + 16 * clipCode (n (2 * a.val + 1)) zz) := by
  have hb : ∀ (w : BitVec 32) (m : ℕ) (q : ℕ), q < 2 → 128 ≤ m → m < 256 → w = BitVec.ofNat 32 (65537 * (17024 + m)) → Ideal.ofBits .bf16 (w.extractLsb' (16 * q) 16) = ((m : ℝ) : EReal) := by
    intro w m q hq h0 h1 hw
    refine ofBits_code m h0 h1 _ ?_
    rw [BitVec.extractLsb'_toNat, hw, BitVec.toNat_ofNat, Nat.shiftRight_eq_div_pow]
    interval_cases q
    · norm_num; omega
    · have h2 : (65537 * (17024 + m)) % 2 ^ 32 = 65537 * (17024 + m) := Nat.mod_eq_of_lt (by norm_num; omega)
      have h3 : 65537 * (17024 + m) / 2 ^ 16 = 17024 + m := by norm_num; omega
      rw [h2, Nat.mul_one, h3]
      exact Nat.mod_eq_of_lt (by norm_num; omega)
  have hall := fun e : Fin 2 => cAll_apply (cBnd lo) (cBnd hi) (cZp z) (cRnd s v) l n zz hz hn
    (fun p => cRnd_apply s v p l (n p.val) (hr p) (hn _).1 (hn _).2)
    (fun a => (cBnd_apply lo a l).trans (hb _ (192 - zz) (a.val % 2) (by omega) (by omega) (by omega) (by rw [hlo, show 17216 - zz = 17024 + (192 - zz) by omega])))
    (fun a => (cBnd_apply hi a l).trans (hb _ (207 - zz) (a.val % 2) (by omega) (by omega) (by omega) (by rw [hhi, show 17231 - zz = 17024 + (207 - zz) by omega])))
    (fun a => (cZp_apply z a l).trans hzw) a e
  exact cPak_apply _ a l _ _ (by unfold clipCode; omega) (by unfold clipCode; omega) (hall 0) (hall 1)

end Cert.KernelIdeal.Own
end
-- ==== Proof.Group.lean ====
/- One group of 128 weights of a column: the least and the greatest weight, the scale, the zero point and the codes, and why
   the kernel's rounded products and its substituted zero point give the same codes. -/
module

public import proofs.«01_k».proof.Proof.CodeValue

@[expose] public section

noncomputable section

namespace Cert.Group

open Cert.KernelIdeal.Own (clipCode)
open Idealize.ShloMosaic

/-- Rounding to the nearest integer, ties to even. -/
abbrev rnd : EReal → EReal := Ideal.liftRound Ideal.roundHalfEven

/-- The least of the scaled weights. -/
def lo (v : Fin 128 → EReal) (k : EReal) : EReal := ⨅ t, v t * k
/-- The greatest of the scaled weights. -/
def hi (v : Fin 128 → EReal) (k : EReal) : EReal := ⨆ t, v t * k
/-- The scale. -/
def osf (v : Fin 128 → EReal) (k : EReal) : EReal := if hi v k = lo v k then 1 else Ideal.div (hi v k - lo v k) 15
/-- The zero point. -/
def zr (v : Fin 128 → EReal) (k : EReal) : EReal := min 15 (max 0 (rnd (Ideal.div (-lo v k) (osf v k))))
/-- The code of weight `t`. -/
def code (v : Fin 128 → EReal) (k : EReal) (t : Fin 128) : EReal := min 15 (max 0 (rnd (Ideal.div (v t * k) (osf v k)) + zr v k))

/-- The natural number a small extended real is. -/
def toN (x : EReal) : ℕ := ⌊x.toReal⌋₊

/-- `toN` undoes the coercion of a natural number. -/
theorem toN_coe (n : ℕ) : toN ((n : ℝ) : EReal) = n := by
  unfold toN
  rw [EReal.toReal_coe]
  exact Nat.floor_natCast n

/-- A real above 15.5 rounds to 16 or more. -/
theorem round_ge (r : ℝ) (h : 15.5 < r) : 16 ≤ Ideal.roundHalfEven r := by
  unfold Ideal.roundHalfEven
  dsimp only
  have h1 := Int.floor_le r
  have h2 := Int.lt_floor_add_one r
  have h3 : 15 ≤ ⌊r⌋ := Int.le_floor.mpr (by push_cast; linarith)
  rcases eq_or_lt_of_le h3 with h4 | h4
  · rw [← h4]
    rw [← h4] at h2
    norm_num at h2 ⊢
    split_ifs <;> first | omega | (exfalso; linarith)
  · split_ifs <;> omega

/-- A real below -15.5 rounds to -16 or less. -/
theorem round_le (r : ℝ) (h : r < -15.5) : Ideal.roundHalfEven r ≤ -16 := by
  unfold Ideal.roundHalfEven
  dsimp only
  have h1 := Int.floor_le r
  have h2 := Int.lt_floor_add_one r
  have h3 : ⌊r⌋ < -15 := Int.floor_lt.mpr (by push_cast; linarith)
  rcases eq_or_lt_of_le (show ⌊r⌋ ≤ -16 by omega) with h4 | h4
  · rw [h4]
    rw [h4] at h1
    norm_num at h1 ⊢
    split_ifs <;> first | omega | (exfalso; linarith)
  · split_ifs <;> omega

/-- Rounding moves a real by no more than the half, so a small real rounds to a small integer. -/
theorem round_small (r : ℝ) (h0 : -30.5 ≤ r) (h1 : r ≤ 30.5) : -31 ≤ Ideal.roundHalfEven r ∧ Ideal.roundHalfEven r ≤ 31 := by
  unfold Ideal.roundHalfEven
  dsimp only
  have h3 : -31 ≤ ⌊r⌋ := Int.le_floor.mpr (by push_cast; linarith)
  have h4 : ⌊r⌋ < 31 := Int.floor_lt.mpr (by push_cast; linarith)
  split_ifs <;> omega

/-- `round_ge` on the extended reals. -/
theorem rnd_ge (x : EReal) (h : (15.5 : ℝ) < x) : (16 : ℝ) ≤ rnd x := by
  induction x using EReal.rec with
  | bot => exact absurd h (not_lt.mpr bot_le)
  | top => exact le_top
  | coe r => exact EReal.coe_le_coe_iff.mpr (by exact_mod_cast round_ge r (EReal.coe_lt_coe_iff.mp h))

/-- `round_le` on the extended reals. -/
theorem rnd_le (x : EReal) (h : x < ((-15.5 : ℝ) : EReal)) : rnd x ≤ ((-16 : ℝ) : EReal) := by
  induction x using EReal.rec with
  | bot => exact bot_le
  | top => exact absurd h (not_lt.mpr le_top)
  | coe r => exact EReal.coe_le_coe_iff.mpr (by exact_mod_cast round_le r (EReal.coe_lt_coe_iff.mp h))

/-- Clamping between 0 and 15. -/
def clip (x : EReal) : EReal := min 15 (max 0 x)

/-- Fifteen as a coerced real. -/
theorem c15 : (15 : EReal) = ((15 : ℝ) : EReal) := by norm_cast

/-- Clipping an integer to 0..15. -/
theorem clip_int (n : ℤ) : clip ((n : ℝ) : EReal) = (((min (max n 0) 15).toNat : ℝ) : EReal) := by
  have e : (((min (max n 0) 15).toNat : ℝ)) = ((min (max n 0) 15 : ℤ) : ℝ) := by
    have : ((min (max n 0) 15).toNat : ℤ) = min (max n 0) 15 := Int.toNat_of_nonneg (by omega)
    exact_mod_cast congrArg (fun z : ℤ => (z : ℝ)) this
  rw [e]
  unfold clip
  have h15 : (15 : EReal) = (((15 : ℤ) : ℝ) : EReal) := by rw [c15]; norm_num
  have h0 : (0 : EReal) = (((0 : ℤ) : ℝ) : EReal) := by norm_num
  rw [h15, h0]
  have hm : Monotone (fun z : ℤ => ((z : ℝ) : EReal)) := fun a b h => EReal.coe_le_coe_iff.mpr (by exact_mod_cast h)
  rw [← hm.map_max, ← hm.map_min]
  rw [max_comm, min_comm]

/-- What is 15 or more clips to 15. -/
theorem clip_high (x : EReal) (h : ((15 : ℝ) : EReal) ≤ x) : clip x = ((15 : ℕ) : ℝ) := by
  unfold clip
  have : (15 : EReal) = (((15 : ℕ) : ℝ) : EReal) := by rw [c15]; norm_num
  rw [min_eq_left, this]
  exact le_max_of_le_right (le_trans (le_of_eq c15) h)

/-- What is 0 or less clips to 0. -/
theorem clip_low (x : EReal) (h : x ≤ 0) : clip x = ((0 : ℕ) : ℝ) := by
  unfold clip
  rw [max_eq_left h, min_eq_right (by norm_num)]
  norm_num

/-- A rounded and clipped value is a natural number up to 15. -/
theorem clip_rnd (y : EReal) : ∃ z : ℕ, z ≤ 15 ∧ clip (rnd y) = ((z : ℝ) : EReal) := by
  induction y using EReal.rec with
  | bot => exact ⟨0, by omega, clip_low _ bot_le⟩
  | top => exact ⟨15, le_refl _, clip_high _ le_top⟩
  | coe r => exact ⟨_, by omega, (congrArg clip (Ideal.liftRound_coe _ _)).trans (clip_int _)⟩

/-- The heart of a group: from the quotients `x`, between `a` and `b`, which are no more than 15 apart. -/
theorem core (x : Fin 128 → EReal) (a b : EReal) (ha : ∀ t, a ≤ x t) (hb : ∀ t, x t ≤ b) (hab : b ≤ a + ((15 : ℝ) : EReal)) :
    ∃ (N : Fin 128 → ℤ) (Z zn : ℕ), (∀ t, -31 ≤ N t ∧ N t ≤ 31) ∧ Z ≤ 15 ∧ zn ≤ 15 ∧ clip (rnd (-a)) = ((zn : ℝ) : EReal)
      ∧ (∀ t, rnd (if ((15.5 : ℝ) : EReal) < a ∨ b < ((-15.5 : ℝ) : EReal) then 0 else x t) = ((N t : ℝ) : EReal))
      ∧ (if ((15.5 : ℝ) : EReal) < a then 15 else if b < ((-15.5 : ℝ) : EReal) then 0 else clip (rnd (-a))) = ((Z : ℝ) : EReal)
      ∧ ∀ t, clip (rnd (x t) + clip (rnd (-a))) = ((clipCode (N t) Z : ℝ) : EReal) := by
  have r0 : rnd 0 = (((0 : ℤ) : ℝ) : EReal) := by
    show Ideal.liftRound _ ((0 : ℝ) : EReal) = _
    rw [Ideal.liftRound_coe]
    simp [Ideal.roundHalfEven]
  by_cases h1 : ((15.5 : ℝ) : EReal) < a
  · have z0 : clip (rnd (-a)) = ((0 : ℕ) : ℝ) := clip_low _ (le_trans (rnd_le _ (by
      rw [show ((-15.5 : ℝ) : EReal) = -((15.5 : ℝ) : EReal) from EReal.coe_neg _]; exact EReal.neg_lt_neg_iff.mpr h1)) (by
        rw [← EReal.coe_zero]; exact EReal.coe_le_coe_iff.mpr (by norm_num)))
    refine ⟨fun _ => 0, 15, 0, fun _ => ⟨by norm_num, by norm_num⟩, le_refl _, by omega, z0, fun t => ?_, ?_, fun t => ?_⟩
    · rw [if_pos (Or.inl h1)]; exact r0
    · rw [if_pos h1, c15]; norm_num
    · rw [z0]
      have : ((clipCode 0 15 : ℕ) : ℝ) = ((15 : ℕ) : ℝ) := congrArg (fun n : ℕ => (n : ℝ)) (show clipCode 0 15 = 15 by decide)
      rw [this]
      refine clip_high _ ?_
      have := rnd_ge _ (lt_of_lt_of_le h1 (ha t))
      rw [Nat.cast_zero, EReal.coe_zero, add_zero]
      exact le_trans (EReal.coe_le_coe_iff.mpr (by norm_num)) this
  · by_cases h2 : b < ((-15.5 : ℝ) : EReal)
    · obtain ⟨zn, hz, hzn⟩ := clip_rnd (-a)
      refine ⟨fun _ => 0, 0, zn, fun _ => ⟨by norm_num, by norm_num⟩, by omega, hz, hzn, fun t => ?_, ?_, fun t => ?_⟩
      · rw [if_pos (Or.inr h2)]; exact r0
      · rw [if_neg h1, if_pos h2]; norm_num
      · rw [hzn]
        have : ((clipCode 0 0 : ℕ) : ℝ) = ((0 : ℕ) : ℝ) := by norm_num [clipCode]
        rw [this]
        refine clip_low _ ?_
        have h3 := rnd_le _ (lt_of_le_of_lt (hb t) h2)
        refine le_trans (add_le_add_left h3 _) ?_
        rw [← EReal.coe_add, ← EReal.coe_zero]
        refine EReal.coe_le_coe_iff.mpr ?_
        have : (zn : ℝ) ≤ 15 := by exact_mod_cast hz
        linarith
    · have hA : ∃ r : ℝ, a = (r : EReal) := by
        induction a using EReal.rec with
        | bot => exact absurd (lt_of_le_of_lt (le_trans hab (le_of_eq (EReal.bot_add _))) (EReal.bot_lt_coe _)) h2
        | top => exact absurd (EReal.coe_lt_top _) h1
        | coe r => exact ⟨r, rfl⟩
      obtain ⟨r, rfl⟩ := hA
      have h1' : r ≤ 15.5 := not_lt.mp (fun h => h1 (EReal.coe_lt_coe_iff.mpr h))
      have h3 : ((-15.5 : ℝ) : EReal) ≤ ((r + 15 : ℝ) : EReal) := le_trans (not_lt.mp h2) hab
      have h3' : -15.5 ≤ r + 15 := EReal.coe_le_coe_iff.mp h3
      have hX : ∀ t, ∃ y : ℝ, x t = (y : EReal) ∧ r ≤ y ∧ y ≤ r + 15 := by
        intro t
        have e1 := ha t
        have e2 : x t ≤ ((r + 15 : ℝ) : EReal) := le_trans (hb t) hab
        generalize x t = w at e1 e2
        induction w using EReal.rec with
        | bot => exact absurd (lt_of_lt_of_le (EReal.bot_lt_coe _) e1) (lt_irrefl _)
        | top => exact absurd (lt_of_le_of_lt e2 (EReal.coe_lt_top _)) (lt_irrefl _)
        | coe y => exact ⟨y, rfl, EReal.coe_le_coe_iff.mp e1, EReal.coe_le_coe_iff.mp e2⟩
      choose y hy hy1 hy2 using hX
      have e0 : rnd (-((r : ℝ) : EReal)) = (((Ideal.roundHalfEven (-r) : ℤ) : ℝ) : EReal) := by
        rw [← EReal.coe_neg]; exact Ideal.liftRound_coe _ _
      refine ⟨fun t => Ideal.roundHalfEven (y t), (min (max (Ideal.roundHalfEven (-r)) 0) 15).toNat, (min (max (Ideal.roundHalfEven (-r)) 0) 15).toNat,
        fun t => round_small _ (by have := hy1 t; have := hy2 t; linarith) (by have := hy1 t; have := hy2 t; linarith), by omega, by omega, ?_, fun t => ?_, ?_, fun t => ?_⟩
      · rw [e0, clip_int]
      · rw [if_neg (by rintro (h | h); exact h1 h; exact h2 h), hy t]; exact Ideal.liftRound_coe _ _
      · rw [if_neg h1, if_neg h2, e0, clip_int]
      · rw [e0, clip_int, hy t]
        refine (congrArg (fun w => clip (w + _)) (Ideal.liftRound_coe _ _)).trans ?_
        rw [← EReal.coe_add, show ((Ideal.roundHalfEven (y t) : ℤ) : ℝ) + (((min (max (Ideal.roundHalfEven (-r)) 0) 15).toNat : ℕ) : ℝ)
          = ((Ideal.roundHalfEven (y t) + ((min (max (Ideal.roundHalfEven (-r)) 0) 15).toNat : ℕ) : ℤ) : ℝ) by push_cast; rfl, clip_int]
        rfl

/-- The least of the scaled weights of a group, from the extremes of the unscaled ones: the factor may have either sign. -/
theorem lo_eq (v : Fin 128 → EReal) (k : EReal) : min ((⨅ t, v t) * k) ((⨆ t, v t) * k) = lo v k := by
  obtain ⟨t0, h0⟩ := exists_eq_ciInf_of_finite (f := v)
  obtain ⟨t1, h1⟩ := exists_eq_ciSup_of_finite (f := v)
  refine le_antisymm ?_ ?_
  · refine le_iInf fun t => ?_
    rcases le_total 0 k with hk | hk
    · exact min_le_of_left_le (mul_le_mul_of_nonneg_right (iInf_le v t) hk)
    · refine min_le_of_right_le ?_
      have h := mul_le_mul_of_nonneg_right (le_iSup v t) (show 0 ≤ -k by rw [← neg_zero]; exact EReal.neg_le_neg_iff.mpr hk)
      rw [mul_comm _ (-k), mul_comm _ (-k), EReal.neg_mul, EReal.neg_mul] at h
      rw [mul_comm _ k, mul_comm _ k]
      exact EReal.neg_le_neg_iff.mp h
  · rw [← h0, ← h1]
    exact le_min (iInf_le _ _) (iInf_le _ _)

/-- The greatest of the scaled weights of a group, from the extremes of the unscaled ones. -/
theorem hi_eq (v : Fin 128 → EReal) (k : EReal) : max ((⨅ t, v t) * k) ((⨆ t, v t) * k) = hi v k := by
  obtain ⟨t0, h0⟩ := exists_eq_ciInf_of_finite (f := v)
  obtain ⟨t1, h1⟩ := exists_eq_ciSup_of_finite (f := v)
  refine le_antisymm ?_ ?_
  · rw [← h0, ← h1]
    exact max_le (le_iSup (fun t => v t * k) _) (le_iSup (fun t => v t * k) _)
  · refine iSup_le fun t => ?_
    rcases le_total 0 k with hk | hk
    · exact le_max_of_le_right (mul_le_mul_of_nonneg_right (le_iSup v t) hk)
    · refine le_max_of_le_left ?_
      have h := mul_le_mul_of_nonneg_right (iInf_le v t) (show 0 ≤ -k by rw [← neg_zero]; exact EReal.neg_le_neg_iff.mpr hk)
      rw [mul_comm _ (-k), mul_comm _ (-k), EReal.neg_mul, EReal.neg_mul] at h
      rw [mul_comm _ k, mul_comm _ k]
      exact EReal.neg_le_neg_iff.mp h

/-- The reciprocal of the scale is a real number that is not negative, and it brings the two extremes within 15 of each other. -/
theorem scale (a b : EReal) (h : a ≤ b) : ∃ u : ℝ, 0 ≤ u ∧ (∀ x, Ideal.div x (if b = a then 1 else Ideal.div (b - a) 15) = x * (u : EReal))
    ∧ b * (u : EReal) ≤ a * (u : EReal) + ((15 : ℝ) : EReal) := by
  by_cases e : b = a
  · refine ⟨1, by norm_num, fun x => ?_, ?_⟩
    · rw [if_pos e]
      unfold Ideal.div
      rw [if_neg (by norm_num)]
      norm_num
    · rw [e]
      refine le_trans (le_of_eq (add_zero _).symm) (add_le_add_right (by rw [← EReal.coe_zero]; exact EReal.coe_le_coe_iff.mpr (by norm_num)) _)
  · rw [if_neg e]
    have hlt : a < b := lt_of_le_of_ne h (Ne.symm e)
    have d15 : ∀ y : EReal, Ideal.div y 15 = y * (((15 : ℝ)⁻¹ : ℝ) : EReal) := by
      intro y
      unfold Ideal.div
      rw [if_neg (by norm_num), c15, EReal.coe_inv]
    by_cases hT : b - a = ⊤
    · refine ⟨0, le_refl _, fun x => ?_, ?_⟩
      · rw [d15, hT, EReal.top_mul_coe_of_pos (by norm_num)]
        unfold Ideal.div
        rw [if_neg (by exact EReal.top_ne_zero), EReal.inv_top, EReal.coe_zero]
      · rw [EReal.coe_zero, mul_zero, mul_zero, zero_add, ← EReal.coe_zero]
        exact EReal.coe_le_coe_iff.mpr (by norm_num)
    · induction a using EReal.rec with
      | top => exact absurd hlt (not_lt.mpr le_top)
      | bot =>
        exfalso
        apply hT
        induction b using EReal.rec with
        | bot => exact absurd rfl e
        | top => rfl
        | coe y => exact EReal.coe_sub_bot y
      | coe p =>
        induction b using EReal.rec with
        | bot => exact absurd hlt (not_lt.mpr bot_le)
        | top => exact absurd (EReal.top_sub_coe p) hT
        | coe q =>
          have hpq : p < q := EReal.coe_lt_coe_iff.mp hlt
          have hs : 0 < (q - p) * (15 : ℝ)⁻¹ := mul_pos (by linarith) (by norm_num)
          refine ⟨((q - p) * (15 : ℝ)⁻¹)⁻¹, le_of_lt (inv_pos.mpr hs), fun x => ?_, ?_⟩
          · rw [d15, ← EReal.coe_sub, ← EReal.coe_mul]
            unfold Ideal.div
            rw [if_neg (by rw [← EReal.coe_zero]; exact fun h => (ne_of_gt hs) (EReal.coe_eq_coe_iff.mp h)), EReal.coe_inv]
          · rw [← EReal.coe_mul, ← EReal.coe_mul, ← EReal.coe_add]
            refine EReal.coe_le_coe_iff.mpr (le_of_eq ?_)
            have : q - p ≠ 0 := by linarith
            field_simp
            ring

/-- What the kernel makes of a group is what the definitions say. -/
theorem group (v : Fin 128 → EReal) (k : EReal) :
    ∃ (N : Fin 128 → ℤ) (Z zn : ℕ), (∀ t, -31 ≤ N t ∧ N t ≤ 31) ∧ Z ≤ 15 ∧ zn ≤ 15 ∧ zr v k = ((zn : ℝ) : EReal)
      ∧ min 15 (max 0 (rnd (0 - Ideal.div (lo v k) (osf v k)))) = ((zn : ℝ) : EReal)
      ∧ (∀ t, rnd (v t * (if ((15.5 : ℝ) : EReal) < Ideal.div (lo v k) (osf v k) ∨ Ideal.div (hi v k) (osf v k) < ((-15.5 : ℝ) : EReal) then 0 else Ideal.div k (osf v k))) = ((N t : ℝ) : EReal))
      ∧ (if ((15.5 : ℝ) : EReal) < Ideal.div (lo v k) (osf v k) then 15 else if Ideal.div (hi v k) (osf v k) < ((-15.5 : ℝ) : EReal) then 0
          else min 15 (max 0 (rnd (0 - Ideal.div (lo v k) (osf v k))))) = ((Z : ℝ) : EReal)
      ∧ ∀ t, code v k t = ((clipCode (N t) Z : ℝ) : EReal) := by
  have hle : lo v k ≤ hi v k := le_trans (iInf_le _ 0) (le_iSup (fun t => v t * k) 0)
  obtain ⟨u, hu, hdiv, h15⟩ := scale (lo v k) (hi v k) hle
  have hd : ∀ x, Ideal.div x (osf v k) = x * (u : EReal) := hdiv
  have hu' : (0 : EReal) ≤ (u : EReal) := by rw [← EReal.coe_zero]; exact EReal.coe_le_coe_iff.mpr hu
  obtain ⟨N, Z, zn, c1, c2, c3, c4, c5, c6, c7⟩ := core (fun t => v t * k * (u : EReal)) (lo v k * u) (hi v k * u)
    (fun t => mul_le_mul_of_nonneg_right (iInf_le _ t) hu') (fun t => mul_le_mul_of_nonneg_right (le_iSup (fun t => v t * k) t) hu') h15
  have hz : zr v k = clip (rnd (-(lo v k * u))) := by
    unfold zr clip
    rw [hd, EReal.neg_mul]
  have hz0 : (0 : EReal) - lo v k * u = -(lo v k * u) := zero_sub _
  refine ⟨N, Z, zn, c1, c2, c3, hz.trans c4, ?_, fun t => ?_, ?_, fun t => ?_⟩
  · rw [hd, hz0]; exact c4
  · rw [← c5 t, hd, hd, hd]
    split_ifs
    · rw [mul_zero]
    · rw [mul_assoc]
  · rw [hd, hd, hz0]; exact c6
  · rw [← c7 t]
    unfold code
    rw [hz, hd]
    rfl

end Cert.Group
end
-- ==== Proof.Trip2Value.lean ====
/- The second loop over the extended reals: the packed codes of the block after the five trips. -/
module

public import proofs.«01_k».proof.Proof.CodeValue

@[expose] public section

set_option maxRecDepth 16384

noncomputable section

namespace Cert.KernelIdeal.Own

open Cert.KernelIdeal.Gen
open Idealize.ShloMosaic Idealize.ShloMosaic.TcCoe Idealize.ShloMosaic.Tactic

/-! Where each lane tile reads and stores: its rows of parameters, its rows of the matrix, its packed rows. -/

/-- Lane tile 0: the rows of parameters, … -/
theorem off18_eq : ∀ k : Fin k0_t2_loop.trips, k0_off18 k = ![8 * k.val, 0] := by decide +kernel
/-- … the rows of the matrix, … -/
theorem off19_eq : ∀ (k : Fin k0_t2_loop.trips) (r : Fin 8) (q : Fin 2), k0_off19 k (wG r) (wQ q) = ![1024 * k.val + 128 * r.val + 64 * q.val, 0] := by decide +kernel
/-- … and the packed rows. -/
theorem off20_eq : ∀ (k : Fin k0_t2_loop.trips) (r : Fin 8) (q : Fin 2), k0_off20 k (wG r) (wP q) = ![0, 512 * k.val + 64 * r.val + 32 * q.val, 0] := by decide +kernel
/-- Lane tile 1: the rows of parameters, … -/
theorem off21_eq : ∀ k : Fin k0_t2_loop.trips, k0_off21 k = ![8 * k.val, 128] := by decide +kernel
/-- … the rows of the matrix, … -/
theorem off22_eq : ∀ (k : Fin k0_t2_loop.trips) (r : Fin 8) (q : Fin 2), k0_off22 k (wG r) (wQ q) = ![1024 * k.val + 128 * r.val + 64 * q.val, 128] := by decide +kernel
/-- … and the packed rows. -/
theorem off23_eq : ∀ (k : Fin k0_t2_loop.trips) (r : Fin 8) (q : Fin 2), k0_off23 k (wG r) (wP q) = ![0, 512 * k.val + 64 * r.val + 32 * q.val, 128] := by decide +kernel
/-- Lane tile 2: the rows of parameters, … -/
theorem off24_eq : ∀ k : Fin k0_t2_loop.trips, k0_off24 k = ![8 * k.val, 256] := by decide +kernel
/-- … the rows of the matrix, … -/
theorem off25_eq : ∀ (k : Fin k0_t2_loop.trips) (r : Fin 8) (q : Fin 2), k0_off25 k (wG r) (wQ q) = ![1024 * k.val + 128 * r.val + 64 * q.val, 256] := by decide +kernel
/-- … and the packed rows. -/
theorem off26_eq : ∀ (k : Fin k0_t2_loop.trips) (r : Fin 8) (q : Fin 2), k0_off26 k (wG r) (wP q) = ![0, 512 * k.val + 64 * r.val + 32 * q.val, 256] := by decide +kernel
/-- Lane tile 3: the rows of parameters, … -/
theorem off27_eq : ∀ k : Fin k0_t2_loop.trips, k0_off27 k = ![8 * k.val, 384] := by decide +kernel
/-- … the rows of the matrix, … -/
theorem off28_eq : ∀ (k : Fin k0_t2_loop.trips) (r : Fin 8) (q : Fin 2), k0_off28 k (wG r) (wQ q) = ![1024 * k.val + 128 * r.val + 64 * q.val, 384] := by decide +kernel
/-- … and the packed rows. -/
theorem off29_eq : ∀ (k : Fin k0_t2_loop.trips) (r : Fin 8) (q : Fin 2), k0_off29 k (wG r) (wP q) = ![0, 512 * k.val + 64 * r.val + 32 * q.val, 384] := by decide +kernel

/-- A load of a row within eight rows, read at an index, of any element type. -/
theorem rdRow' {sg : RefSig} {κ : Kind} {sp : Space} {e : EltTy} (v : View sg κ sp S40x512 e) (off : Fin 2 → Nat) (h) (r : Fin 8) (h') (hh)
    (f : BufTy.Contents (Elt Ideal) v.ty) (l : Fin 128) (i : Fin 40) (j : Fin 512)
    (hi : i.val = off 0 + r.val) (hj : j.val = off 1 + l.val) :
    View.readAt (Elt Ideal) v ((Rect.unit (s := S40x512) off S8x128.size h).withinL (Rect.unit (s := S8x128) ![r.val, 0] S1x128.size h').toLoadRect hh) f (ix2 0 l)
      = v.read (Elt Ideal) f (ix2 i j) := by
  refine congrArg (v.read (Elt Ideal) f) ?_
  funext x
  apply Fin.ext
  match x with
  | ⟨0, _⟩ => show off 0 + r.val + 1 * 0 = i.val; omega
  | ⟨1, _⟩ => show off 1 + 0 + 1 * l.val = j.val; omega

/-- The packed codes of a block, from its rounded quotients and its zero points. -/
def packed (N : ℕ → Fin 512 → ℤ) (Z : ℕ → Fin 512 → ℕ) (P : ℕ) (C : Fin 512) : BitVec 8 :=
  BitVec.ofNat 8 (clipCode (N (2 * P) C) (Z (P / 64) C) + 16 * clipCode (N (2 * P + 1) C) (Z (P / 64) C))

/-- A store of 32 packed rows holds the function it covers. -/
theorem piece8 (off : Fin 3 → ℕ) (h) (v : IVec S1x32x128 8) (W : ℕ → Fin 512 → BitVec 8) (R0 C0 : ℕ) (e : off = ![0, R0, C0])
    (hv : ∀ (a : Fin 32) (l : Fin 128) (R : ℕ) (C : Fin 512), R = R0 + a.val → C.val = C0 + l.val → v (ix3 0 a l) = W R C) :
    ∀ x, (⟨Rect.unit (s := S1x2560x512) off S1x32x128.size h, v⟩ : View.Piece (Elt Ideal) S1x2560x512 .i8).2 x
      = (fun y : S1x2560x512.Idx => W (y 1).val (y 2)) ((Rect.unit (s := S1x2560x512) off S1x32x128.size h).emb x) := by
  intro x
  subst e
  have h0 : (x 0).val = 0 := by have := (x 0).isLt; change (x 0).val < 1 at this; omega
  have e0 : x = (ix3 (n0 := 1) (n1 := 32) (n2 := 128) 0 (x 1) (x 2)) := by
    funext a; match a with | ⟨0, _⟩ => exact Fin.ext h0 | ⟨1, _⟩ => rfl | ⟨2, _⟩ => rfl
  refine (congrArg v e0).trans (hv (x 1) (x 2) _ _ ?_ ?_)
  · show R0 + 1 * (x 1).val = _; omega
  · show C0 + 1 * (x 2).val = _; omega

section
variable (arg14 : Memref sig .tc .vmem S5120x512 .f32) (arg17 : Memref sig .tc .vmem S40x512 .f32) (arg18 : Memref sig .tc .vmem S40x512 .i32) (arg19 : Memref sig .tc .vmem S40x512 .i32) (arg20 : Memref sig .tc .vmem S40x512 .i32) (X14 : BufTy.Contents (Elt Ideal) arg14.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty)

/-- What the second loop asks of the buffers it reads: products that round to small integers, and the words of the zero points. -/
structure Ready (N : ℕ → Fin 512 → ℤ) (Z : ℕ → Fin 512 → ℕ) : Prop where
  small : ∀ R C, -31 ≤ N R C ∧ N R C ≤ 31
  zero : ∀ g C, Z g C ≤ 15
  round : ∀ (R : Fin 5120) (C : Fin 512), Ideal.liftRound Ideal.roundHalfEven ((arg14.view.read (Elt Ideal) X14 (ix2 R C) : EReal) * arg17.view.read (Elt Ideal) X17 (ix2 ⟨R.val / 128, by omega⟩ C)) = ((N R.val C : ℝ) : EReal)
  low : ∀ (g : Fin 40) (C : Fin 512), arg18.view.read (Elt Ideal) X18 (ix2 g C) = BitVec.ofNat 32 (65537 * (17216 - Z g.val C))
  high : ∀ (g : Fin 40) (C : Fin 512), arg19.view.read (Elt Ideal) X19 (ix2 g C) = BitVec.ofNat 32 (65537 * (17231 - Z g.val C))
  word : ∀ (g : Fin 40) (C : Fin 512), arg20.view.read (Elt Ideal) X20 (ix2 g C) = BitVec.ofNat 32 (16843009 * Z g.val C)

/-- The codes of a lane tile of half a group, at any lane offset, read at an index. -/
theorem code_tile (N : ℕ → Fin 512 → ℤ) (Z : ℕ → Fin 512 → ℕ) (H : Ready arg14 arg17 arg18 arg19 arg20 X14 X17 X18 X19 X20 N Z)
    (k : Fin k0_t2_loop.trips) (r : Fin 8) (q : Fin 2) (j : ℕ) (oS : Fin 2 → Nat) (hS : ∀ a, oS a + S8x128.size a ≤ S40x512.size a) (h') (hh : _) (oV : Fin 2 → Nat) (hV : ∀ a, oV a + S64x128.size a ≤ S5120x512.size a)
    (eS : oS = ![8 * k.val, 128 * j]) (eV : oV = ![1024 * k.val + 128 * r.val + 64 * q.val, 128 * j])
    (a : Fin 32) (l : Fin 128) (P : ℕ) (C : Fin 512) (hP : P = 512 * k.val + 64 * r.val + 32 * q.val + a.val) (hC : C.val = 128 * j + l.val) :
    cCode (F := Ideal) (View.readAt (Elt Ideal) arg17.view ((Rect.unit (s:=S40x512) oS S8x128.size hS).withinL (Rect.unit (s:=S8x128) ![r.val, 0] S1x128.size h').toLoadRect hh) X17)
        (View.readAt (Elt Ideal) arg18.view ((Rect.unit (s:=S40x512) oS S8x128.size hS).withinL (Rect.unit (s:=S8x128) ![r.val, 0] S1x128.size h').toLoadRect hh) X18)
        (View.readAt (Elt Ideal) arg19.view ((Rect.unit (s:=S40x512) oS S8x128.size hS).withinL (Rect.unit (s:=S8x128) ![r.val, 0] S1x128.size h').toLoadRect hh) X19)
        (View.readAt (Elt Ideal) arg20.view ((Rect.unit (s:=S40x512) oS S8x128.size hS).withinL (Rect.unit (s:=S8x128) ![r.val, 0] S1x128.size h').toLoadRect hh) X20)
        (View.readAt (Elt Ideal) arg14.view (Rect.unit (s:=S5120x512) oV S64x128.size hV).toLoadRect X14) (ix3 0 a l) = packed N Z P C := by
  have hk : k.val < 5 := k.isLt
  have hr := r.isLt
  have hq := q.isLt
  have ha := a.isLt
  subst hP
  refine (cCode_apply (View.readAt (Elt Ideal) arg17.view ((Rect.unit (s:=S40x512) oS S8x128.size hS).withinL (Rect.unit (s:=S8x128) ![r.val, 0] S1x128.size h').toLoadRect hh) X17) (View.readAt (Elt Ideal) arg18.view ((Rect.unit (s:=S40x512) oS S8x128.size hS).withinL (Rect.unit (s:=S8x128) ![r.val, 0] S1x128.size h').toLoadRect hh) X18) (View.readAt (Elt Ideal) arg19.view ((Rect.unit (s:=S40x512) oS S8x128.size hS).withinL (Rect.unit (s:=S8x128) ![r.val, 0] S1x128.size h').toLoadRect hh) X19) (View.readAt (Elt Ideal) arg20.view ((Rect.unit (s:=S40x512) oS S8x128.size hS).withinL (Rect.unit (s:=S8x128) ![r.val, 0] S1x128.size h').toLoadRect hh) X20) (View.readAt (Elt Ideal) arg14.view (Rect.unit (s:=S5120x512) oV S64x128.size hV).toLoadRect X14)
      l (fun p => N (1024 * k.val + 128 * r.val + 64 * q.val + p) C) (Z (8 * k.val + r.val) C) (H.zero _ _) (fun p => H.small _ _) ?_ ?_ ?_ ?_ a).trans ?_
  · intro p
    have e1 := rd2 arg14.view oV hV X14 p l ⟨1024 * k.val + 128 * r.val + 64 * q.val + p.val, by omega⟩ C (by rw [eV]; rfl) (by rw [eV]; exact hC)
    have e2 := rdRow' arg17.view oS hS r h' hh X17 l ⟨(1024 * k.val + 128 * r.val + 64 * q.val + p.val) / 128, by omega⟩ C (by rw [eS]; show (1024 * k.val + 128 * r.val + 64 * q.val + p.val) / 128 = 8 * k.val + r.val; omega) (by rw [eS]; exact hC)
    exact (congrArg (Ideal.liftRound Ideal.roundHalfEven) (congrArg₂ (· * ·) e1 e2)).trans (H.round ⟨1024 * k.val + 128 * r.val + 64 * q.val + p.val, by omega⟩ C)
  · exact (rdRow' arg18.view oS hS r h' hh X18 l ⟨8 * k.val + r.val, by omega⟩ C (by rw [eS]; rfl) (by rw [eS]; exact hC)).trans (H.low ⟨8 * k.val + r.val, by omega⟩ C)
  · exact (rdRow' arg19.view oS hS r h' hh X19 l ⟨8 * k.val + r.val, by omega⟩ C (by rw [eS]; rfl) (by rw [eS]; exact hC)).trans (H.high ⟨8 * k.val + r.val, by omega⟩ C)
  · exact (rdRow' arg20.view oS hS r h' hh X20 l ⟨8 * k.val + r.val, by omega⟩ C (by rw [eS]; rfl) (by rw [eS]; exact hC)).trans (H.word ⟨8 * k.val + r.val, by omega⟩ C)
  · unfold packed
    rw [show 2 * (512 * k.val + 64 * r.val + 32 * q.val + a.val) = 1024 * k.val + 128 * r.val + 64 * q.val + 2 * a.val by omega,
      show (512 * k.val + 64 * r.val + 32 * q.val + a.val) / 64 = 8 * k.val + r.val by omega]
    rfl

/-- One store of packed codes holds the codes of its rows. -/
theorem uC_ok (N : ℕ → Fin 512 → ℤ) (Z : ℕ → Fin 512 → ℕ) (H : Ready arg14 arg17 arg18 arg19 arg20 X14 X17 X18 X19 X20 N Z)
    (k : Fin k0_t2_loop.trips) (r : Fin 8) (j : Fin 4) (q : Fin 2) :
    ∀ x, (uC (F := Ideal) arg14 arg17 arg18 arg19 arg20 X14 X17 X18 X19 X20 k r j q).2 x
      = (fun y : S1x2560x512.Idx => packed N Z (y 1).val (y 2)) ((uC (F := Ideal) arg14 arg17 arg18 arg19 arg20 X14 X17 X18 X19 X20 k r j q).1.emb x) := by
  have h := code_tile arg14 arg17 arg18 arg19 arg20 X14 X17 X18 X19 X20 N Z H k r q
  match j with
  | 0 => exact piece8 _ _ _ (packed N Z) _ _ (off20_eq k r q) fun a l R C hR hC => h 0 _ _ _ _ _ _ (off18_eq k) (off19_eq k r q) a l R C hR hC
  | 1 => exact piece8 _ _ _ (packed N Z) _ _ (off23_eq k r q) fun a l R C hR hC => h 1 _ _ _ _ _ _ (off21_eq k) (off22_eq k r q) a l R C hR hC
  | 2 => exact piece8 _ _ _ (packed N Z) _ _ (off26_eq k r q) fun a l R C hR hC => h 2 _ _ _ _ _ _ (off24_eq k) (off25_eq k r q) a l R C hR hC
  | 3 => exact piece8 _ _ _ (packed N Z) _ _ (off29_eq k r q) fun a l R C hR hC => h 3 _ _ _ _ _ _ (off27_eq k) (off28_eq k r q) a l R C hR hC

/-- The indices a store of packed codes covers. -/
theorem uC_set (k : Fin k0_t2_loop.trips) (r : Fin 8) (j : Fin 4) (q : Fin 2) (y : S1x2560x512.Idx)
    (h0 : 512 * k.val + 64 * r.val + 32 * q.val ≤ (y 1).val ∧ (y 1).val < 512 * k.val + 64 * r.val + 32 * q.val + 32)
    (h1 : 128 * j.val ≤ (y 2).val ∧ (y 2).val < 128 * j.val + 128) : y ∈ (uC (F := Ideal) arg14 arg17 arg18 arg19 arg20 X14 X17 X18 X19 X20 k r j q).1.set := by
  have key : ∀ (off : Fin 3 → ℕ) (h), off = ![0, 512 * k.val + 64 * r.val + 32 * q.val, 128 * j.val] → y ∈ (Rect.unit (s := S1x2560x512) off S1x32x128.size h).set := by
    intro off h e
    subst e
    rw [Rect.mem_set_unit]
    intro a
    match a with
    | ⟨0, _⟩ => exact ⟨Nat.zero_le _, (y 0).isLt⟩
    | ⟨1, _⟩ => exact h0
    | ⟨2, _⟩ => exact h1
  match j with
  | 0 => exact key _ (k0_off20_inb k r q) (off20_eq k r q)
  | 1 => exact key _ (k0_off23_inb k r q) (off23_eq k r q)
  | 2 => exact key _ (k0_off26_inb k r q) (off26_eq k r q)
  | 3 => exact key _ (k0_off29_inb k r q) (off29_eq k r q)

end

section
variable (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (X14 : BufTy.Contents (Elt Ideal) arg14.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty)

/-- The stores after the five trips. -/
theorem pb_five :
    pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X14 X17 X18 X19 X20 k0_t2_loop.trips
      = uL8 arg14 arg17 arg18 arg19 arg20 X14 X17 X18 X19 X20 (4 : Fin 5) ++ (uL8 arg14 arg17 arg18 arg19 arg20 X14 X17 X18 X19 X20 (3 : Fin 5) ++ (uL8 arg14 arg17 arg18 arg19 arg20 X14 X17 X18 X19 X20 (2 : Fin 5)
          ++ (uL8 arg14 arg17 arg18 arg19 arg20 X14 X17 X18 X19 X20 (1 : Fin 5) ++ (uL8 arg14 arg17 arg18 arg19 arg20 X14 X17 X18 X19 X20 (0 : Fin 5) ++ [])))) := by
  have h : ∀ k : Fin k0_t2_loop.trips, pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X14 X17 X18 X19 X20 (k.val + 1)
      = uL8 arg14 arg17 arg18 arg19 arg20 X14 X17 X18 X19 X20 k ++ pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X14 X17 X18 X19 X20 k.val := by
    intro k
    rw [pb_k0_t2_succ]
    unfold tripL_k0_t2
    rw [uL8_eq]
  refine (h (4 : Fin 5)).trans (congrArg _ ?_)
  refine (h (3 : Fin 5)).trans (congrArg _ ?_)
  refine (h (2 : Fin 5)).trans (congrArg _ ?_)
  refine (h (1 : Fin 5)).trans (congrArg _ ?_)
  exact h (0 : Fin 5)

/-- The packed codes the second loop leaves, read at an index. -/
theorem read8 (N : ℕ → Fin 512 → ℤ) (Z : ℕ → Fin 512 → ℕ) (H : Ready arg14 arg17 arg18 arg19 arg20 X14 X17 X18 X19 X20 N Z)
    (f8 : BufTy.Contents (Elt Ideal) arg8.view.ty) (P : Fin 2560) (C : Fin 512) :
    arg8.view.read (Elt Ideal) (arg8.view.writes (Elt Ideal) f8 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X14 X17 X18 X19 X20 k0_t2_loop.trips)) (ix3 0 P C)
      = packed N Z P.val C := by
  rw [pb_five]
  refine View.read_writes_apply_of_pieces arg8.view f8 (fun y : S1x2560x512.Idx => packed N Z (y 1).val (y 2)) _ ?_ (ix3 0 P C) ?_
  · intro p hp
    obtain ⟨k, hp⟩ := (mem_five p fun k : Fin 5 => uL8 (F := Ideal) arg14 arg17 arg18 arg19 arg20 X14 X17 X18 X19 X20 k).mp hp
    obtain ⟨r, -, hp⟩ := List.mem_flatMap.mp hp
    obtain ⟨j, -, hp⟩ := List.mem_flatMap.mp hp
    obtain ⟨q, -, rfl⟩ := List.mem_map.mp hp
    exact uC_ok arg14 arg17 arg18 arg19 arg20 X14 X17 X18 X19 X20 N Z H k r j q
  · have hR := P.isLt
    have hC := C.isLt
    refine ⟨_, (mem_five _ fun k : Fin 5 => uL8 (F := Ideal) arg14 arg17 arg18 arg19 arg20 X14 X17 X18 X19 X20 k).mpr ⟨⟨P.val / 512, by omega⟩,
      List.mem_flatMap.mpr ⟨⟨P.val / 64 % 8, by omega⟩, mem_all8 _, List.mem_flatMap.mpr ⟨⟨C.val / 128, by omega⟩, mem_all4 _, List.mem_map.mpr ⟨⟨P.val / 32 % 2, by omega⟩, mem_all2 _, rfl⟩⟩⟩⟩, ?_⟩
    refine uC_set arg14 arg17 arg18 arg19 arg20 X14 X17 X18 X19 X20 _ _ _ _ _ ?_ ?_
    · show _ ≤ P.val ∧ P.val < _
      simp only
      omega
    · show _ ≤ C.val ∧ C.val < _
      simp only
      omega

end

end Cert.KernelIdeal.Own
end
-- ==== Proof.ParamsValue.lean ====
/- The parameters of a block over the extended reals: scale, zero points, factor and words of each group and column. -/
module

public import proofs.«01_k».proof.Proof.Params
public import proofs.«01_k».proof.Proof.Group
public import proofs.«01_k».proof.Proof.Trip2Value
public import proofs.«01_k».proof.Proof.TripValue

@[expose] public section

set_option maxRecDepth 16384

noncomputable section

namespace Cert.KernelIdeal.Own

open Cert.KernelIdeal.Gen
open Idealize.ShloMosaic Idealize.ShloMosaic.TcCoe Idealize.ShloMosaic.Tactic
open Cert (Group.lo Group.hi Group.osf Group.zr Group.code Group.rnd Group.toN)

/-- Stores of four lane tiles, read at an index. -/
theorem read_l2 {e : EltTy} (m : Memref sig .tc .vmem S40x512 e) (f : BufTy.Contents (Elt Ideal) m.view.ty) (p : Fin 4 → (S40x128.Idx → Elt Ideal e)) (g : Fin 40) (C : Fin 512) :
    m.view.read (Elt Ideal) (m.view.writes (Elt Ideal) f ([3, 2, 1, 0].map fun j : Fin 4 => ⟨Rect.unit (s := S40x512) ![0, 128 * j.val] S40x128.size (p2_inb j), p j⟩)) (ix2 g C)
      = p ⟨C.val / 128, by omega⟩ (ix2 g ⟨C.val % 128, by omega⟩) := by
  refine View.read_writes_apply_of_pieces m.view f (fun y : S40x512.Idx => p ⟨(y 1).val / 128, by have : (y 1).val < 512 := (y 1).isLt; omega⟩ (ix2 (y 0) ⟨(y 1).val % 128, by omega⟩)) _ ?_ (ix2 g C) ?_
  · intro q hq
    obtain ⟨j, -, rfl⟩ := List.mem_map.mp hq
    intro x
    have h1 : (x 1).val < 128 := (x 1).isLt
    have hj := j.isLt
    have e1 : (((Rect.unit (s := S40x512) ![0, 128 * j.val] S40x128.size (p2_inb j)).emb x) 1).val = 128 * j.val + (x 1).val := by
      show 128 * j.val + 1 * (x 1).val = _; omega
    have e0 : (((Rect.unit (s := S40x512) ![0, 128 * j.val] S40x128.size (p2_inb j)).emb x) 0).val = (x 0).val := by
      show 0 + 1 * (x 0).val = _; omega
    have ej : j = ⟨(((Rect.unit (s := S40x512) ![0, 128 * j.val] S40x128.size (p2_inb j)).emb x) 1).val / 128, by omega⟩ := Fin.ext (by simp only [e1]; omega)
    have ex : x = ix2 (n0 := 40) (n1 := 128) (((Rect.unit (s := S40x512) ![0, 128 * j.val] S40x128.size (p2_inb j)).emb x) 0) ⟨(((Rect.unit (s := S40x512) ![0, 128 * j.val] S40x128.size (p2_inb j)).emb x) 1).val % 128, by omega⟩ := by
      funext a
      match a with
      | ⟨0, _⟩ => exact Fin.ext e0.symm
      | ⟨1, _⟩ => exact Fin.ext (by show (x 1).val = _ % 128; rw [e1]; omega)
    exact congr (congrArg p ej) ex
  · have hC := C.isLt
    refine ⟨_, List.mem_map.mpr ⟨⟨C.val / 128, by omega⟩, mem_all4 _, rfl⟩, ?_⟩
    rw [Rect.mem_set_unit]
    intro a
    match a with
    | ⟨0, _⟩ => exact ⟨Nat.zero_le _, g.isLt⟩
    | ⟨1, _⟩ => exact ⟨by show 128 * (C.val / 128) ≤ C.val; omega, by show C.val < 128 * (C.val / 128) + 128; omega⟩

/-- The same of the outputs' blocks, which have a leading axis of one. -/
theorem read_l3 {e : EltTy} (m : Memref sig .tc .vmem S1x40x512 e) (f : BufTy.Contents (Elt Ideal) m.view.ty) (p : Fin 4 → (S1x40x128.Idx → Elt Ideal e)) (g : Fin 40) (C : Fin 512) :
    m.view.read (Elt Ideal) (m.view.writes (Elt Ideal) f ([3, 2, 1, 0].map fun j : Fin 4 => ⟨Rect.unit (s := S1x40x512) ![0, 0, 128 * j.val] S1x40x128.size (p3_inb j), p j⟩)) (ix3 0 g C)
      = p ⟨C.val / 128, by omega⟩ (ix3 0 g ⟨C.val % 128, by omega⟩) := by
  refine View.read_writes_apply_of_pieces m.view f (fun y : S1x40x512.Idx => p ⟨(y 2).val / 128, by have : (y 2).val < 512 := (y 2).isLt; omega⟩ (ix3 (n0 := 1) 0 (y 1) ⟨(y 2).val % 128, by omega⟩)) _ ?_ (ix3 0 g C) ?_
  · intro q hq
    obtain ⟨j, -, rfl⟩ := List.mem_map.mp hq
    intro x
    have h1 : (x 2).val < 128 := (x 2).isLt
    have h0 : (x 0).val < 1 := (x 0).isLt
    have hj := j.isLt
    have e1 : (((Rect.unit (s := S1x40x512) ![0, 0, 128 * j.val] S1x40x128.size (p3_inb j)).emb x) 2).val = 128 * j.val + (x 2).val := by
      show 128 * j.val + 1 * (x 2).val = _; omega
    have e0 : (((Rect.unit (s := S1x40x512) ![0, 0, 128 * j.val] S1x40x128.size (p3_inb j)).emb x) 1).val = (x 1).val := by
      show 0 + 1 * (x 1).val = _; omega
    have ej : j = ⟨(((Rect.unit (s := S1x40x512) ![0, 0, 128 * j.val] S1x40x128.size (p3_inb j)).emb x) 2).val / 128, by omega⟩ := Fin.ext (by simp only [e1]; omega)
    have ex : x = ix3 (n0 := 1) (n1 := 40) (n2 := 128) 0 (((Rect.unit (s := S1x40x512) ![0, 0, 128 * j.val] S1x40x128.size (p3_inb j)).emb x) 1) ⟨(((Rect.unit (s := S1x40x512) ![0, 0, 128 * j.val] S1x40x128.size (p3_inb j)).emb x) 2).val % 128, by omega⟩ := by
      funext a
      match a with
      | ⟨0, _⟩ => exact Fin.ext (by show (x 0).val = 0; omega)
      | ⟨1, _⟩ => exact Fin.ext e0.symm
      | ⟨2, _⟩ => exact Fin.ext (by show (x 2).val = _ % 128; rw [e1]; omega)
    exact congr (congrArg p ej) ex
  · have hC := C.isLt
    refine ⟨_, List.mem_map.mpr ⟨⟨C.val / 128, by omega⟩, mem_all4 _, rfl⟩, ?_⟩
    rw [Rect.mem_set_unit]
    intro a
    match a with
    | ⟨0, _⟩ => exact ⟨Nat.zero_le _, Nat.one_pos⟩
    | ⟨1, _⟩ => exact ⟨Nat.zero_le _, g.isLt⟩
    | ⟨2, _⟩ => exact ⟨by show 128 * (C.val / 128) ≤ C.val; omega, by show C.val < 128 * (C.val / 128) + 128; omega⟩

/-- The load of every eighth row of a lane tile, read at an index. -/
theorem sRd_apply (m : Memref sig .tc .vmem S4x320x128 .f32) (X : BufTy.Contents (Elt Ideal) m.view.ty) (j : Fin 4) (s : Fin 8) (g : Fin 40) (l : Fin 128) :
    sRd (F := Ideal) m X j s (ix2 g l) = m.view.read (Elt Ideal) X (ix3 j ⟨8 * g.val + s.val, by omega⟩ l) := by
  unfold sRd LoadRect.valAlong
  refine congrArg (m.view.read (Elt Ideal) X) ?_
  have h := LoadRect.liftsTo_consLift (sLr s) ![1, 320, 128] rfl (fun i => by revert i; decide) (ix2 g l)
  have hx : Shape.reshapeEquiv ((sLr s).numel_consLift ![1, 320, 128] rfl (fun i => by revert i; decide)) (ix2 g l) = Fin.cons ⟨0, Nat.one_pos⟩ (ix2 g l) :=
    Shape.reshapeEquiv_cons_one (d := (sLr s).size) _ _
  rw [hx]
  funext a
  apply Fin.ext
  match a with
  | ⟨0, _⟩ => show j.val + 1 * 0 = j.val; omega
  | ⟨1, _⟩ => show 0 + s.val + 8 * g.val = 8 * g.val + s.val; omega
  | ⟨2, _⟩ => show 0 + 0 + 1 * l.val = l.val; omega

/-- Eight minima in a row are the infimum. -/
theorem inf8 {α : Type*} [CompleteLinearOrder α] (f : Fin 8 → α) :
    min (min (min (min (min (min (min (f 0) (f 1)) (f 2)) (f 3)) (f 4)) (f 5)) (f 6)) (f 7) = ⨅ s, f s := by
  refine le_antisymm (le_iInf fun i => ?_) ?_
  · simp only [min_le_iff, or_assoc]
    fin_cases i <;> simp
  · simp only [le_inf_iff]
    repeat' apply And.intro
    all_goals exact iInf_le f _

/-- Eight maxima in a row are the supremum. -/
theorem sup8 {α : Type*} [CompleteLinearOrder α] (f : Fin 8 → α) :
    max (max (max (max (max (max (max (f 0) (f 1)) (f 2)) (f 3)) (f 4)) (f 5)) (f 6)) (f 7) = ⨆ s, f s := by
  refine le_antisymm ?_ (iSup_le fun i => ?_)
  · simp only [sup_le_iff]
    repeat' apply And.intro
    all_goals exact le_iSup f _
  · simp only [le_max_iff, or_assoc]
    fin_cases i <;> simp

/-- The constant 0. -/
theorem c0 : Ideal.ofBits .f32 0#32 = 0 := Ideal.ofBits_zero_f32
/-- The constant 15. -/
theorem c15' : Ideal.ofBits .f32 1097859072#32 = 15 := by
  rw [Group.c15]
  simp [Ideal.ofBits, Ideal.ieee, -EReal.coe_mul]; norm_num
/-- The constant 15.5. -/
theorem c155 : Ideal.ofBits .f32 1098383360#32 = ((15.5 : ℝ) : EReal) := by
  simp [Ideal.ofBits, Ideal.ieee, -EReal.coe_mul]; norm_num
/-- The constant -15.5. -/
theorem cm155 : Ideal.ofBits .f32 3245867008#32 = ((-15.5 : ℝ) : EReal) := by
  simp [Ideal.ofBits, Ideal.ieee, -EReal.coe_mul]; norm_num
/-- The constant 192. -/
theorem c192 : Ideal.ofBits .f32 1128267776#32 = ((192 : ℝ) : EReal) := by
  simp [Ideal.ofBits, Ideal.ieee, -EReal.coe_mul]; norm_num

section
variable (k : FVec Ideal S1x128 .f32) (e e' : Fin 8 → FVec Ideal S40x128 .f32) (g : Fin 40) (l : Fin 128)

/-- The least scaled weight of a group, read at a group and a lane. -/
theorem pLo_apply : pLo k e e' (ix2 g l) = min ((⨅ s, e s (ix2 g l) : EReal) * k (ix2 0 l)) ((⨆ s, e' s (ix2 g l) : EReal) * k (ix2 0 l)) := by
  rw [← inf8, ← sup8]
  unfold pLo k0_pay1419 k0_pay1415 k0_pay1414 k0_pay1416 k0_pay1417 k0_pay1418
  pointwise []

/-- The greatest scaled weight of a group, read at a group and a lane. -/
theorem pHi_apply : pHi k e e' (ix2 g l) = max ((⨅ s, e s (ix2 g l) : EReal) * k (ix2 0 l)) ((⨆ s, e' s (ix2 g l) : EReal) * k (ix2 0 l)) := by
  rw [← inf8, ← sup8]
  unfold pHi k0_pay1420 k0_pay1415 k0_pay1414 k0_pay1416 k0_pay1417 k0_pay1418
  pointwise []

/-- Whether the two are equal. -/
theorem pEq_apply : pEq k e e' (ix2 g l) = BitVec.ofBool (decide ((pHi k e e' (ix2 g l) : EReal) = pLo k e e' (ix2 g l))) := rfl
/-- Their difference. -/
theorem pDf_apply : pDf k e e' (ix2 g l) = (pHi k e e' (ix2 g l) : EReal) - pLo k e e' (ix2 g l) := rfl

end

section
variable (k : FVec Ideal S1x128 .f32) (eq : IVec S40x128 1) (lo hi df z : FVec Ideal S40x128 .f32) (g : Fin 40) (l : Fin 128) (a b o : EReal)

/-- A select on a decided proposition is an `if`. -/
theorem select_ofBool (p : Prop) [Decidable p] (x y : EReal) : Scalar.select (BitVec.ofBool (decide p)) x y = if p then x else y := by
  by_cases h : p <;> simp [h, Scalar.select]

/-- A select on either of two decided propositions is an `if` on their disjunction. -/
theorem select_ori (p q : Prop) [Decidable p] [Decidable q] (x y : EReal) :
    Scalar.select (IntOp.ori (BitVec.ofBool (decide p)) (BitVec.ofBool (decide q))) x y = if p ∨ q then x else y := by
  by_cases hp : p <;> by_cases hq : q <;> simp only [hp, hq, decide_true, decide_false, true_or, or_true, or_self, if_true, if_false] <;> rfl

/-- The new scale. -/
theorem pay1423_apply (he : eq (ix2 g l) = BitVec.ofBool (decide (b = a))) (hd : df (ix2 g l) = b - a) :
    k0_pay1423 (F := Ideal) eq df (ix2 g l) = if b = a then 1 else Ideal.div (b - a) 15 := by
  unfold k0_pay1423
  pointwise []
  rw [he, hd, c15', select_ofBool]

variable (ho : k0_pay1423 (F := Ideal) eq df (ix2 g l) = o) (hl : lo (ix2 g l) = a) (hh : hi (ix2 g l) = b)
include ho hl hh

/-- The least scaled weight over the scale. -/
theorem pay1425_apply : k0_pay1425 (F := Ideal) lo eq df (ix2 g l) = Ideal.div a o := by
  rw [← ho, ← hl]; rfl

/-- The zero point, rounded and clipped. -/
theorem pay1426_apply : k0_pay1426 (F := Ideal) lo eq df (ix2 g l) = min 15 (max 0 (Group.rnd (0 - Ideal.div a o))) := by
  rw [← pay1425_apply eq lo hi df g l a b o ho hl hh]
  unfold k0_pay1426
  pointwise []
  rw [c15']

/-- Whether the least quotient is above 15.5. -/
theorem pay1429_apply : k0_pay1429 (F := Ideal) lo eq df (ix2 g l) = BitVec.ofBool (decide (((15.5 : ℝ) : EReal) < Ideal.div a o)) := by
  rw [← pay1425_apply eq lo hi df g l a b o ho hl hh]
  unfold k0_pay1429
  pointwise []
  rw [c155]

/-- Whether the greatest quotient is below -15.5. -/
theorem pay1430_apply : k0_pay1430 (F := Ideal) hi eq df (ix2 g l) = BitVec.ofBool (decide (Ideal.div b o < ((-15.5 : ℝ) : EReal))) := by
  rw [← ho, ← hh, ← cm155]
  rfl

/-- The zero point used where a whole group clips to one code, else the rounded one. -/
theorem pay1431_apply : k0_pay1431 (F := Ideal) lo hi eq df (ix2 g l) = if ((15.5 : ℝ) : EReal) < Ideal.div a o then 15 else if Ideal.div b o < ((-15.5 : ℝ) : EReal) then 0
    else min 15 (max 0 (Group.rnd (0 - Ideal.div a o))) := by
  rw [← pay1426_apply eq lo hi df g l a b o ho hl hh, ← select_ofBool, ← select_ofBool, ← pay1429_apply eq lo hi df g l a b o ho hl hh, ← pay1430_apply eq lo hi df g l a b o ho hl hh, ← c0, ← c15']
  rfl

/-- The factor used for the codes of a group. -/
theorem pay1432_apply : k0_pay1432 (F := Ideal) k lo hi eq df (ix2 g l)
    = if ((15.5 : ℝ) : EReal) < Ideal.div a o ∨ Ideal.div b o < ((-15.5 : ℝ) : EReal) then 0 else Ideal.div (k (ix2 0 l)) o := by
  unfold k0_pay1432
  pointwise []
  rw [pay1429_apply eq lo hi df g l a b o ho hl hh, pay1430_apply eq lo hi df g l a b o ho hl hh]
  have : (k0_pay1424 (F := Ideal) eq df (ix2 g l) : EReal) = o := ho
  rw [this]
  exact select_ori _ _ _ _

omit ho hl hh

variable (n : ℕ) (hn : n ≤ 15) (hz : z (ix2 g l) = ((n : ℝ) : EReal))
include hn hz

/-- The lower bound of the codes, as two equal half words. -/
theorem pay1434_apply : k0_pay1434 (F := Ideal) z (ix2 g l) = BitVec.ofNat 32 (65537 * (17216 - n)) := by
  unfold k0_pay1434 k0_pay1433
  pointwise []
  have e : Ideal.ofBits .f32 1128267776#32 - (z (ix2 g l) : EReal) = (((192 - n : ℤ) : ℝ) : EReal) := by
    rw [hz, c192, ← EReal.coe_sub]; push_cast; rfl
  have e2 : FloatOps.fptosi (F := Ideal) (φ := FTy.f32) 32 (Ideal.ofBits .f32 1128267776#32 - (z (ix2 g l) : EReal)) = BitVec.ofInt 32 (192 - n) := (congrArg (Ideal.fptosi 32) e).trans (fptosi_int _ (by omega) (by omega))
  rw [e2]
  interval_cases n <;> rfl

/-- The upper bound of the codes, as two equal half words. -/
theorem pay1435_apply : k0_pay1435 (F := Ideal) z (ix2 g l) = BitVec.ofNat 32 (65537 * (17231 - n)) := by
  unfold k0_pay1435 k0_pay1433
  pointwise []
  have e : Ideal.ofBits .f32 1128267776#32 - (z (ix2 g l) : EReal) + Ideal.ofBits .f32 1097859072#32 = (((207 - n : ℤ) : ℝ) : EReal) := by
    rw [hz, c192, c15', Group.c15, ← EReal.coe_sub, ← EReal.coe_add]
    refine congrArg _ ?_
    push_cast; ring
  have e2 : FloatOps.fptosi (F := Ideal) (φ := FTy.f32) 32 (Ideal.ofBits .f32 1128267776#32 - (z (ix2 g l) : EReal) + Ideal.ofBits .f32 1097859072#32) = BitVec.ofInt 32 (207 - n) := (congrArg (Ideal.fptosi 32) e).trans (fptosi_int _ (by omega) (by omega))
  rw [e2]
  interval_cases n <;> rfl

/-- The zero point in each of the four bytes of a word. -/
theorem pay1436_apply : k0_pay1436 (F := Ideal) z (ix2 g l) = BitVec.ofNat 32 (16843009 * n) := by
  unfold k0_pay1436
  pointwise []
  have e : (z (ix2 g l) : EReal) = (((n : ℤ) : ℝ) : EReal) := by rw [hz]; push_cast; rfl
  have e2 : FloatOps.fptosi (F := Ideal) (φ := FTy.f32) 32 (z (ix2 g l)) = BitVec.ofInt 32 n := (congrArg (Ideal.fptosi 32) e).trans (fptosi_int _ (by omega) (by omega))
  rw [e2]
  interval_cases n <;> rfl

omit hn hz
variable (hz' : k0_pay1426 (F := Ideal) lo eq df (ix2 g l) = ((n : ℝ) : EReal))
include hn hz'

/-- The zero point as a byte. -/
theorem pay1428_apply : k0_pay1428 (F := Ideal) lo eq df (ix3 0 g l) = BitVec.ofNat 8 n := by
  unfold k0_pay1428
  pointwise []
  have e : (k0_pay1426 (F := Ideal) lo eq df (ix2 g l) : EReal) = (((n : ℤ) : ℝ) : EReal) := by rw [hz']; push_cast; rfl
  have e2 : FloatOps.fptosi (F := Ideal) (φ := FTy.f32) 32 (k0_pay1426 (F := Ideal) lo eq df (ix2 g l)) = BitVec.ofInt 32 n := (congrArg (Ideal.fptosi 32) e).trans (fptosi_int _ (by omega) (by omega))
  rw [e2]
  interval_cases n <;> rfl

end

/-- The column's factor, from its 5120 weights. -/
def colK (v : Fin 5120 → EReal) (m : EReal) : EReal :=
  Ideal.div m (if Ideal.sqrt (∑ R, v R * v R) = 0 then 1 else Ideal.sqrt (∑ R, v R * v R))

/-- The weights of group `g`. -/
def grp (v : Fin 5120 → EReal) (g : Fin 40) (t : Fin 128) : EReal := v ⟨128 * g.val + t.val, by omega⟩

/-- The factor of a column: the magnitude over the root of the sum of squares. -/
theorem pay1413_apply (sq : FVec Ideal S8x128 .f32) (mg : Vec Ideal S1x1x128 .bf16) (l : Fin 128) (v : Fin 5120 → EReal)
    (hs : (∑ a : Fin 8, sq (ix2 a l) : EReal) = ∑ R, v R * v R) : k0_pay1413 (F := Ideal) sq mg (ix2 0 l) = colK v (mg (ix3 0 0 l)) := by
  unfold k0_pay1413 colK
  pointwise []
  rw [← hs]

/-- A sum over all rows, taken in the order the loop's trips and tiles take it. -/
theorem sum_rows (f : Fin 5120 → EReal) : ∑ a : Fin 8, ∑ k : Fin 5, ∑ r : Fin 8, ∑ i : Fin 16, f (srow k r i a) = ∑ R, f R := by
  have hb : Function.Bijective (fun x : Fin 8 × Fin 5 × Fin 8 × Fin 16 => srow x.2.1 x.2.2.1 x.2.2.2 x.1) := by
    constructor
    · rintro ⟨a, k, r, i⟩ ⟨a', k', r', i'⟩ h
      have h' : 1024 * k.val + 128 * r.val + 8 * i.val + a.val = 1024 * k'.val + 128 * r'.val + 8 * i'.val + a'.val := congrArg Fin.val h
      have := a.isLt; have := a'.isLt; have := r.isLt; have := r'.isLt; have := i.isLt; have := i'.isLt
      simp only [Prod.mk.injEq, Fin.ext_iff]
      omega
    · intro R
      have := R.isLt
      exact ⟨(⟨R.val % 8, by omega⟩, ⟨R.val / 1024, by omega⟩, ⟨R.val / 128 % 8, by omega⟩, ⟨R.val / 8 % 16, by omega⟩),
        Fin.ext (by show 1024 * (R.val / 1024) + 128 * (R.val / 128 % 8) + 8 * (R.val / 8 % 16) + R.val % 8 = R.val; omega)⟩
  rw [← hb.sum_comp f]
  simp only [Fintype.sum_prod_type]

/-- The 128 rows of a group, eight at a time. -/
theorem inf_rows {α : Type*} [CompleteLattice α] (f : Fin 128 → α) : ⨅ s : Fin 8, ⨅ i : Fin 16, f ⟨8 * i.val + s.val, by omega⟩ = ⨅ t, f t := by
  refine le_antisymm (le_iInf fun t => ?_) (le_iInf fun s => le_iInf fun i => iInf_le _ _)
  refine (iInf_le _ (⟨t.val % 8, by omega⟩ : Fin 8)).trans ((iInf_le _ (⟨t.val / 8, by omega⟩ : Fin 16)).trans (le_of_eq (congrArg f (Fin.ext ?_))))
  show 8 * (t.val / 8) + t.val % 8 = t.val
  omega

/-- A supremum over the rows of a group, taken residue by residue. -/
theorem sup_rows {α : Type*} [CompleteLattice α] (f : Fin 128 → α) : ⨆ s : Fin 8, ⨆ i : Fin 16, f ⟨8 * i.val + s.val, by omega⟩ = ⨆ t, f t := by
  refine le_antisymm (iSup_le fun s => iSup_le fun i => le_iSup f _) (iSup_le fun t => ?_)
  refine le_trans (le_of_eq (congrArg f (Fin.ext ?_))) ((le_iSup (fun i : Fin 16 => f ⟨8 * i.val + (⟨t.val % 8, by omega⟩ : Fin 8).val, by omega⟩) (⟨t.val / 8, by omega⟩ : Fin 16)).trans
    (le_iSup (fun s : Fin 8 => ⨆ i : Fin 16, f ⟨8 * i.val + s.val, by omega⟩) (⟨t.val % 8, by omega⟩ : Fin 8)))
  show t.val = 8 * (t.val / 8) + t.val % 8
  omega

end Cert.KernelIdeal.Own
end
-- ==== Proof.BlockValue.lean ====
/- What the whole body leaves in its three outputs, over the extended reals, in words of the definitions of a group. -/
module

public import proofs.«01_k».proof.Proof.ParamsValue

@[expose] public section

set_option maxRecDepth 16384

noncomputable section

namespace Cert.KernelIdeal.Own

open Cert.KernelIdeal.Gen
open Idealize.ShloMosaic Idealize.ShloMosaic.TcCoe Idealize.ShloMosaic.Tactic

/-- The rounded quotients the kernel finds in a group. -/
def gN (v : Fin 128 → EReal) (k : EReal) : Fin 128 → ℤ := (Group.group v k).choose
/-- The zero point the kernel's codes use. -/
def gZ (v : Fin 128 → EReal) (k : EReal) : ℕ := (Group.group v k).choose_spec.choose
/-- The zero point the kernel stores. -/
def gS (v : Fin 128 → EReal) (k : EReal) : ℕ := (Group.group v k).choose_spec.choose_spec.choose
/-- What is known of them. -/
theorem g_spec (v : Fin 128 → EReal) (k : EReal) : (∀ t, -31 ≤ gN v k t ∧ gN v k t ≤ 31) ∧ gZ v k ≤ 15 ∧ gS v k ≤ 15 ∧ Group.zr v k = ((gS v k : ℝ) : EReal)
      ∧ min 15 (max 0 (Group.rnd (0 - Ideal.div (Group.lo v k) (Group.osf v k)))) = ((gS v k : ℝ) : EReal)
      ∧ (∀ t, Group.rnd (v t * (if ((15.5 : ℝ) : EReal) < Ideal.div (Group.lo v k) (Group.osf v k) ∨ Ideal.div (Group.hi v k) (Group.osf v k) < ((-15.5 : ℝ) : EReal) then 0 else Ideal.div k (Group.osf v k))) = ((gN v k t : ℝ) : EReal))
      ∧ (if ((15.5 : ℝ) : EReal) < Ideal.div (Group.lo v k) (Group.osf v k) then 15 else if Ideal.div (Group.hi v k) (Group.osf v k) < ((-15.5 : ℝ) : EReal) then 0
          else min 15 (max 0 (Group.rnd (0 - Ideal.div (Group.lo v k) (Group.osf v k))))) = ((gZ v k : ℝ) : EReal)
      ∧ ∀ t, Group.code v k t = ((clipCode (gN v k t) (gZ v k) : ℝ) : EReal) := (Group.group v k).choose_spec.choose_spec.choose_spec
/-- The stored zero point is a code. -/
theorem gS_le (v : Fin 128 → EReal) (k : EReal) : gS v k ≤ 15 := (g_spec v k).2.2.1
/-- The zero point of the codes is a code. -/
theorem gZ_le (v : Fin 128 → EReal) (k : EReal) : gZ v k ≤ 15 := (g_spec v k).2.1
/-- The stored zero point. -/
theorem g_zr (v : Fin 128 → EReal) (k : EReal) : Group.zr v k = ((gS v k : ℝ) : EReal) := (g_spec v k).2.2.2.1
/-- The rounded quotients, at the factor the kernel stores. -/
theorem g_round (v : Fin 128 → EReal) (k : EReal) (t : Fin 128) :
    Group.rnd (v t * (if ((15.5 : ℝ) : EReal) < Ideal.div (Group.lo v k) (Group.osf v k) ∨ Ideal.div (Group.hi v k) (Group.osf v k) < ((-15.5 : ℝ) : EReal) then 0 else Ideal.div k (Group.osf v k))) = ((gN v k t : ℝ) : EReal) :=
  (g_spec v k).2.2.2.2.2.1 t
/-- The code of a weight. -/
theorem g_code (v : Fin 128 → EReal) (k : EReal) (t : Fin 128) : Group.code v k t = ((clipCode (gN v k t) (gZ v k) : ℝ) : EReal) := (g_spec v k).2.2.2.2.2.2.2 t

section
variable (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (X2 : BufTy.Contents (Elt Ideal) arg2.view.ty) (X3 : BufTy.Contents (Elt Ideal) arg3.view.ty) (X4 : BufTy.Contents (Elt Ideal) arg4.view.ty) (X7 : BufTy.Contents (Elt Ideal) arg7.view.ty) (X8 : BufTy.Contents (Elt Ideal) arg8.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty)

/-- The weights of a column of the block. -/
def wV (C : Fin 512) (R : Fin 5120) : EReal := WS arg2 arg11 arg12 arg13 X2 X11 X12 X13 R C
/-- The factor of a column of the block. -/
def wK (C : Fin 512) : EReal := colK (wV arg2 arg11 arg12 arg13 X2 X11 X12 X13 C) (arg7.view.read (Elt Ideal) X7 (ix3 0 0 C))

/-- The factor of a column, as the body finds it. -/
theorem kF_apply (j : Fin 4) (l : Fin 128) : (kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j (ix2 0 l) = (wK arg2 arg7 arg11 arg12 arg13 X2 X7 X11 X12 X13) (mcol j l) := by
  unfold kF
  refine (pay1413_apply _ _ l ((wV arg2 arg11 arg12 arg13 X2 X11 X12 X13) (mcol j l)) ?_).trans ?_
  · rw [← sum_rows]
    refine Finset.sum_congr rfl fun a _ => ?_
    refine Eq.trans ?_ (readR c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (k0_pay1410 (View.readAt (Elt Ideal) arg3.view (Rect.unit (s := S1x40x512) ![0, 0, 0] S1x40x512.size inb_S1x40x512_S1x40x512_0_0_0).toLoadRect X3) (View.readAt (Elt Ideal) arg4.view (Rect.unit (s := S1x40x512) ![0, 0, 0] S1x40x512.size inb_S1x40x512_S1x40x512_0_0_0).toLoadRect X4)) X2 X11 X12 X13 j a l)
    match j with
    | 0 => rfl | 1 => rfl | 2 => rfl | 3 => rfl
  · unfold wK
    refine congrArg (colK _) ?_
    exact rd3 arg7.view _ _ X7 0 0 l 0 0 (mcol j l) rfl rfl rfl

/-- The smallest weights of the rows of one sublane. -/
theorem eF_apply (j : Fin 4) (s : Fin 8) (g : Fin 40) (l : Fin 128) :
    (eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j s (ix2 g l) = ⨅ i : Fin 16, grp ((wV arg2 arg11 arg12 arg13 X2 X11 X12 X13) (mcol j l)) g ⟨8 * i.val + s.val, by omega⟩ := by
  unfold eF
  refine (sRd_apply _ _ j s g l).trans ((read15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ X2 X11 X12 X13 _ X15 j _ l).trans ?_)
  refine iInf_congr fun i => ?_
  unfold grp wV
  refine congrArg (fun R => WS arg2 arg11 arg12 arg13 X2 X11 X12 X13 R (mcol j l)) (Fin.ext ?_)
  show 128 * ((8 * g.val + s.val) / 8) + 8 * i.val + (8 * g.val + s.val) % 8 = 128 * g.val + (8 * i.val + s.val)
  omega

/-- The largest weights of the rows of one sublane. -/
theorem gF_apply (j : Fin 4) (s : Fin 8) (g : Fin 40) (l : Fin 128) :
    (gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j s (ix2 g l) = ⨆ i : Fin 16, grp ((wV arg2 arg11 arg12 arg13 X2 X11 X12 X13) (mcol j l)) g ⟨8 * i.val + s.val, by omega⟩ := by
  unfold gF
  refine (sRd_apply _ _ j s g l).trans ((read16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ X2 X11 X12 X13 _ X16 j _ l).trans ?_)
  refine iSup_congr fun i => ?_
  unfold grp wV
  refine congrArg (fun R => WS arg2 arg11 arg12 arg13 X2 X11 X12 X13 R (mcol j l)) (Fin.ext ?_)
  show 128 * ((8 * g.val + s.val) / 8) + 8 * i.val + (8 * g.val + s.val) % 8 = 128 * g.val + (8 * i.val + s.val)
  omega

/-- The smallest scaled weight of a group. -/
theorem lo_apply (j : Fin 4) (g : Fin 40) (l : Fin 128) : pLo ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j) (ix2 g l) = Group.lo (grp ((wV arg2 arg11 arg12 arg13 X2 X11 X12 X13) (mcol j l)) g) ((wK arg2 arg7 arg11 arg12 arg13 X2 X7 X11 X12 X13) (mcol j l)) := by
  rw [pLo_apply, kF_apply, ← Group.lo_eq, ← inf_rows, ← sup_rows]
  refine congrArg₂ min (congrArg (· * _) (iInf_congr fun s => ?_)) (congrArg (· * _) (iSup_congr fun s => ?_))
  · exact eF_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15 j s g l
  · exact gF_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16 j s g l

/-- The largest scaled weight of a group. -/
theorem hi_apply (j : Fin 4) (g : Fin 40) (l : Fin 128) : pHi ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j) (ix2 g l) = Group.hi (grp ((wV arg2 arg11 arg12 arg13 X2 X11 X12 X13) (mcol j l)) g) ((wK arg2 arg7 arg11 arg12 arg13 X2 X7 X11 X12 X13) (mcol j l)) := by
  rw [pHi_apply, kF_apply, ← Group.hi_eq, ← inf_rows, ← sup_rows]
  refine congrArg₂ max (congrArg (· * _) (iInf_congr fun s => ?_)) (congrArg (· * _) (iSup_congr fun s => ?_))
  · exact eF_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15 j s g l
  · exact gF_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16 j s g l

/-- The new scale of a group. -/
theorem osf_apply (j : Fin 4) (g : Fin 40) (l : Fin 128) :
    k0_pay1423 (F := Ideal) (pEq ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j)) (pDf ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j)) (ix2 g l) = Group.osf (grp ((wV arg2 arg11 arg12 arg13 X2 X11 X12 X13) (mcol j l)) g) ((wK arg2 arg7 arg11 arg12 arg13 X2 X7 X11 X12 X13) (mcol j l)) := by
  unfold Group.osf
  rw [← lo_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16, ← hi_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16]
  exact pay1423_apply _ _ g l _ _ (pEq_apply _ _ _ g l) (pDf_apply _ _ _ g l)

/-- The scales the body leaves. -/
theorem o9_apply (g : Fin 40) (C : Fin 512) :
    arg9.view.read (Elt Ideal) (o9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16) (ix3 0 g C) = Group.osf (grp ((wV arg2 arg11 arg12 arg13 X2 X11 X12 X13) C) g) ((wK arg2 arg7 arg11 arg12 arg13 X2 X7 X11 X12 X13) C) := by
  have e : mcol ⟨C.val / 128, by omega⟩ ⟨C.val % 128, by omega⟩ = C := Fin.ext (by show 128 * (C.val / 128) + C.val % 128 = C.val; omega)
  refine (read_l3 arg9 _ (fun j => k0_pay1427 (F := Ideal) (pEq ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j)) (pDf ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j))) g C).trans ?_
  have h := osf_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16 ⟨C.val / 128, by omega⟩ g ⟨C.val % 128, by omega⟩
  rw [e] at h
  rw [← h]
  unfold k0_pay1427
  pointwise []

/-- The stored zero point of a group. -/
theorem z_apply (j : Fin 4) (g : Fin 40) (l : Fin 128) :
    k0_pay1426 (F := Ideal) (pLo ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j)) (pEq ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j)) (pDf ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j)) (ix2 g l) = ((gS (grp ((wV arg2 arg11 arg12 arg13 X2 X11 X12 X13) (mcol j l)) g) ((wK arg2 arg7 arg11 arg12 arg13 X2 X7 X11 X12 X13) (mcol j l)) : ℝ) : EReal) := by
  refine (pay1426_apply _ _ _ _ g l _ _ _ (osf_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16 j g l) (lo_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16 j g l) (hi_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16 j g l)).trans ?_
  exact (g_spec _ _).2.2.2.2.1

/-- The zero points the body leaves. -/
theorem o10_apply (g : Fin 40) (C : Fin 512) :
    arg10.view.read (Elt Ideal) (o10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16) (ix3 0 g C) = BitVec.ofNat 8 (Group.toN (Group.zr (grp ((wV arg2 arg11 arg12 arg13 X2 X11 X12 X13) C) g) ((wK arg2 arg7 arg11 arg12 arg13 X2 X7 X11 X12 X13) C))) := by
  have e : mcol ⟨C.val / 128, by omega⟩ ⟨C.val % 128, by omega⟩ = C := Fin.ext (by show 128 * (C.val / 128) + C.val % 128 = C.val; omega)
  refine (read_l3 arg10 _ (fun j => k0_pay1428 (F := Ideal) (pLo ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j)) (pEq ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j)) (pDf ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j))) g C).trans ?_
  have h := z_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16 ⟨C.val / 128, by omega⟩ g ⟨C.val % 128, by omega⟩
  rw [e] at h
  rw [g_zr, Group.toN_coe]
  exact pay1428_apply _ _ _ g _ _ (gS_le _ _) h

/-- The factor of each group and column. -/
theorem x17_apply (f : BufTy.Contents (Elt Ideal) arg17.view.ty) (g : Fin 40) (C : Fin 512) :
    arg17.view.read (Elt Ideal) (arg17.view.writes (Elt Ideal) f (l17 (kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) (eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) (gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16))) (ix2 g C)
      = if ((15.5 : ℝ) : EReal) < Ideal.div (Group.lo (grp ((wV arg2 arg11 arg12 arg13 X2 X11 X12 X13) C) g) ((wK arg2 arg7 arg11 arg12 arg13 X2 X7 X11 X12 X13) C)) (Group.osf (grp ((wV arg2 arg11 arg12 arg13 X2 X11 X12 X13) C) g) ((wK arg2 arg7 arg11 arg12 arg13 X2 X7 X11 X12 X13) C)) ∨ Ideal.div (Group.hi (grp ((wV arg2 arg11 arg12 arg13 X2 X11 X12 X13) C) g) ((wK arg2 arg7 arg11 arg12 arg13 X2 X7 X11 X12 X13) C)) (Group.osf (grp ((wV arg2 arg11 arg12 arg13 X2 X11 X12 X13) C) g) ((wK arg2 arg7 arg11 arg12 arg13 X2 X7 X11 X12 X13) C)) < ((-15.5 : ℝ) : EReal) then 0
        else Ideal.div ((wK arg2 arg7 arg11 arg12 arg13 X2 X7 X11 X12 X13) C) (Group.osf (grp ((wV arg2 arg11 arg12 arg13 X2 X11 X12 X13) C) g) ((wK arg2 arg7 arg11 arg12 arg13 X2 X7 X11 X12 X13) C)) := by
  have e : mcol ⟨C.val / 128, by omega⟩ ⟨C.val % 128, by omega⟩ = C := Fin.ext (by show 128 * (C.val / 128) + C.val % 128 = C.val; omega)
  refine (read_l2 arg17 _ (fun j => k0_pay1432 (F := Ideal) ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) (pLo ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j)) (pHi ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j)) (pEq ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j)) (pDf ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j))) g C).trans ?_
  refine (pay1432_apply _ _ _ _ _ g _ _ _ _ (osf_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16 _ g _) (lo_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16 _ g _) (hi_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16 _ g _)).trans ?_
  rw [kF_apply, e]

/-- The zero point of the codes of a group. -/
theorem pz_apply (g : Fin 40) (C : Fin 512) :
    pZ (F := Ideal) ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) ⟨C.val / 128, by omega⟩) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) ⟨C.val / 128, by omega⟩) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) ⟨C.val / 128, by omega⟩) (ix2 g ⟨C.val % 128, by omega⟩) = ((gZ (grp ((wV arg2 arg11 arg12 arg13 X2 X11 X12 X13) C) g) ((wK arg2 arg7 arg11 arg12 arg13 X2 X7 X11 X12 X13) C) : ℝ) : EReal) := by
  have e : mcol ⟨C.val / 128, by omega⟩ ⟨C.val % 128, by omega⟩ = C := Fin.ext (by show 128 * (C.val / 128) + C.val % 128 = C.val; omega)
  unfold pZ
  refine (pay1431_apply _ _ _ _ g _ _ _ _ (osf_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16 _ g _) (lo_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16 _ g _) (hi_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16 _ g _)).trans ?_
  rw [e]
  exact (g_spec (grp ((wV arg2 arg11 arg12 arg13 X2 X11 X12 X13) C) g) ((wK arg2 arg7 arg11 arg12 arg13 X2 X7 X11 X12 X13) C)).2.2.2.2.2.2.1

/-- The second loop finds what it asks for. -/
theorem ready : Ready arg14 arg17 arg18 arg19 arg20 (arg14.view.writes (Elt Ideal) X14 (lp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13).2.1)
    (arg17.view.writes (Elt Ideal) arg17.view.junk (l17 (kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) (eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) (gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16))) (arg18.view.writes (Elt Ideal) arg18.view.junk (l18 (kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) (eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) (gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16)))
    (arg19.view.writes (Elt Ideal) arg19.view.junk (l19 (kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) (eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) (gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16))) (arg20.view.writes (Elt Ideal) arg20.view.junk (l20 (kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) (eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) (gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16)))
    (fun R C => gN (grp ((wV arg2 arg11 arg12 arg13 X2 X11 X12 X13) C) ⟨R / 128 % 40, by omega⟩) ((wK arg2 arg7 arg11 arg12 arg13 X2 X7 X11 X12 X13) C) ⟨R % 128, by omega⟩)
    (fun g C => gZ (grp ((wV arg2 arg11 arg12 arg13 X2 X11 X12 X13) C) ⟨g % 40, by omega⟩) ((wK arg2 arg7 arg11 arg12 arg13 X2 X7 X11 X12 X13) C)) where
  small R C := (g_spec _ _).1 _
  zero g C := gZ_le _ _
  round R C := by
    have hR := R.isLt
    have h1 : arg14.view.read (Elt Ideal) (arg14.view.writes (Elt Ideal) X14 (lp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13).2.1) (ix2 R C) = (wV arg2 arg11 arg12 arg13 X2 X11 X12 X13) C R :=
      read14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ X2 X11 X12 X13 _ X14 R C
    have h2 := x17_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16 arg17.view.junk ⟨R.val / 128, by omega⟩ C
    refine (congrArg (Ideal.liftRound Ideal.roundHalfEven) (congrArg₂ (· * ·) h1 h2)).trans ?_
    have e1 : (⟨R.val / 128 % 40, by omega⟩ : Fin 40) = ⟨R.val / 128, by omega⟩ := Fin.ext (by show R.val / 128 % 40 = R.val / 128; omega)
    have e2 : grp ((wV arg2 arg11 arg12 arg13 X2 X11 X12 X13) C) ⟨R.val / 128, by omega⟩ ⟨R.val % 128, by omega⟩ = (wV arg2 arg11 arg12 arg13 X2 X11 X12 X13) C R := congrArg ((wV arg2 arg11 arg12 arg13 X2 X11 X12 X13) C) (Fin.ext (by show 128 * (R.val / 128) + R.val % 128 = R.val; omega))
    rw [e1, ← g_round, e2]
  low g C := by
    refine (read_l2 arg18 _ (fun j => k0_pay1434 (F := Ideal) (pZ ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j))) g C).trans ?_
    rw [show (⟨g.val % 40, by omega⟩ : Fin 40) = g from Fin.ext (Nat.mod_eq_of_lt g.isLt)]
    exact pay1434_apply _ g _ _ (gZ_le _ _) (pz_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16 g C)
  high g C := by
    refine (read_l2 arg19 _ (fun j => k0_pay1435 (F := Ideal) (pZ ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j))) g C).trans ?_
    rw [show (⟨g.val % 40, by omega⟩ : Fin 40) = g from Fin.ext (Nat.mod_eq_of_lt g.isLt)]
    exact pay1435_apply _ g _ _ (gZ_le _ _) (pz_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16 g C)
  word g C := by
    refine (read_l2 arg20 _ (fun j => k0_pay1436 (F := Ideal) (pZ ((kF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13) j) ((eF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X15) j) ((gF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X11 X12 X13 X16) j))) g C).trans ?_
    rw [show (⟨g.val % 40, by omega⟩ : Fin 40) = g from Fin.ext (Nat.mod_eq_of_lt g.isLt)]
    exact pay1436_apply _ g _ _ (gZ_le _ _) (pz_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X15 X16 g C)

/-- The packed codes the body leaves. -/
theorem o8_apply (P : Fin 2560) (C : Fin 512) :
    arg8.view.read (Elt Ideal) (o8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X8 X11 X12 X13 X14 X15 X16) (ix3 0 P C)
      = BitVec.ofNat 8 (Group.toN (Group.code (grp ((wV arg2 arg11 arg12 arg13 X2 X11 X12 X13) C) ⟨P.val / 64, by omega⟩) ((wK arg2 arg7 arg11 arg12 arg13 X2 X7 X11 X12 X13) C) ⟨2 * (P.val % 64), by omega⟩)
          + 16 * Group.toN (Group.code (grp ((wV arg2 arg11 arg12 arg13 X2 X11 X12 X13) C) ⟨P.val / 64, by omega⟩) ((wK arg2 arg7 arg11 arg12 arg13 X2 X7 X11 X12 X13) C) ⟨2 * (P.val % 64) + 1, by omega⟩)) := by
  have hP := P.isLt
  refine (read8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ (ready c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 X12 X13 X14 X15 X16) X8 P C).trans ?_
  rw [g_code, g_code, Group.toN_coe, Group.toN_coe]
  unfold packed
  dsimp only
  have e1 : (⟨2 * P.val / 128 % 40, by omega⟩ : Fin 40) = ⟨P.val / 64, by omega⟩ := Fin.ext (by show 2 * P.val / 128 % 40 = P.val / 64; omega)
  have e2 : (⟨(2 * P.val + 1) / 128 % 40, by omega⟩ : Fin 40) = ⟨P.val / 64, by omega⟩ := Fin.ext (by show (2 * P.val + 1) / 128 % 40 = P.val / 64; omega)
  have e3 : (⟨P.val / 64 % 40, by omega⟩ : Fin 40) = ⟨P.val / 64, by omega⟩ := Fin.ext (by show P.val / 64 % 40 = P.val / 64; omega)
  have e4 : (⟨2 * P.val % 128, by omega⟩ : Fin 128) = ⟨2 * (P.val % 64), by omega⟩ := Fin.ext (by show 2 * P.val % 128 = 2 * (P.val % 64); omega)
  have e5 : (⟨(2 * P.val + 1) % 128, by omega⟩ : Fin 128) = ⟨2 * (P.val % 64) + 1, by omega⟩ := Fin.ext (by show (2 * P.val + 1) % 128 = 2 * (P.val % 64) + 1; omega)
  rw [e1, e2, e3, e4, e5]

end

end Cert.KernelIdeal.Own
end
-- ==== Proof.WeightValue.lean ====
/- The direction matrix of a block in terms of the inputs: what the scratch factors hold, and the sum they give. -/
module

public import proofs.«01_k».proof.Proof.BlockValue
public import Idealize.ShloMosaic.Lib.WritesUnit

@[expose] public section

set_option maxRecDepth 16384

noncomputable section

namespace Cert.KernelIdeal.Own

open Cert.KernelIdeal.Gen
open Idealize.ShloMosaic Idealize.ShloMosaic.TcCoe Idealize.ShloMosaic.Tactic

/-- One weight: the code less the zero point, times the scale, plus half the low-rank product. -/
def wt (q : BitVec 8) (s : EReal) (z : BitVec 8) (a b : Fin 96 → EReal) (r : ℕ) : EReal :=
  (FloatOps.sitofp (F := Ideal) .f32 (nib q r) - FloatOps.sitofp (F := Ideal) .f32 (z.setWidth 32)) * s + ((1 / 2 : ℝ) : EReal) * ∑ k, a k * b k

/-- One half. -/
theorem cHalf16 : Ideal.ofBits .bf16 (16128#16) = ((1 / 2 : ℝ) : EReal) := by
  simp [Ideal.ofBits, Ideal.ieee, -EReal.coe_mul]; norm_num

/-- Half a sum is the sum of the halves. -/
theorem half_sum {n : ℕ} (f : Fin n → EReal) : ∑ k, f k * ((1 / 2 : ℝ) : EReal) = ((1 / 2 : ℝ) : EReal) * ∑ k, f k := by
  have h0 : (0 : EReal) ≤ ((1 / 2 : ℝ) : EReal) := by rw [← EReal.coe_zero]; exact EReal.coe_le_coe_iff.mpr (by norm_num)
  have key : ∀ t : Finset (Fin n), ∑ k ∈ t, f k * ((1 / 2 : ℝ) : EReal) = ((1 / 2 : ℝ) : EReal) * ∑ k ∈ t, f k := by
    intro t
    induction t using Finset.induction_on with
    | empty => simp
    | insert x t hx ih =>
      rw [Finset.sum_insert hx, Finset.sum_insert hx, ih, EReal.left_distrib_of_nonneg_of_ne_top h0 (EReal.coe_ne_top _), mul_comm (f x)]
  exact key _

/-- One weight as the body sums it. -/
def wb (q : BitVec 8) (s : EReal) (z : BitVec 8) (a b : Fin 96 → EReal) (r : ℕ) : EReal :=
  FloatOps.sitofp (F := Ideal) .bf16 (nib q r) * s
    + (((1 / 2 : ℝ) : EReal) * ∑ k, a k * b k + ((0 - FloatOps.sitofp (F := Ideal) .f32 (z.setWidth 32) * s)
        + (0 - (FloatOps.sitofp (F := Ideal) .f32 (z.setWidth 32) * s - FloatOps.sitofp (F := Ideal) .f32 (z.setWidth 32) * s))))

/-- The product of the scratch factors is half the low-rank product. -/
theorem half_dot (a b : Fin 96 → EReal) (a' b' : Fin 128 → EReal)
    (ha : ∀ k : Fin 96, a' ⟨k.val, by omega⟩ = a k) (ha0 : ∀ k : Fin 128, 96 ≤ k.val → a' k = 0)
    (hb : ∀ k : Fin 96, b' ⟨k.val, by omega⟩ = b k * ((1 / 2 : ℝ) : EReal)) :
    ∑ x : Fin 128, a' x * b' x = ((1 / 2 : ℝ) : EReal) * ∑ k, a k * b k := by
  rw [← half_sum]
  refine (Fin.sum_univ_add (a := 96) (b := 32) (fun x => a' x * b' x)).trans ?_
  rw [Finset.sum_eq_zero (s := Finset.univ) (f := fun i : Fin 32 => a' (Fin.natAdd 96 i) * b' (Fin.natAdd 96 i)) (fun i _ => by rw [ha0 _ (by show 96 ≤ 96 + i.val; omega), zero_mul]), add_zero]
  refine Finset.sum_congr rfl fun k _ => ?_
  rw [mul_assoc, ← hb k, ← ha k]
  rfl

/-- What the body sums is the weight, where the scale is finite. -/
theorem wb_eq (q : BitVec 8) (s : ℝ) (z : BitVec 8) (a b : Fin 96 → EReal) (r : ℕ) : wb q (s : EReal) z a b r = wt q (s : EReal) z a b r := by
  unfold wt wb
  generalize ((1 / 2 : ℝ) : EReal) * ∑ k, a k * b k = T
  obtain ⟨f, hf⟩ : ∃ f : ℝ, FloatOps.sitofp (F := Ideal) .f32 (nib q r) = (f : EReal) := ⟨_, rfl⟩
  obtain ⟨y, hy⟩ : ∃ y : ℝ, FloatOps.sitofp (F := Ideal) .f32 (z.setWidth 32) = (y : EReal) := ⟨_, rfl⟩
  have hf' : FloatOps.sitofp (F := Ideal) .bf16 (nib q r) = (f : EReal) := hf
  rw [hf', hf, hy]
  have e : (0 - (y : EReal) * (s : EReal) + (0 - ((y : EReal) * (s : EReal) - (y : EReal) * (s : EReal)))) = ((-(y * s) : ℝ) : EReal) := by
    rw [← EReal.coe_mul, ← EReal.coe_sub, sub_self, EReal.coe_zero, sub_zero, add_zero, zero_sub, EReal.coe_neg]
  rw [e, add_comm T, ← add_assoc, ← EReal.coe_mul, ← EReal.coe_add, ← EReal.coe_sub, ← EReal.coe_mul]
  congr 2
  ring

section
variable (arg2 : Memref sig .tc .vmem S1x2560x512 .i8) (arg3 : Memref sig .tc .vmem S1x40x512 .bf16) (arg4 : Memref sig .tc .vmem S1x40x512 .i8)
  (arg5 : Memref sig .tc .vmem S1x5120x96 .bf16) (arg6 : Memref sig .tc .vmem S1x96x512 .bf16) (arg11 : Memref sig .tc .vmem S5120x128 .bf16)
  (arg12 : Memref sig .tc .vmem S256x512 .bf16) (arg13 : Memref sig .tc .vmem S40x512 .f32)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X11 : BufTy.Contents (Elt Ideal) arg11.view.ty) (X12 : BufTy.Contents (Elt Ideal) arg12.view.ty) (X13 : BufTy.Contents (Elt Ideal) arg13.view.ty)

/-- What the left factor holds after a batch's first column block: the batch's left factor, then zeros. -/
theorem read11 (R : Fin 5120) (k : Fin 128) :
    arg11.view.read (Elt Ideal) (x11 arg5 arg11 X5) (ix2 R k) = if h : k.val < 96 then arg5.view.read (Elt Ideal) X5 (ix3 0 R ⟨k.val, h⟩) else 0 := by
  unfold x11
  split_ifs with h
  · refine (View.read_writes_cons_unit_of_mem arg11.view _ inb_S5120x128_S5120x96_0_0 _ _ (ix2 R k) (ix2 R ⟨k.val, h⟩ : S5120x96.Idx) rfl (fun a => ?_)).trans ?_
    · match a with
      | ⟨0, _⟩ => exact (Nat.zero_add _).symm
      | ⟨1, _⟩ => exact (Nat.zero_add _).symm
    · unfold k0_pay1402
      pointwise []
      exact rd3 arg5.view _ _ X5 0 R ⟨k.val, h⟩ 0 R ⟨k.val, h⟩ rfl (Nat.zero_add _).symm (Nat.zero_add _).symm
  · refine (View.read_writes_cons_unit_of_not_mem arg11.view _ inb_S5120x128_S5120x96_0_0 _ _ (ix2 R k) rfl 1 (Or.inr ?_)).trans ?_
    · show 0 + 96 ≤ k.val
      omega
    · refine (View.read_writes_cons_unit_of_mem arg11.view _ inb_S5120x128_S5120x128_0_0 _ _ (ix2 R k) (ix2 R k : S5120x128.Idx) rfl (fun a => ?_)).trans ?_
      · match a with
        | ⟨0, _⟩ => exact (Nat.zero_add _).symm
        | ⟨1, _⟩ => exact (Nat.zero_add _).symm
      · unfold k0_pay1401
        pointwise []

/-- The scales the body keeps. -/
theorem read13 (g : Fin 40) (C : Fin 512) : arg13.view.read (Elt Ideal) (x13 arg3 arg13 X3) (ix2 g C) = arg3.view.read (Elt Ideal) X3 (ix3 0 g C) := by
  unfold x13
  refine (View.read_writes_cons_unit_of_mem arg13.view _ inb_S40x512_S40x512_0_0 _ _ (ix2 g C) (ix2 g C : S40x512.Idx) rfl (fun a => ?_)).trans ?_
  · match a with
    | ⟨0, _⟩ => exact (Nat.zero_add _).symm
    | ⟨1, _⟩ => exact (Nat.zero_add _).symm
  · unfold k0_pay1407 k0_pay1404
    pointwise []
    exact rd3 arg3.view _ _ X3 0 g C 0 g C rfl (Nat.zero_add _).symm (Nat.zero_add _).symm

variable (L : List (View.Piece (Elt Ideal) S256x512 .bf16))

/-- Half the batch's right factor, in the first rows of the scratch factor. -/
theorem read12_b (k : Fin 96) (C : Fin 512) :
    arg12.view.read (Elt Ideal) (arg12.view.writes (Elt Ideal) X12 (h12 arg3 arg4 arg6 X3 X4 X6 ++ L)) (ix2 ⟨k.val, by omega⟩ C)
      = arg6.view.read (Elt Ideal) X6 (ix3 0 k C) * ((1 / 2 : ℝ) : EReal) := by
  unfold h12
  have hk := k.isLt
  refine (View.read_writes_cons_unit_of_not_mem arg12.view _ inb_S256x512_S40x512_192_0 _ _ _ rfl 0 (Or.inl (by show k.val < 192; omega))).trans ?_
  refine (View.read_writes_cons_unit_of_not_mem arg12.view _ inb_S256x512_S40x512_128_0 _ _ _ rfl 0 (Or.inl (by show k.val < 128; omega))).trans ?_
  refine (View.read_writes_cons_unit_of_mem arg12.view _ inb_S256x512_S96x512_0_0 _ _ _ (ix2 k C : S96x512.Idx) rfl (fun a => ?_)).trans ?_
  · match a with
    | ⟨0, _⟩ => exact (Nat.zero_add _).symm
    | ⟨1, _⟩ => exact (Nat.zero_add _).symm
  · unfold k0_pay1408
    pointwise []
    exact congrArg₂ (· * ·) (rd3 arg6.view _ _ X6 0 k C 0 k C rfl (Nat.zero_add _).symm (Nat.zero_add _).symm) cHalf16

/-- The zero points' products, in its second block of rows. -/
theorem read12_z (g : Fin 40) (C : Fin 512) :
    arg12.view.read (Elt Ideal) (arg12.view.writes (Elt Ideal) X12 (h12 arg3 arg4 arg6 X3 X4 X6 ++ L)) (ix2 ⟨128 + g.val, by omega⟩ C)
      = 0 - FloatOps.sitofp (F := Ideal) .f32 ((arg4.view.read (Elt Ideal) X4 (ix3 0 g C) : BitVec 8).setWidth 32) * arg3.view.read (Elt Ideal) X3 (ix3 0 g C) := by
  unfold h12
  have hk := g.isLt
  refine (View.read_writes_cons_unit_of_not_mem arg12.view _ inb_S256x512_S40x512_192_0 _ _ _ rfl 0 (Or.inl (by show 128 + g.val < 192; omega))).trans ?_
  refine (View.read_writes_cons_unit_of_mem arg12.view _ inb_S256x512_S40x512_128_0 _ _ _ (ix2 g C : S40x512.Idx) rfl (fun a => ?_)).trans ?_
  · match a with
    | ⟨0, _⟩ => rfl
    | ⟨1, _⟩ => exact (Nat.zero_add _).symm
  · unfold k0_pay1409 k0_pay1406 k0_pay1405 k0_pay1404
    pointwise []
    exact congrArg₂ (· - ·) rfl (congrArg₂ (fun (x : BitVec 8) (y : EReal) => FloatOps.sitofp (F := Ideal) .f32 (x.setWidth 32) * y)
      (rd3 arg4.view _ _ X4 0 g C 0 g C rfl (Nat.zero_add _).symm (Nat.zero_add _).symm) (rd3 arg3.view _ _ X3 0 g C 0 g C rfl (Nat.zero_add _).symm (Nat.zero_add _).symm))

/-- What rounding those products leaves out, in its third block of rows. -/
theorem read12_y (g : Fin 40) (C : Fin 512) :
    arg12.view.read (Elt Ideal) (arg12.view.writes (Elt Ideal) X12 (h12 arg3 arg4 arg6 X3 X4 X6 ++ L)) (ix2 ⟨192 + g.val, by omega⟩ C)
      = 0 - (FloatOps.sitofp (F := Ideal) .f32 ((arg4.view.read (Elt Ideal) X4 (ix3 0 g C) : BitVec 8).setWidth 32) * arg3.view.read (Elt Ideal) X3 (ix3 0 g C)
          - FloatOps.sitofp (F := Ideal) .f32 ((arg4.view.read (Elt Ideal) X4 (ix3 0 g C) : BitVec 8).setWidth 32) * arg3.view.read (Elt Ideal) X3 (ix3 0 g C)) := by
  unfold h12
  have hk := g.isLt
  refine (View.read_writes_cons_unit_of_mem arg12.view _ inb_S256x512_S40x512_192_0 _ _ _ (ix2 g C : S40x512.Idx) rfl (fun a => ?_)).trans ?_
  · match a with
    | ⟨0, _⟩ => rfl
    | ⟨1, _⟩ => exact (Nat.zero_add _).symm
  · unfold k0_pay1411 k0_pay1410 k0_pay1406 k0_pay1405 k0_pay1404
    pointwise []
    exact congrArg₂ (· - ·) rfl (congrArg₂ (fun (x : BitVec 8) (y : EReal) => FloatOps.sitofp (F := Ideal) .f32 (x.setWidth 32) * y - FloatOps.sitofp (F := Ideal) .f32 (x.setWidth 32) * y)
      (rd3 arg4.view _ _ X4 0 g C 0 g C rfl (Nat.zero_add _).symm (Nat.zero_add _).symm) (rd3 arg3.view _ _ X3 0 g C 0 g C rfl (Nat.zero_add _).symm (Nat.zero_add _).symm))

/-- The weights of a column of the block, in terms of the inputs. -/
theorem wV_apply (hA : ∀ (R : Fin 5120) (k : Fin 128), arg11.view.read (Elt Ideal) X11 (ix2 R k) = if h : k.val < 96 then arg5.view.read (Elt Ideal) X5 (ix3 0 R ⟨k.val, h⟩) else 0)
    (C : Fin 512) (R : Fin 5120) :
    wV arg2 arg11 arg12 arg13 X2 X11 (arg12.view.writes (Elt Ideal) X12 (h12 arg3 arg4 arg6 X3 X4 X6 ++ L)) (x13 arg3 arg13 X3) C R
      = wb (arg2.view.read (Elt Ideal) X2 (ix3 0 ⟨R.val / 2, by omega⟩ C)) (arg3.view.read (Elt Ideal) X3 (ix3 0 ⟨R.val / 128, by omega⟩ C))
          (arg4.view.read (Elt Ideal) X4 (ix3 0 ⟨R.val / 128, by omega⟩ C)) (fun k => arg5.view.read (Elt Ideal) X5 (ix3 0 R k)) (fun k => arg6.view.read (Elt Ideal) X6 (ix3 0 k C)) R.val := by
  unfold wV WS VS wb
  have hd := half_dot (fun k => arg5.view.read (Elt Ideal) X5 (ix3 0 R k)) (fun k => arg6.view.read (Elt Ideal) X6 (ix3 0 k C))
    (fun k => arg11.view.read (Elt Ideal) X11 (ix2 R k)) (fun k => arg12.view.read (Elt Ideal) (arg12.view.writes (Elt Ideal) X12 (h12 arg3 arg4 arg6 X3 X4 X6 ++ L)) (ix2 ⟨k.val, by omega⟩ C))
    (fun k => (hA R _).trans (dif_pos k.isLt)) (fun k hk => (hA R k).trans (dif_neg (by omega))) (fun k => read12_b arg3 arg4 arg6 arg12 X3 X4 X6 X12 L k C)
  have h13 := read13 arg3 arg13 X3 ⟨R.val / 128, by omega⟩ C
  have hz := read12_z arg3 arg4 arg6 arg12 X3 X4 X6 X12 L ⟨R.val / 128, by omega⟩ C
  have hy := read12_y arg3 arg4 arg6 arg12 X3 X4 X6 X12 L ⟨R.val / 128, by omega⟩ C
  exact congrArg₂ (· + ·) (congrArg (_ * ·) h13) (congrArg₂ (· + ·) hd (congrArg₂ (· + ·) hz hy))

end

end Cert.KernelIdeal.Own
end
-- ==== Proof.ParamsRun.lean ====
module
public import proofs.«01_k».proof.Proof.Params
@[expose] public section
set_option maxRecDepth 16384
noncomputable section
namespace Cert.KernelIdeal.Own
open Cert.KernelIdeal.Gen
open Idealize.ShloMosaic Idealize.ShloMosaic.TcCoe Idealize.ShloMosaic.Tactic
variable {F : FTy → Type} [FloatOps F]
section
variable (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty)
variable (hc : Cond0 i) (hn : ¬ Cond0 i)

set_option maxHeartbeats 2000000 in
/-- The codes the body leaves, at a batch's first column block. -/
theorem runA_8 : (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc X2 X3 X4 X5 X6 X7 X8 X9 X10 X11 X12 X13 X14 X15 X16 X17 X18 X19 X20).1 = o8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X8 (x11 arg5 arg11 X5) (x12A arg3 arg4 arg6 arg12 X3 X4 X6) (x13 arg3 arg13 X3) X14 X15 X16 := by
  delta runA
  dsimp only
  rfl

set_option maxHeartbeats 2000000 in
/-- The scales the body leaves, at a batch's first column block. -/
theorem runA_9 : (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc X2 X3 X4 X5 X6 X7 X8 X9 X10 X11 X12 X13 X14 X15 X16 X17 X18 X19 X20).2.1 = o9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 (x11 arg5 arg11 X5) (x12A arg3 arg4 arg6 arg12 X3 X4 X6) (x13 arg3 arg13 X3) X15 X16 := by
  delta runA
  dsimp only
  rfl

set_option maxHeartbeats 2000000 in
/-- The zero points the body leaves, at a batch's first column block. -/
theorem runA_10 : (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc X2 X3 X4 X5 X6 X7 X8 X9 X10 X11 X12 X13 X14 X15 X16 X17 X18 X19 X20).2.2.1 = o10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 (x11 arg5 arg11 X5) (x12A arg3 arg4 arg6 arg12 X3 X4 X6) (x13 arg3 arg13 X3) X15 X16 := by
  delta runA
  dsimp only
  rfl

set_option maxHeartbeats 2000000 in
/-- The left factor the body leaves, at a batch's first column block. -/
theorem runA_11 : (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc X2 X3 X4 X5 X6 X7 X8 X9 X10 X11 X12 X13 X14 X15 X16 X17 X18 X19 X20).2.2.2.1 = x11 arg5 arg11 X5 := by
  delta runA
  dsimp only
  rfl

set_option maxHeartbeats 2000000 in
/-- The codes the body leaves, at another column block. -/
theorem runB_8 : (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hn X2 X3 X4 X5 X6 X7 X8 X9 X10 X11 X12 X13 X14 X15 X16 X17 X18 X19 X20).1 = o8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X8 X11 (x12B arg3 arg4 arg6 arg12 X3 X4 X6 X12) (x13 arg3 arg13 X3) X14 X15 X16 := by
  delta runB
  dsimp only
  rfl

set_option maxHeartbeats 2000000 in
/-- The scales the body leaves, at another column block. -/
theorem runB_9 : (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hn X2 X3 X4 X5 X6 X7 X8 X9 X10 X11 X12 X13 X14 X15 X16 X17 X18 X19 X20).2.1 = o9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 (x12B arg3 arg4 arg6 arg12 X3 X4 X6 X12) (x13 arg3 arg13 X3) X15 X16 := by
  delta runB
  dsimp only
  rfl

set_option maxHeartbeats 2000000 in
/-- The zero points the body leaves, at another column block. -/
theorem runB_10 : (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hn X2 X3 X4 X5 X6 X7 X8 X9 X10 X11 X12 X13 X14 X15 X16 X17 X18 X19 X20).2.2.1 = o10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 (x12B arg3 arg4 arg6 arg12 X3 X4 X6 X12) (x13 arg3 arg13 X3) X15 X16 := by
  delta runB
  dsimp only
  rfl

set_option maxHeartbeats 2000000 in
/-- The left factor the body leaves, at another column block. -/
theorem runB_11 : (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hn X2 X3 X4 X5 X6 X7 X8 X9 X10 X11 X12 X13 X14 X15 X16 X17 X18 X19 X20).2.2.2.1 = X11 := by
  delta runB
  rfl

end
end Cert.KernelIdeal.Own
end
-- ==== Proof.RunValue.lean ====
/- What the whole body leaves, in terms of its input blocks alone, in both cases. -/
module

public import proofs.«01_k».proof.Proof.WeightValue
public import proofs.«01_k».proof.Proof.ParamsRun

@[expose] public section

set_option maxRecDepth 16384

noncomputable section

namespace Cert.KernelIdeal.Own

open Cert.KernelIdeal.Gen
open Idealize.ShloMosaic Idealize.ShloMosaic.TcCoe Idealize.ShloMosaic.Tactic

/-- An index of a block, whose first axis has one entry. -/
theorem one3 {a b : ℕ} (y : (⟨3, ![1, a, b]⟩ : Shape).Idx) : y = ix3 (n0 := 1) (n1 := a) (n2 := b) 0 (y 1) (y 2) :=
  (eq_ix3 y).trans (congrArg (fun z : Fin 1 => ix3 (n0 := 1) (n1 := a) (n2 := b) z (y 1) (y 2)) (Subsingleton.elim _ _))

/-- The weights of a column of a block. -/
def bW (x2 : S1x2560x512.Idx → BitVec 8) (x3 : S1x40x512.Idx → EReal) (x4 : S1x40x512.Idx → BitVec 8) (x5 : S1x5120x96.Idx → EReal)
    (x6 : S1x96x512.Idx → EReal) (C : Fin 512) (R : Fin 5120) : EReal :=
  wb (x2 (ix3 0 ⟨R.val / 2, by omega⟩ C)) (x3 (ix3 0 ⟨R.val / 128, by omega⟩ C)) (x4 (ix3 0 ⟨R.val / 128, by omega⟩ C)) (fun k => x5 (ix3 0 R k)) (fun k => x6 (ix3 0 k C)) R.val

/-- The new scale of a group, from a column's weights. -/
def rS (v : Fin 5120 → EReal) (mg : EReal) (g : Fin 40) : EReal := Group.osf (grp v g) (colK v mg)
/-- The new zero point of a group. -/
def rZ (v : Fin 5120 → EReal) (mg : EReal) (g : Fin 40) : BitVec 8 := BitVec.ofNat 8 (Group.toN (Group.zr (grp v g) (colK v mg)))
/-- A packed byte of new codes. -/
def rQ (v : Fin 5120 → EReal) (mg : EReal) (P : Fin 2560) : BitVec 8 :=
  BitVec.ofNat 8 (Group.toN (Group.code (grp v ⟨P.val / 64, by omega⟩) (colK v mg) ⟨2 * (P.val % 64), by omega⟩)
    + 16 * Group.toN (Group.code (grp v ⟨P.val / 64, by omega⟩) (colK v mg) ⟨2 * (P.val % 64) + 1, by omega⟩))

/-- The packed codes of a block. -/
def b8 (x2 : S1x2560x512.Idx → BitVec 8) (x3 : S1x40x512.Idx → EReal) (x4 : S1x40x512.Idx → BitVec 8) (x5 : S1x5120x96.Idx → EReal)
    (x6 : S1x96x512.Idx → EReal) (x7 : S1x1x512.Idx → EReal) : S1x2560x512.Idx → BitVec 8 := fun y => rQ (bW x2 x3 x4 x5 x6 (y 2)) (x7 (ix3 0 0 (y 2))) (y 1)
/-- The scales of a block. -/
def b9 (x2 : S1x2560x512.Idx → BitVec 8) (x3 : S1x40x512.Idx → EReal) (x4 : S1x40x512.Idx → BitVec 8) (x5 : S1x5120x96.Idx → EReal)
    (x6 : S1x96x512.Idx → EReal) (x7 : S1x1x512.Idx → EReal) : S1x40x512.Idx → EReal := fun y => rS (bW x2 x3 x4 x5 x6 (y 2)) (x7 (ix3 0 0 (y 2))) (y 1)
/-- The zero points of a block. -/
def b10 (x2 : S1x2560x512.Idx → BitVec 8) (x3 : S1x40x512.Idx → EReal) (x4 : S1x40x512.Idx → BitVec 8) (x5 : S1x5120x96.Idx → EReal)
    (x6 : S1x96x512.Idx → EReal) (x7 : S1x1x512.Idx → EReal) : S1x40x512.Idx → BitVec 8 := fun y => rZ (bW x2 x3 x4 x5 x6 (y 2)) (x7 (ix3 0 0 (y 2))) (y 1)
/-- The left factor: a batch's, then zeros. -/
def bL (x5 : S1x5120x96.Idx → EReal) : S5120x128.Idx → EReal := fun y => if h : (y 1).val < 96 then x5 (ix3 0 (y 0) ⟨(y 1).val, h⟩) else 0

section
variable (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty)

/-- The left factor after a batch's first column block. -/
theorem x11_eq : arg11.view.read (Elt Ideal) (x11 arg5 arg11 X5) = bL (arg5.view.read (Elt Ideal) X5) := by
  funext y
  obtain ⟨R, k, rfl⟩ : ∃ (R : Fin 5120) (k : Fin 128), y = ix2 R k := ⟨y 0, y 1, eq_ix2 y⟩
  exact read11 arg5 arg11 X5 R k

variable (hL : arg11.view.read (Elt Ideal) X11 = bL (arg5.view.read (Elt Ideal) X5)) (L : List (View.Piece (Elt Ideal) S256x512 .bf16))
include hL

/-- The weights of the block are those of its inputs. -/
theorem wV_eq (C : Fin 512) : wV arg2 arg11 arg12 arg13 X2 X11 (arg12.view.writes (Elt Ideal) X12 (h12 arg3 arg4 arg6 X3 X4 X6 ++ L)) (x13 arg3 arg13 X3) C
    = bW (arg2.view.read (Elt Ideal) X2) (arg3.view.read (Elt Ideal) X3) (arg4.view.read (Elt Ideal) X4) (arg5.view.read (Elt Ideal) X5) (arg6.view.read (Elt Ideal) X6) C :=
  funext fun R => wV_apply arg2 arg3 arg4 arg5 arg6 arg11 arg12 arg13 X2 X3 X4 X5 X6 X11 X12 L (fun R k => congrFun hL (ix2 R k)) C R

/-- The packed codes the body leaves. -/
theorem o8_eq : arg8.view.read (Elt Ideal) (o8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X8 X11 (arg12.view.writes (Elt Ideal) X12 (h12 arg3 arg4 arg6 X3 X4 X6 ++ L)) (x13 arg3 arg13 X3) X14 X15 X16)
    = b8 (arg2.view.read (Elt Ideal) X2) (arg3.view.read (Elt Ideal) X3) (arg4.view.read (Elt Ideal) X4) (arg5.view.read (Elt Ideal) X5) (arg6.view.read (Elt Ideal) X6) (arg7.view.read (Elt Ideal) X7) := by
  funext y
  obtain ⟨P, C, rfl⟩ : ∃ (P : Fin 2560) (C : Fin 512), y = ix3 0 P C := ⟨y 1, y 2, one3 y⟩
  refine (o8_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X8 X11 _ _ X14 X15 X16 P C).trans ?_
  unfold wK
  rw [wV_eq arg2 arg3 arg4 arg5 arg6 arg11 arg12 arg13 X2 X3 X4 X5 X6 X11 X12 hL L C]
  rfl

/-- The scales the body leaves. -/
theorem o9_eq : arg9.view.read (Elt Ideal) (o9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 (arg12.view.writes (Elt Ideal) X12 (h12 arg3 arg4 arg6 X3 X4 X6 ++ L)) (x13 arg3 arg13 X3) X15 X16)
    = b9 (arg2.view.read (Elt Ideal) X2) (arg3.view.read (Elt Ideal) X3) (arg4.view.read (Elt Ideal) X4) (arg5.view.read (Elt Ideal) X5) (arg6.view.read (Elt Ideal) X6) (arg7.view.read (Elt Ideal) X7) := by
  funext y
  obtain ⟨g, C, rfl⟩ : ∃ (g : Fin 40) (C : Fin 512), y = ix3 0 g C := ⟨y 1, y 2, one3 y⟩
  refine (o9_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 _ _ X15 X16 g C).trans ?_
  unfold wK
  rw [wV_eq arg2 arg3 arg4 arg5 arg6 arg11 arg12 arg13 X2 X3 X4 X5 X6 X11 X12 hL L C]
  rfl

/-- The zero points the body leaves. -/
theorem o10_eq : arg10.view.read (Elt Ideal) (o10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 (arg12.view.writes (Elt Ideal) X12 (h12 arg3 arg4 arg6 X3 X4 X6 ++ L)) (x13 arg3 arg13 X3) X15 X16)
    = b10 (arg2.view.read (Elt Ideal) X2) (arg3.view.read (Elt Ideal) X3) (arg4.view.read (Elt Ideal) X4) (arg5.view.read (Elt Ideal) X5) (arg6.view.read (Elt Ideal) X6) (arg7.view.read (Elt Ideal) X7) := by
  funext y
  obtain ⟨g, C, rfl⟩ : ∃ (g : Fin 40) (C : Fin 512), y = ix3 0 g C := ⟨y 1, y 2, one3 y⟩
  refine (o10_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X7 X11 _ _ X15 X16 g C).trans ?_
  unfold wK
  rw [wV_eq arg2 arg3 arg4 arg5 arg6 arg11 arg12 arg13 X2 X3 X4 X5 X6 X11 X12 hL L C]
  rfl

end

section
variable (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty)

/-- At a batch's first column block: the three outputs, and the left factor. -/
theorem runA_spec (hc : Cond0 i) :
    arg8.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc X2 X3 X4 X5 X6 X7 X8 X9 X10 X11 X12 X13 X14 X15 X16 X17 X18 X19 X20).1 = b8 (arg2.view.read (Elt Ideal) X2) (arg3.view.read (Elt Ideal) X3) (arg4.view.read (Elt Ideal) X4) (arg5.view.read (Elt Ideal) X5) (arg6.view.read (Elt Ideal) X6) (arg7.view.read (Elt Ideal) X7)
    ∧ arg9.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc X2 X3 X4 X5 X6 X7 X8 X9 X10 X11 X12 X13 X14 X15 X16 X17 X18 X19 X20).2.1 = b9 (arg2.view.read (Elt Ideal) X2) (arg3.view.read (Elt Ideal) X3) (arg4.view.read (Elt Ideal) X4) (arg5.view.read (Elt Ideal) X5) (arg6.view.read (Elt Ideal) X6) (arg7.view.read (Elt Ideal) X7)
    ∧ arg10.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc X2 X3 X4 X5 X6 X7 X8 X9 X10 X11 X12 X13 X14 X15 X16 X17 X18 X19 X20).2.2.1 = b10 (arg2.view.read (Elt Ideal) X2) (arg3.view.read (Elt Ideal) X3) (arg4.view.read (Elt Ideal) X4) (arg5.view.read (Elt Ideal) X5) (arg6.view.read (Elt Ideal) X6) (arg7.view.read (Elt Ideal) X7)
    ∧ arg11.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc X2 X3 X4 X5 X6 X7 X8 X9 X10 X11 X12 X13 X14 X15 X16 X17 X18 X19 X20).2.2.2.1 = bL (arg5.view.read (Elt Ideal) X5) := by
  have hL := x11_eq arg5 arg11 X5
  exact ⟨(congrArg (arg8.view.read (Elt Ideal)) (runA_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 X16 X17 X18 X19 X20 hc)).trans (o8_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 _ _ X14 X15 X16 hL _), (congrArg (arg9.view.read (Elt Ideal)) (runA_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 X16 X17 X18 X19 X20 hc)).trans (o9_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 _ _ X15 X16 hL _), (congrArg (arg10.view.read (Elt Ideal)) (runA_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 X16 X17 X18 X19 X20 hc)).trans (o10_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 _ _ X15 X16 hL _), (congrArg (arg11.view.read (Elt Ideal)) (runA_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 X16 X17 X18 X19 X20 hc)).trans hL⟩

/-- At another column block, which finds the left factor in place and leaves it. -/
theorem runB_spec (hn : ¬ Cond0 i) (hL : arg11.view.read (Elt Ideal) X11 = bL (arg5.view.read (Elt Ideal) X5)) :
    arg8.view.read (Elt Ideal) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hn X2 X3 X4 X5 X6 X7 X8 X9 X10 X11 X12 X13 X14 X15 X16 X17 X18 X19 X20).1 = b8 (arg2.view.read (Elt Ideal) X2) (arg3.view.read (Elt Ideal) X3) (arg4.view.read (Elt Ideal) X4) (arg5.view.read (Elt Ideal) X5) (arg6.view.read (Elt Ideal) X6) (arg7.view.read (Elt Ideal) X7)
    ∧ arg9.view.read (Elt Ideal) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hn X2 X3 X4 X5 X6 X7 X8 X9 X10 X11 X12 X13 X14 X15 X16 X17 X18 X19 X20).2.1 = b9 (arg2.view.read (Elt Ideal) X2) (arg3.view.read (Elt Ideal) X3) (arg4.view.read (Elt Ideal) X4) (arg5.view.read (Elt Ideal) X5) (arg6.view.read (Elt Ideal) X6) (arg7.view.read (Elt Ideal) X7)
    ∧ arg10.view.read (Elt Ideal) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hn X2 X3 X4 X5 X6 X7 X8 X9 X10 X11 X12 X13 X14 X15 X16 X17 X18 X19 X20).2.2.1 = b10 (arg2.view.read (Elt Ideal) X2) (arg3.view.read (Elt Ideal) X3) (arg4.view.read (Elt Ideal) X4) (arg5.view.read (Elt Ideal) X5) (arg6.view.read (Elt Ideal) X6) (arg7.view.read (Elt Ideal) X7)
    ∧ arg11.view.read (Elt Ideal) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hn X2 X3 X4 X5 X6 X7 X8 X9 X10 X11 X12 X13 X14 X15 X16 X17 X18 X19 X20).2.2.2.1 = bL (arg5.view.read (Elt Ideal) X5) := by
  exact ⟨(congrArg (arg8.view.read (Elt Ideal)) (runB_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 X16 X17 X18 X19 X20 hn)).trans (o8_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X11 X12 X14 X15 X16 hL []), (congrArg (arg9.view.read (Elt Ideal)) (runB_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 X16 X17 X18 X19 X20 hn)).trans (o9_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X11 X12 X15 X16 hL []), (congrArg (arg10.view.read (Elt Ideal)) (runB_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 X16 X17 X18 X19 X20 hn)).trans (o10_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X11 X12 X15 X16 hL []), (congrArg (arg11.view.read (Elt Ideal)) (runB_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 X14 X15 X16 X17 X18 X19 X20 hn)).trans hL⟩

end

end Cert.KernelIdeal.Own
end
-- ==== Proof.StepValue.lean ====
/- The body as a step on owned buffers: what it is handed, and what it leaves. -/
module

public import proofs.«01_k».proof.Proof.RunValue
public import Idealize.ShloMosaic.Lib.Tactic

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- One call of the body at the first column block of a batch, which fills the left factor. -/
theorem stepA (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (hc : Cond0 i) (x2 : S1x2560x512.Idx → Elt Ideal .i8) (x3 : S1x40x512.Idx → Elt Ideal .bf16) (x4 : S1x40x512.Idx → Elt Ideal .i8) (x5 : S1x5120x96.Idx → Elt Ideal .bf16) (x6 : S1x96x512.Idx → Elt Ideal .bf16) (x7 : S1x1x512.Idx → Elt Ideal .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (b8 x2 x3 x4 x5 x6 x7) ∗ owns (c : Thread nD τ) arg9 fullShare (b9 x2 x3 x4 x5 x6 x7) ∗ owns (c : Thread nD τ) arg10 fullShare (b10 x2 x3 x4 x5 x6 x7) ∗ owns (c : Thread nD τ) arg11 fullShare (bL x5) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := Ideal)) Variants.none c none) E (cc0_dora_requant (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩, ⟨%d19, %f19, %e19, H19⟩, ⟨%d20, %f20, %e20, H20⟩, Hk⟩
  subst e2 e3 e4 e5 e6 e7
  have s := runA_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f7 f8 f9 f10 f11 f12 f13 f14 f15 f16 f17 f18 f19 f20 hc
  iapply ((runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc f2 f3 f4 f5 f6 f7 f8 f9 f10 f11 f12 f13 f14 f15 f16 f17 f18 f19 f20).2.2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H2, H3, H4, H5, H6, H7, H8, H9, H10, H11, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩⟩
  iapply Hk
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; exact s.1
  isplitl [H9]
  · iexists _; isplitr
    swap; · iexact H9
    ipureintro; exact s.2.1
  isplitl [H10]
  · iexists _; isplitr
    swap; · iexact H10
    ipureintro; exact s.2.2.1
  isplitl [H11]
  · iexists _; isplitr
    swap; · iexact H11
    ipureintro; exact s.2.2.2
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  iexists _; iexists _; isplitr
  swap; · iexact H20
  ipureintro; rfl

/-- One call of the body at another column block, which finds the left factor in place. -/
theorem stepB (c : Dev nD) (i : grid0.Coords) (arg2 : Memref sig .tc .vmem S1x2560x512 .i8) (harg2 : arg2.IsWhole) (arg3 : Memref sig .tc .vmem S1x40x512 .bf16) (harg3 : arg3.IsWhole) (arg4 : Memref sig .tc .vmem S1x40x512 .i8) (harg4 : arg4.IsWhole) (arg5 : Memref sig .tc .vmem S1x5120x96 .bf16) (harg5 : arg5.IsWhole) (arg6 : Memref sig .tc .vmem S1x96x512 .bf16) (harg6 : arg6.IsWhole) (arg7 : Memref sig .tc .vmem S1x1x512 .bf16) (harg7 : arg7.IsWhole) (arg8 : Memref sig .tc .vmem S1x2560x512 .i8) (harg8 : arg8.IsWhole) (arg9 : Memref sig .tc .vmem S1x40x512 .bf16) (harg9 : arg9.IsWhole) (arg10 : Memref sig .tc .vmem S1x40x512 .i8) (harg10 : arg10.IsWhole) (arg11 : Memref sig .tc .vmem S5120x128 .bf16) (harg11 : arg11.IsWhole) (arg12 : Memref sig .tc .vmem S256x512 .bf16) (harg12 : arg12.IsWhole) (arg13 : Memref sig .tc .vmem S40x512 .f32) (harg13 : arg13.IsWhole) (arg14 : Memref sig .tc .vmem S5120x512 .f32) (harg14 : arg14.IsWhole) (arg15 : Memref sig .tc .vmem S4x320x128 .f32) (harg15 : arg15.IsWhole) (arg16 : Memref sig .tc .vmem S4x320x128 .f32) (harg16 : arg16.IsWhole) (arg17 : Memref sig .tc .vmem S40x512 .f32) (harg17 : arg17.IsWhole) (arg18 : Memref sig .tc .vmem S40x512 .i32) (harg18 : arg18.IsWhole) (arg19 : Memref sig .tc .vmem S40x512 .i32) (harg19 : arg19.IsWhole) (arg20 : Memref sig .tc .vmem S40x512 .i32) (harg20 : arg20.IsWhole) (hn : ¬ Cond0 i) (x2 : S1x2560x512.Idx → Elt Ideal .i8) (x3 : S1x40x512.Idx → Elt Ideal .bf16) (x4 : S1x40x512.Idx → Elt Ideal .i8) (x5 : S1x5120x96.Idx → Elt Ideal .bf16) (x6 : S1x96x512.Idx → Elt Ideal .bf16) (x7 : S1x1x512.Idx → Elt Ideal .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare (bL x5) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (b8 x2 x3 x4 x5 x6 x7) ∗ owns (c : Thread nD τ) arg9 fullShare (b9 x2 x3 x4 x5 x6 x7) ∗ owns (c : Thread nD τ) arg10 fullShare (b10 x2 x3 x4 x5 x6 x7) ∗ owns (c : Thread nD τ) arg11 fullShare (bL x5) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := Ideal)) Variants.none c none) E (cc0_dora_requant (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, %e8, H8⟩, ⟨%d9, %f9, %e9, H9⟩, ⟨%d10, %f10, %e10, H10⟩, ⟨%f11, %e11, H11⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩, ⟨%d19, %f19, %e19, H19⟩, ⟨%d20, %f20, %e20, H20⟩, Hk⟩
  subst e2 e3 e4 e5 e6 e7
  have s := runB_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f7 f8 f9 f10 f11 f12 f13 f14 f15 f16 f17 f18 f19 f20 hn e11
  iapply ((runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hn f2 f3 f4 f5 f6 f7 f8 f9 f10 f11 f12 f13 f14 f15 f16 f17 f18 f19 f20).2.2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H2, H3, H4, H5, H6, H7, H8, H9, H10, H11, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩⟩
  iapply Hk
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; exact s.1
  isplitl [H9]
  · iexists _; isplitr
    swap; · iexact H9
    ipureintro; exact s.2.1
  isplitl [H10]
  · iexists _; isplitr
    swap; · iexact H10
    ipureintro; exact s.2.2.1
  isplitl [H11]
  · iexists _; isplitr
    swap; · iexact H11
    ipureintro; exact s.2.2.2
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  iexists _; iexists _; isplitr
  swap; · iexact H20
  ipureintro; rfl

end Cert.KernelIdeal.Own

end
-- ==== Proof.Pipe.lean ====
/- The pipeline: the blocks it stages, what every point of the grid leaves, and the run of the whole program. -/
module

public import proofs.«01_k».proof.Proof.StepValue
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Value
public import Idealize.ShloMosaic.Lib.WordCmp
public import Idealize.ShloMosaic.Lib.Quiescent

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The body fills the left factor at the first column block of each batch. -/
theorem cond_iff : ∀ t : Fin cfg0.N, Cond0 (grid0.coords t) ↔ t.val % 54 = 0 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 1 % 54 := Pipeline.Grid.coords_val t 1 (by decide) rfl
    simp only [Cond0, e0, e1]
    word_cmp
   : ∀ t : Fin grid0.N, Cond0 (grid0.coords t) ↔ t.val % 54 = 0)

/-- The buffer window 0 is staged in at a point. -/
abbrev ms0 (t : Fin cfg0.N) : Memref sig .tc .vmem S1x2560x512 .i8 := win0_0.stage (cfg0.slots t 0)
/-- It is a whole buffer. -/
abbrev hs0 (t : Fin cfg0.N) : (ms0 t).IsWhole := hstage0_0 ((cfg0.slots t 0).cast nbuf0_0)
/-- The buffer window 1 is staged in at a point. -/
abbrev ms1 (t : Fin cfg0.N) : Memref sig .tc .vmem S1x40x512 .bf16 := win0_1.stage (cfg0.slots t 1)
/-- It is a whole buffer. -/
abbrev hs1 (t : Fin cfg0.N) : (ms1 t).IsWhole := hstage0_1 ((cfg0.slots t 1).cast nbuf0_1)
/-- The buffer window 2 is staged in at a point. -/
abbrev ms2 (t : Fin cfg0.N) : Memref sig .tc .vmem S1x40x512 .i8 := win0_2.stage (cfg0.slots t 2)
/-- It is a whole buffer. -/
abbrev hs2 (t : Fin cfg0.N) : (ms2 t).IsWhole := hstage0_2 ((cfg0.slots t 2).cast nbuf0_2)
/-- The buffer window 3 is staged in at a point. -/
abbrev ms3 (t : Fin cfg0.N) : Memref sig .tc .vmem S1x5120x96 .bf16 := win0_3.stage (cfg0.slots t 3)
/-- It is a whole buffer. -/
abbrev hs3 (t : Fin cfg0.N) : (ms3 t).IsWhole := hstage0_3 ((cfg0.slots t 3).cast nbuf0_3)
/-- The buffer window 4 is staged in at a point. -/
abbrev ms4 (t : Fin cfg0.N) : Memref sig .tc .vmem S1x96x512 .bf16 := win0_4.stage (cfg0.slots t 4)
/-- It is a whole buffer. -/
abbrev hs4 (t : Fin cfg0.N) : (ms4 t).IsWhole := hstage0_4 ((cfg0.slots t 4).cast nbuf0_4)
/-- The buffer window 5 is staged in at a point. -/
abbrev ms5 (t : Fin cfg0.N) : Memref sig .tc .vmem S1x1x512 .bf16 := win0_5.stage (cfg0.slots t 5)
/-- It is a whole buffer. -/
abbrev hs5 (t : Fin cfg0.N) : (ms5 t).IsWhole := hstage0_5 ((cfg0.slots t 5).cast nbuf0_5)
/-- The buffer window 6 is staged in at a point. -/
abbrev ms6 (t : Fin cfg0.N) : Memref sig .tc .vmem S1x2560x512 .i8 := win0_6.stage (cfg0.slots t 6)
/-- It is a whole buffer. -/
abbrev hs6 (t : Fin cfg0.N) : (ms6 t).IsWhole := hstage0_6 ((cfg0.slots t 6).cast nbuf0_6)
/-- The buffer window 7 is staged in at a point. -/
abbrev ms7 (t : Fin cfg0.N) : Memref sig .tc .vmem S1x40x512 .bf16 := win0_7.stage (cfg0.slots t 7)
/-- It is a whole buffer. -/
abbrev hs7 (t : Fin cfg0.N) : (ms7 t).IsWhole := hstage0_7 ((cfg0.slots t 7).cast nbuf0_7)
/-- The buffer window 8 is staged in at a point. -/
abbrev ms8 (t : Fin cfg0.N) : Memref sig .tc .vmem S1x40x512 .i8 := win0_8.stage (cfg0.slots t 8)
/-- It is a whole buffer. -/
abbrev hs8 (t : Fin cfg0.N) : (ms8 t).IsWhole := hstage0_8 ((cfg0.slots t 8).cast nbuf0_8)
/-- The body's own buffer 0. -/
abbrev sc0 : Memref sig .tc .vmem S5120x128 .bf16 := Memref.whole cc0_scratch0
/-- The body's own buffer 1. -/
abbrev sc1 : Memref sig .tc .vmem S256x512 .bf16 := Memref.whole cc0_scratch1
/-- The body's own buffer 2. -/
abbrev sc2 : Memref sig .tc .vmem S40x512 .f32 := Memref.whole cc0_scratch2
/-- The body's own buffer 3. -/
abbrev sc3 : Memref sig .tc .vmem S5120x512 .f32 := Memref.whole cc0_scratch3
/-- The body's own buffer 4. -/
abbrev sc4 : Memref sig .tc .vmem S4x320x128 .f32 := Memref.whole cc0_scratch4
/-- The body's own buffer 5. -/
abbrev sc5 : Memref sig .tc .vmem S4x320x128 .f32 := Memref.whole cc0_scratch5
/-- The body's own buffer 6. -/
abbrev sc6 : Memref sig .tc .vmem S40x512 .f32 := Memref.whole cc0_scratch6
/-- The body's own buffer 7. -/
abbrev sc7 : Memref sig .tc .vmem S40x512 .i32 := Memref.whole cc0_scratch7
/-- The body's own buffer 8. -/
abbrev sc8 : Memref sig .tc .vmem S40x512 .i32 := Memref.whole cc0_scratch8
/-- The body's own buffer 9. -/
abbrev sc9 : Memref sig .tc .vmem S40x512 .i32 := Memref.whole cc0_scratch9

/-- Between points, before the first one: the body's own buffers at anything. -/
theorem phiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) := by
  unfold Pipeline.ΦA; rw [scopedRest0_eq]; simp only [sc0, sc1, sc2, sc3, sc4, sc5, sc6, sc7, sc8, sc9, owns_whole]; try rfl

/-- Between points: the left factor at the one of the point before, the other buffers at anything. -/
def PhiS (c : Dev nD) : (n : ℕ) → n ≤ cfg0.N → sProp 𝕄
  | 0, _ => Pipeline.ΦA spec0 c
  | n + 1, hn => iprop(iprop(owns (c : Thread nD τ) sc0 fullShare (bL (iblk m c 3 ⟨n, hn⟩)) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r))

/-- Before the first point. -/
theorem PhiS_zero (c : Dev nD) (n : ℕ) (h : n ≤ cfg0.N) (hz : n = 0) : PhiS m c n h = Pipeline.ΦA spec0 c := by
  subst hz; rfl

/-- After a point. -/
theorem PhiS_succ (c : Dev nD) (n : ℕ) (hn : n < cfg0.N) :
    PhiS m c (n + 1) hn = iprop(iprop(owns (c : Thread nD τ) sc0 fullShare (bL (iblk m c 3 ⟨n, hn⟩)) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) sc0 fullShare (bL (iblk m c 3 ⟨n - 1, by omega⟩)) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) := by
  cases n with
  | zero => exact absurd rfl hz
  | succ n => rfl

/-- At any time the buffers are owned at something. -/
theorem PhiS_any (c : Dev nD) (n : ℕ) (h : n ≤ cfg0.N) : PhiS m c n h ⊢ Pipeline.ΦA spec0 c := by
  by_cases hz : n = 0
  · rw [PhiS_zero m c n h hz]; try exact Idealize.SL.BI.Entails.refl _
  · rw [PhiS_pos m c n h hz, phiA_eq]
    iintro ⟨⟨HS0, HS⟩, Hg⟩
    isplitl [HS0 HS]
    · isplitl [HS0]
      · iexists _; iexact HS0
      iexact HS
    iexact Hg

/-- The pipeline's data: the arrays as the region finds them; after a point, each input's buffer at its block and each
    output's at what the body leaves of the blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => b8 (iblk m c 0 t) (iblk m c 1 t) (iblk m c 2 t) (iblk m c 3 t) (iblk m c 4 t) (iblk m c 5 t)
    | ⟨7, _⟩ => b9 (iblk m c 0 t) (iblk m c 1 t) (iblk m c 2 t) (iblk m c 3 t) (iblk m c 4 t) (iblk m c 5 t)
    | ⟨8, _⟩ => b10 (iblk m c 0 t) (iblk m c 1 t) (iblk m c 2 t) (iblk m c 3 t) (iblk m c 4 t) (iblk m c 5 t)
  Φ t := PhiS m c t.val (Nat.le_of_lt_succ t.isLt)
  q _ := fullShare
  owed _ := 0

/-- The arrays are the region's own. -/
theorem A_eq (c : Dev nD) (w : Fin cfg0.W) : (dats m 0 c).A w = V m c (Pipeline.arrRef spec0 w) := by
  dsimp only [dats]

/-- What is owned at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What a point leaves in window 0: its block. -/
theorem after0 (c : Dev nD) (t : Fin cfg0.N) : (dats m 0 c).after 0 t = iblk m c 0 t := by dsimp only [dats]
/-- What a point leaves in window 1: its block. -/
theorem after1 (c : Dev nD) (t : Fin cfg0.N) : (dats m 0 c).after 1 t = iblk m c 1 t := by dsimp only [dats]
/-- What a point leaves in window 2: its block. -/
theorem after2 (c : Dev nD) (t : Fin cfg0.N) : (dats m 0 c).after 2 t = iblk m c 2 t := by dsimp only [dats]
/-- What a point leaves in window 3: its block. -/
theorem after3 (c : Dev nD) (t : Fin cfg0.N) : (dats m 0 c).after 3 t = iblk m c 3 t := by dsimp only [dats]
/-- What a point leaves in window 4: its block. -/
theorem after4 (c : Dev nD) (t : Fin cfg0.N) : (dats m 0 c).after 4 t = iblk m c 4 t := by dsimp only [dats]
/-- What a point leaves in window 5: its block. -/
theorem after5 (c : Dev nD) (t : Fin cfg0.N) : (dats m 0 c).after 5 t = iblk m c 5 t := by dsimp only [dats]
/-- What a point leaves in window 6: what the body computes of the blocks. -/
theorem after6 (c : Dev nD) (t : Fin cfg0.N) : (dats m 0 c).after 6 t = b8 (iblk m c 0 t) (iblk m c 1 t) (iblk m c 2 t) (iblk m c 3 t) (iblk m c 4 t) (iblk m c 5 t) := by dsimp only [dats]
/-- What a point leaves in window 7: what the body computes of the blocks. -/
theorem after7 (c : Dev nD) (t : Fin cfg0.N) : (dats m 0 c).after 7 t = b9 (iblk m c 0 t) (iblk m c 1 t) (iblk m c 2 t) (iblk m c 3 t) (iblk m c 4 t) (iblk m c 5 t) := by dsimp only [dats]
/-- What a point leaves in window 8: what the body computes of the blocks. -/
theorem after8 (c : Dev nD) (t : Fin cfg0.N) : (dats m 0 c).after 8 t = b10 (iblk m c 0 t) (iblk m c 1 t) (iblk m c 2 t) (iblk m c 3 t) (iblk m c 4 t) (iblk m c 5 t) := by dsimp only [dats]
/-- What a point finds in window 0: its block. -/
theorem before0 (c : Dev nD) (t : Fin cfg0.N) (d) : (dats m 0 c).before 0 t d = iblk m c 0 t :=
  before0_0_of m (dats m 0 c) (A_eq m c 0) (after0 m c) t d
/-- What a point finds in window 1: its block. -/
theorem before1 (c : Dev nD) (t : Fin cfg0.N) (d) : (dats m 0 c).before 1 t d = iblk m c 1 t :=
  before0_1_of m (dats m 0 c) (A_eq m c 1) (after1 m c) t d
/-- What a point finds in window 2: its block. -/
theorem before2 (c : Dev nD) (t : Fin cfg0.N) (d) : (dats m 0 c).before 2 t d = iblk m c 2 t :=
  before0_2_of m (dats m 0 c) (A_eq m c 2) (after2 m c) t d
/-- What a point finds in window 3: its block. -/
theorem before3 (c : Dev nD) (t : Fin cfg0.N) (d) : (dats m 0 c).before 3 t d = iblk m c 3 t :=
  before0_3_of m (dats m 0 c) (A_eq m c 3) (after3 m c) t d
/-- What a point finds in window 4: its block. -/
theorem before4 (c : Dev nD) (t : Fin cfg0.N) (d) : (dats m 0 c).before 4 t d = iblk m c 4 t :=
  before0_4_of m (dats m 0 c) (A_eq m c 4) (after4 m c) t d
/-- What a point finds in window 5: its block. -/
theorem before5 (c : Dev nD) (t : Fin cfg0.N) (d) : (dats m 0 c).before 5 t d = iblk m c 5 t :=
  before0_5_of m (dats m 0 c) (A_eq m c 5) (after5 m c) t d

/-- Window 3 stays on one block through a batch. -/
theorem index3 : ∀ t : Fin cfg0.N, win0_3.index t 0 = t.val / 54 ∧ win0_3.index t 1 = 0 ∧ win0_3.index t 2 = 0 := by decide +kernel

/-- Window 3's block, read off its array. -/
theorem iblk3 (c : Dev nD) (t : Fin cfg0.N) (R : Fin 5120) (k : Fin 96) :
    iblk m c 3 t (ix3 (n0 := 1) (n1 := 5120) (n2 := 96) 0 R k) = m ((c : Thread nD τ).loc main_arg3) (ix3 (n0 := 2) (n1 := 5120) (n2 := 96) ⟨t.val / 54, by have := Nat.lt_of_lt_of_eq t.isLt N_0; omega⟩ R k) := by
  refine Eq.trans ?_ (congrFun (V_main_arg3 m c) _)
  unfold iblk
  rw [View.read_apply]
  show V m c main_arg3 _ = V m c main_arg3 _
  have hi := index3 t
  congr 1
  funext a
  apply Fin.ext
  match a with
  | ⟨0, _⟩ => show win0_3.index t 0 * 1 + 1 * 0 = t.val / 54; rw [hi.1]; omega
  | ⟨1, _⟩ => show win0_3.index t 1 * 5120 + 1 * R.val = R.val; rw [hi.2.1]; omega
  | ⟨2, _⟩ => show win0_3.index t 2 * 96 + 1 * k.val = k.val; rw [hi.2.2]; omega

/-- Two points of a batch see one block of window 3. -/
theorem iblk3_same (c : Dev nD) (s t : Fin cfg0.N) (h : s.val / 54 = t.val / 54) :
    (iblk m c 3 s : S1x5120x96.Idx → EReal) = (iblk m c 3 t : S1x5120x96.Idx → EReal) := by
  funext y
  rw [one3 y]
  refine (iblk3 m c s _ _).trans (Eq.trans ?_ (iblk3 m c t _ _).symm)
  exact congrArg (fun b => m ((c : Thread nD τ).loc main_arg3) (ix3 (n0 := 2) (n1 := 5120) (n2 := 96) b _ _)) (Fin.ext h)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 12800000 in
/-- The body at any point: at the first column block of a batch it fills the left factor, at another one it finds there
    what the point before left, the same rows of the same array. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6, after7, after8]
  rw [show (dats m 0 c).Φ t.succ = PhiS m c (t.val + 1) t.isLt from rfl, PhiS_succ, PhiS_castSucc m c t]
  have hN : t.val < 108 := lt_of_lt_of_eq t.isLt (show cfg0.N = 108 from N_0)
  by_cases h0 : t.val % 54 = 0
  · refine (BIClass.sep_mono (PhiS_any m c t.val _) .rfl).trans ?_
    rw [phiA_eq]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (stepA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((cond_iff t).mpr h0) (iblk m c 0 t) (iblk m c 1 t) (iblk m c 2 t) (iblk m c 3 t) (iblk m c 4 t) (iblk m c 5 t) Set.univ (fun _ => _))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H0, H1, H2, H3, H4, H5, H6, H7, H8, HS0, HS1, HS2, HS3, HS4, HS5, HS6, HS7, HS8, HS9⟩
    isplitl [HS0 HS1 HS2 HS3 HS4 HS5 HS6 HS7 HS8 HS9 Hg]
    · isplitl [HS0 HS1 HS2 HS3 HS4 HS5 HS6 HS7 HS8 HS9]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [PhiS_pos m c _ _ (by omega), iblk3_same m c ⟨t.val - 1, by have := t.isLt; omega⟩ t (by show (t.val - 1) / 54 = t.val / 54; omega)]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (stepB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((cond_iff t).mp h)) (iblk m c 0 t) (iblk m c 1 t) (iblk m c 2 t) (iblk m c 3 t) (iblk m c 4 t) (iblk m c 5 t) Set.univ (fun _ => _))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H0, H1, H2, H3, H4, H5, H6, H7, H8, HS0, HS1, HS2, HS3, HS4, HS5, HS6, HS7, HS8, HS9⟩
    isplitl [HS0 HS1 HS2 HS3 HS4 HS5 HS6 HS7 HS8 HS9 Hg]
    · isplitl [HS0 HS1 HS2 HS3 HS4 HS5 HS6 HS7 HS8 HS9]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at a point is the body at that point. -/
theorem defs₀_row (t : Fin cfg0.N) :
    defs₀ (F := Ideal) .tc cfg0.body (cfg0.bodyArgs t (cfg0.slots t)) = bodyAt0 t := by
  unfold defs₀; rw [Defs.onTc_tc]

/-- The pipeline's obligation on the body. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The launch hands the region what the first point wants. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the buffers are given back. -/
theorem hout (c : Dev nD) : (dats m 0 c).Φ (Fin.last _) ⊢ Pipeline.ΦA spec0 c := by
  rw [show (dats m 0 c).Φ (Fin.last _) = PhiS m c cfg0.N (Nat.le_refl _) from rfl]
  exact PhiS_any m c _ _

set_option backward.isDefEq.respectTransparency.types false in
/-- The whole program runs to the pipeline's arrays, every semaphore counter at zero. -/
theorem run_main : θ_run defs (onTc (τ := τ) (main (F := Ideal))) ⟨m, fun _ => 0, ρ⟩ (fun r => Pipeline.FramePost cfgs (dats m) 0 (V m) r ∧ r.2.sem = fun _ => 0) :=
  Pipeline.θ_run_frame_track (Q' := fun r => Pipeline.FramePost cfgs (dats m) 0 (V m) r ∧ r.2.sem = fun _ => 0) cfgs (dats m) (0 : Fin 1) launch0 defs₀ Variants.none m ρ main
    (hbody := fun c => (body_obligation m c).loose) (hshare := fun c => (dats m 0 c).share_full fun _ => rfl) (howed := fun _ _ => rfl) (V := V m) (hmain := hmain m Variants.none) (hA := A_eq m) (hin := hin m) (hout := hout m)

end Cert.KernelIdeal.Own

end
-- ==== Proof.Arrays.lean ====
/- The result arrays, entry by entry, in terms of the argument arrays. -/
module

public import proofs.«01_k».proof.Proof.Pipe
public import Idealize.ShloMosaic.Lib.Claim

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The weights of a column of a batch, as the body sums them, from the whole arrays. -/
def cW (a0 : S2x2560x27648.Idx → BitVec 8) (a1 : S2x40x27648.Idx → EReal) (a2 : S2x40x27648.Idx → BitVec 8)
    (a3 : S2x5120x96.Idx → EReal) (a4 : S2x96x27648.Idx → EReal) (b : Fin 2) (n : Fin 27648) (R : Fin 5120) : EReal :=
  wb (a0 (ix3 b ⟨R.val / 2, by omega⟩ n)) (a1 (ix3 b ⟨R.val / 128, by omega⟩ n)) (a2 (ix3 b ⟨R.val / 128, by omega⟩ n))
    (fun k => a3 (ix3 b R k)) (fun k => a4 (ix3 b k n)) R.val

/-- The weights of a column of a batch, from the memory at launch. -/
def mW (c : Dev nD) : Fin 2 → Fin 27648 → Fin 5120 → EReal :=
  cW (m ((c : Thread nD τ).loc main_arg0)) (m ((c : Thread nD τ).loc main_arg1)) (m ((c : Thread nD τ).loc main_arg2)) (m ((c : Thread nD τ).loc main_arg3)) (m ((c : Thread nD τ).loc main_arg4))

/-- The magnitude of a column of a batch, from the memory at launch. -/
def mM (c : Dev nD) (b : Fin 2) (n : Fin 27648) : EReal := (m ((c : Thread nD τ).loc main_arg5) : S2x27648.Idx → EReal) (ix2 b n)

/-- The packed codes. -/
def res6 (c : Dev nD) : S2x2560x27648.Idx → BitVec 8 := fun y => rQ (mW m c (y 0) (y 2)) (mM m c (y 0) (y 2)) (y 1)
/-- The new scales. -/
def res7 (c : Dev nD) : S2x40x27648.Idx → EReal := fun y => rS (mW m c (y 0) (y 2)) (mM m c (y 0) (y 2)) (y 1)
/-- The new zero points. -/
def res8 (c : Dev nD) : S2x40x27648.Idx → BitVec 8 := fun y => rZ (mW m c (y 0) (y 2)) (mM m c (y 0) (y 2)) (y 1)

/-- The batch of a point. -/
def bat (t : Fin cfg0.N) : Fin 2 := ⟨t.val / 54, by have := Nat.lt_of_lt_of_eq t.isLt N_0; omega⟩
/-- A column of a point's block, in the whole array. -/
def col (t : Fin cfg0.N) (C : Fin 512) : Fin 27648 := ⟨t.val % 54 * 512 + C.val, by omega⟩

/-- The blocks of the windows that move with the point lie at the point's batch and column block. -/
theorem index_pts : ∀ t : Fin cfg0.N, (win0_0.index t 0 = t.val / 54 ∧ win0_0.index t 1 = 0 ∧ win0_0.index t 2 = t.val % 54) ∧ (win0_1.index t 0 = t.val / 54 ∧ win0_1.index t 1 = 0 ∧ win0_1.index t 2 = t.val % 54) ∧ (win0_2.index t 0 = t.val / 54 ∧ win0_2.index t 1 = 0 ∧ win0_2.index t 2 = t.val % 54) ∧ (win0_4.index t 0 = t.val / 54 ∧ win0_4.index t 1 = 0 ∧ win0_4.index t 2 = t.val % 54) ∧ (win0_5.index t 0 = t.val / 54 ∧ win0_5.index t 1 = 0 ∧ win0_5.index t 2 = t.val % 54) ∧ (win0_6.index t 0 = t.val / 54 ∧ win0_6.index t 1 = 0 ∧ win0_6.index t 2 = t.val % 54) ∧ (win0_7.index t 0 = t.val / 54 ∧ win0_7.index t 1 = 0 ∧ win0_7.index t 2 = t.val % 54) ∧ (win0_8.index t 0 = t.val / 54 ∧ win0_8.index t 1 = 0 ∧ win0_8.index t 2 = t.val % 54) := by decide +kernel

/-- Window 0's block, read off its array. -/
theorem iblk0 (c : Dev nD) (t : Fin cfg0.N) (r : Fin 2560) (C : Fin 512) :
    iblk m c 0 t (ix3 (n0 := 1) (n1 := 2560) (n2 := 512) 0 r C) = m ((c : Thread nD τ).loc main_arg0) (ix3 (n0 := 2) (n1 := 2560) (n2 := 27648) (bat t) r (col t C)) := by
  refine Eq.trans ?_ (congrFun (V_main_arg0 m c) _)
  unfold iblk
  rw [View.read_apply]
  show V m c main_arg0 _ = V m c main_arg0 _
  have hi := (index_pts t).1
  congr 1
  funext a
  apply Fin.ext
  match a with
  | ⟨0, _⟩ => show win0_0.index t 0 * 1 + 1 * 0 = t.val / 54; rw [hi.1]; omega
  | ⟨1, _⟩ => show win0_0.index t 1 * 2560 + 1 * r.val = r.val; rw [hi.2.1]; omega
  | ⟨2, _⟩ => show win0_0.index t 2 * 512 + 1 * C.val = t.val % 54 * 512 + C.val; rw [hi.2.2]; omega

/-- Window 1's block, read off its array. -/
theorem iblk1 (c : Dev nD) (t : Fin cfg0.N) (r : Fin 40) (C : Fin 512) :
    iblk m c 1 t (ix3 (n0 := 1) (n1 := 40) (n2 := 512) 0 r C) = m ((c : Thread nD τ).loc main_arg1) (ix3 (n0 := 2) (n1 := 40) (n2 := 27648) (bat t) r (col t C)) := by
  refine Eq.trans ?_ (congrFun (V_main_arg1 m c) _)
  unfold iblk
  rw [View.read_apply]
  show V m c main_arg1 _ = V m c main_arg1 _
  have hi := (index_pts t).2.1
  congr 1
  funext a
  apply Fin.ext
  match a with
  | ⟨0, _⟩ => show win0_1.index t 0 * 1 + 1 * 0 = t.val / 54; rw [hi.1]; omega
  | ⟨1, _⟩ => show win0_1.index t 1 * 40 + 1 * r.val = r.val; rw [hi.2.1]; omega
  | ⟨2, _⟩ => show win0_1.index t 2 * 512 + 1 * C.val = t.val % 54 * 512 + C.val; rw [hi.2.2]; omega

/-- Window 2's block, read off its array. -/
theorem iblk2 (c : Dev nD) (t : Fin cfg0.N) (r : Fin 40) (C : Fin 512) :
    iblk m c 2 t (ix3 (n0 := 1) (n1 := 40) (n2 := 512) 0 r C) = m ((c : Thread nD τ).loc main_arg2) (ix3 (n0 := 2) (n1 := 40) (n2 := 27648) (bat t) r (col t C)) := by
  refine Eq.trans ?_ (congrFun (V_main_arg2 m c) _)
  unfold iblk
  rw [View.read_apply]
  show V m c main_arg2 _ = V m c main_arg2 _
  have hi := (index_pts t).2.2.1
  congr 1
  funext a
  apply Fin.ext
  match a with
  | ⟨0, _⟩ => show win0_2.index t 0 * 1 + 1 * 0 = t.val / 54; rw [hi.1]; omega
  | ⟨1, _⟩ => show win0_2.index t 1 * 40 + 1 * r.val = r.val; rw [hi.2.1]; omega
  | ⟨2, _⟩ => show win0_2.index t 2 * 512 + 1 * C.val = t.val % 54 * 512 + C.val; rw [hi.2.2]; omega

/-- Window 4's block, read off its array. -/
theorem iblk4 (c : Dev nD) (t : Fin cfg0.N) (r : Fin 96) (C : Fin 512) :
    iblk m c 4 t (ix3 (n0 := 1) (n1 := 96) (n2 := 512) 0 r C) = m ((c : Thread nD τ).loc main_arg4) (ix3 (n0 := 2) (n1 := 96) (n2 := 27648) (bat t) r (col t C)) := by
  refine Eq.trans ?_ (congrFun (V_main_arg4 m c) _)
  unfold iblk
  rw [View.read_apply]
  show V m c main_arg4 _ = V m c main_arg4 _
  have hi := (index_pts t).2.2.2.1
  congr 1
  funext a
  apply Fin.ext
  match a with
  | ⟨0, _⟩ => show win0_4.index t 0 * 1 + 1 * 0 = t.val / 54; rw [hi.1]; omega
  | ⟨1, _⟩ => show win0_4.index t 1 * 96 + 1 * r.val = r.val; rw [hi.2.1]; omega
  | ⟨2, _⟩ => show win0_4.index t 2 * 512 + 1 * C.val = t.val % 54 * 512 + C.val; rw [hi.2.2]; omega

/-- The magnitudes as the region finds them: the argument with an axis of one entry put in. -/
theorem V_v0 (c : Dev nD) : (V m c main_v0 : S2x1x27648.Idx → EReal) = fun y => mM m c (y 0) (y 2) := by
  have h : (V m c main_v0 : S2x1x27648.Idx → EReal) = broadcastInDim S2x1x27648 ![0, 2] bcast_S2x27648_S2x1x27648_0_2 (m ((c : Thread nD τ).loc main_arg5)) := by
    unfold V; simp only [hostOps0]; rfl
  rw [h]
  funext y
  unfold mM
  show m ((c : Thread nD τ).loc main_arg5) _ = m ((c : Thread nD τ).loc main_arg5) _
  congr 1
  funext a
  match a with
  | ⟨0, _⟩ => rfl
  | ⟨1, _⟩ => rfl

/-- Window 5's block, read off the magnitudes. -/
theorem iblk5 (c : Dev nD) (t : Fin cfg0.N) (C : Fin 512) :
    iblk m c 5 t (ix3 (n0 := 1) (n1 := 1) (n2 := 512) 0 0 C) = mM m c (bat t) (col t C) := by
  refine Eq.trans ?_ (congrFun (V_v0 m c) (ix3 (n0 := 2) (n1 := 1) (n2 := 27648) (bat t) 0 (col t C)))
  unfold iblk
  rw [View.read_apply]
  show V m c main_v0 _ = V m c main_v0 _
  have hi := (index_pts t).2.2.2.2.1
  congr 1
  funext a
  apply Fin.ext
  match a with
  | ⟨0, _⟩ => show win0_5.index t 0 * 1 + 1 * 0 = t.val / 54; rw [hi.1]; omega
  | ⟨1, _⟩ => show win0_5.index t 1 * 1 + 1 * 0 = 0; rw [hi.2.1]
  | ⟨2, _⟩ => show win0_5.index t 2 * 512 + 1 * C.val = t.val % 54 * 512 + C.val; rw [hi.2.2]; omega

/-- The weights of a column of a point's blocks are the weights of that column of the arrays. -/
theorem bW_eq (c : Dev nD) (t : Fin cfg0.N) (C : Fin 512) :
    bW (iblk m c 0 t) (iblk m c 1 t) (iblk m c 2 t) (iblk m c 3 t) (iblk m c 4 t) C = mW m c (bat t) (col t C) := by
  funext R
  have e3 : (fun k : Fin 96 => iblk m c 3 t (ix3 (n0 := 1) (n1 := 5120) (n2 := 96) 0 R k)) = fun k => m ((c : Thread nD τ).loc main_arg3) (ix3 (n0 := 2) (n1 := 5120) (n2 := 96) (bat t) R k) := funext fun k => iblk3 m c t R k
  have e4 : (fun k : Fin 96 => iblk m c 4 t (ix3 (n0 := 1) (n1 := 96) (n2 := 512) 0 k C)) = fun k => m ((c : Thread nD τ).loc main_arg4) (ix3 (n0 := 2) (n1 := 96) (n2 := 27648) (bat t) k (col t C)) := funext fun k => iblk4 m c t k C
  unfold bW mW cW
  exact congr (congr (congr (congr (congrArg₂ wb (iblk0 m c t _ C) (iblk1 m c t _ C)) (iblk2 m c t _ C)) e3) e4) rfl

/-- What a point writes back through window 6 is its block of the result. -/
theorem flushed6 (c : Dev nD) (t : Fin cfg0.N) (hf : (cfg0.win 6).flush t = true) :
    (dats m 0 c).flushed 6 t = ((cfg0.win 6).blk t).view.read (Elt Ideal) (res6 m c) := by
  show (cfg0.win 6).cut (grid0.coords t) ((dats m 0 c).after 6 t) = _
  rw [after6]
  funext y
  rw [View.read_apply]
  have hi := (index_pts t).2.2.2.2.2.1
  have h0 : (y 0).val < 1 := (y 0).isLt
  have e : ((cfg0.win 6).blk t).view.emb y = ix3 (n0 := 2) (n1 := 2560) (n2 := 27648) (bat t) ⟨(y 1).val, (y 1).isLt⟩ (col t ⟨(y 2).val, (y 2).isLt⟩) := by
    funext a
    apply Fin.ext
    match a with
    | ⟨0, _⟩ => show win0_6.index t 0 * 1 + 1 * (y 0).val = t.val / 54; rw [hi.1]; omega
    | ⟨1, _⟩ => show win0_6.index t 1 * 2560 + 1 * (y 1).val = (y 1).val; rw [hi.2.1]; omega
    | ⟨2, _⟩ => show win0_6.index t 2 * 512 + 1 * (y 2).val = t.val % 54 * 512 + (y 2).val; rw [hi.2.2]; omega
  refine Eq.trans ?_ (congrArg (res6 m c) e.symm)
  show rQ (bW (iblk m c 0 t) (iblk m c 1 t) (iblk m c 2 t) (iblk m c 3 t) (iblk m c 4 t) ⟨(y 2).val, (y 2).isLt⟩) (iblk m c 5 t (ix3 (n0 := 1) (n1 := 1) (n2 := 512) 0 0 ⟨(y 2).val, (y 2).isLt⟩)) ⟨(y 1).val, (y 1).isLt⟩
    = rQ (mW m c (bat t) (col t ⟨(y 2).val, (y 2).isLt⟩)) (mM m c (bat t) (col t ⟨(y 2).val, (y 2).isLt⟩)) ⟨(y 1).val, (y 1).isLt⟩
  rw [bW_eq, iblk5]

/-- The points cover the result: it ends as stated. -/
theorem final6 (c : Dev nD) : (dats m 0 c).arrAt 6 cfg0.N = res6 m c :=
  (dats m 0 c).arrAt_eq_of_cover 6 (res6 m c) (flushed6 m c) fun i => by
    have h0 : (i 0 : Nat) < 2 := (i 0).isLt
    have h1 : (i 1 : Nat) < 2560 := (i 1).isLt
    have h2 : (i 2 : Nat) < 27648 := (i 2).isLt
    have hN : cfg0.N = 108 := N_0
    obtain ⟨t, ht⟩ : ∃ t : Fin cfg0.N, t.val = 54 * (i 0 : Nat) + (i 2 : Nat) / 512 := ⟨⟨54 * (i 0 : Nat) + (i 2 : Nat) / 512, by omega⟩, rfl⟩
    refine ⟨t, flush0_6 t, ?_⟩
    show i ∈ ((View.whole main_v1_0).slice (win0_6.rect t)).set
    rw [View.set_slice_whole, Rect.mem_set_unit]
    have hi := (index_pts t).2.2.2.2.2.1
    intro a
    match a with
    | ⟨0, _⟩ => show win0_6.index t 0 * 1 ≤ (i 0 : Nat) ∧ (i 0 : Nat) < win0_6.index t 0 * 1 + 1
                rw [hi.1]; omega
    | ⟨1, _⟩ => show win0_6.index t 1 * 2560 ≤ (i 1 : Nat) ∧ (i 1 : Nat) < win0_6.index t 1 * 2560 + 2560
                rw [hi.2.1]; omega
    | ⟨2, _⟩ => show win0_6.index t 2 * 512 ≤ (i 2 : Nat) ∧ (i 2 : Nat) < win0_6.index t 2 * 512 + 512
                rw [hi.2.2]; omega

/-- What a point writes back through window 7 is its block of the result. -/
theorem flushed7 (c : Dev nD) (t : Fin cfg0.N) (hf : (cfg0.win 7).flush t = true) :
    (dats m 0 c).flushed 7 t = ((cfg0.win 7).blk t).view.read (Elt Ideal) (res7 m c) := by
  show (cfg0.win 7).cut (grid0.coords t) ((dats m 0 c).after 7 t) = _
  rw [after7]
  funext y
  rw [View.read_apply]
  have hi := (index_pts t).2.2.2.2.2.2.1
  have h0 : (y 0).val < 1 := (y 0).isLt
  have e : ((cfg0.win 7).blk t).view.emb y = ix3 (n0 := 2) (n1 := 40) (n2 := 27648) (bat t) ⟨(y 1).val, (y 1).isLt⟩ (col t ⟨(y 2).val, (y 2).isLt⟩) := by
    funext a
    apply Fin.ext
    match a with
    | ⟨0, _⟩ => show win0_7.index t 0 * 1 + 1 * (y 0).val = t.val / 54; rw [hi.1]; omega
    | ⟨1, _⟩ => show win0_7.index t 1 * 40 + 1 * (y 1).val = (y 1).val; rw [hi.2.1]; omega
    | ⟨2, _⟩ => show win0_7.index t 2 * 512 + 1 * (y 2).val = t.val % 54 * 512 + (y 2).val; rw [hi.2.2]; omega
  refine Eq.trans ?_ (congrArg (res7 m c) e.symm)
  show rS (bW (iblk m c 0 t) (iblk m c 1 t) (iblk m c 2 t) (iblk m c 3 t) (iblk m c 4 t) ⟨(y 2).val, (y 2).isLt⟩) (iblk m c 5 t (ix3 (n0 := 1) (n1 := 1) (n2 := 512) 0 0 ⟨(y 2).val, (y 2).isLt⟩)) ⟨(y 1).val, (y 1).isLt⟩
    = rS (mW m c (bat t) (col t ⟨(y 2).val, (y 2).isLt⟩)) (mM m c (bat t) (col t ⟨(y 2).val, (y 2).isLt⟩)) ⟨(y 1).val, (y 1).isLt⟩
  rw [bW_eq, iblk5]

/-- The points cover the result: it ends as stated. -/
theorem final7 (c : Dev nD) : (dats m 0 c).arrAt 7 cfg0.N = res7 m c :=
  (dats m 0 c).arrAt_eq_of_cover 7 (res7 m c) (flushed7 m c) fun i => by
    have h0 : (i 0 : Nat) < 2 := (i 0).isLt
    have h1 : (i 1 : Nat) < 40 := (i 1).isLt
    have h2 : (i 2 : Nat) < 27648 := (i 2).isLt
    have hN : cfg0.N = 108 := N_0
    obtain ⟨t, ht⟩ : ∃ t : Fin cfg0.N, t.val = 54 * (i 0 : Nat) + (i 2 : Nat) / 512 := ⟨⟨54 * (i 0 : Nat) + (i 2 : Nat) / 512, by omega⟩, rfl⟩
    refine ⟨t, flush0_7 t, ?_⟩
    show i ∈ ((View.whole main_v1_1).slice (win0_7.rect t)).set
    rw [View.set_slice_whole, Rect.mem_set_unit]
    have hi := (index_pts t).2.2.2.2.2.2.1
    intro a
    match a with
    | ⟨0, _⟩ => show win0_7.index t 0 * 1 ≤ (i 0 : Nat) ∧ (i 0 : Nat) < win0_7.index t 0 * 1 + 1
                rw [hi.1]; omega
    | ⟨1, _⟩ => show win0_7.index t 1 * 40 ≤ (i 1 : Nat) ∧ (i 1 : Nat) < win0_7.index t 1 * 40 + 40
                rw [hi.2.1]; omega
    | ⟨2, _⟩ => show win0_7.index t 2 * 512 ≤ (i 2 : Nat) ∧ (i 2 : Nat) < win0_7.index t 2 * 512 + 512
                rw [hi.2.2]; omega

/-- What a point writes back through window 8 is its block of the result. -/
theorem flushed8 (c : Dev nD) (t : Fin cfg0.N) (hf : (cfg0.win 8).flush t = true) :
    (dats m 0 c).flushed 8 t = ((cfg0.win 8).blk t).view.read (Elt Ideal) (res8 m c) := by
  show (cfg0.win 8).cut (grid0.coords t) ((dats m 0 c).after 8 t) = _
  rw [after8]
  funext y
  rw [View.read_apply]
  have hi := (index_pts t).2.2.2.2.2.2.2
  have h0 : (y 0).val < 1 := (y 0).isLt
  have e : ((cfg0.win 8).blk t).view.emb y = ix3 (n0 := 2) (n1 := 40) (n2 := 27648) (bat t) ⟨(y 1).val, (y 1).isLt⟩ (col t ⟨(y 2).val, (y 2).isLt⟩) := by
    funext a
    apply Fin.ext
    match a with
    | ⟨0, _⟩ => show win0_8.index t 0 * 1 + 1 * (y 0).val = t.val / 54; rw [hi.1]; omega
    | ⟨1, _⟩ => show win0_8.index t 1 * 40 + 1 * (y 1).val = (y 1).val; rw [hi.2.1]; omega
    | ⟨2, _⟩ => show win0_8.index t 2 * 512 + 1 * (y 2).val = t.val % 54 * 512 + (y 2).val; rw [hi.2.2]; omega
  refine Eq.trans ?_ (congrArg (res8 m c) e.symm)
  show rZ (bW (iblk m c 0 t) (iblk m c 1 t) (iblk m c 2 t) (iblk m c 3 t) (iblk m c 4 t) ⟨(y 2).val, (y 2).isLt⟩) (iblk m c 5 t (ix3 (n0 := 1) (n1 := 1) (n2 := 512) 0 0 ⟨(y 2).val, (y 2).isLt⟩)) ⟨(y 1).val, (y 1).isLt⟩
    = rZ (mW m c (bat t) (col t ⟨(y 2).val, (y 2).isLt⟩)) (mM m c (bat t) (col t ⟨(y 2).val, (y 2).isLt⟩)) ⟨(y 1).val, (y 1).isLt⟩
  rw [bW_eq, iblk5]

/-- The points cover the result: it ends as stated. -/
theorem final8 (c : Dev nD) : (dats m 0 c).arrAt 8 cfg0.N = res8 m c :=
  (dats m 0 c).arrAt_eq_of_cover 8 (res8 m c) (flushed8 m c) fun i => by
    have h0 : (i 0 : Nat) < 2 := (i 0).isLt
    have h1 : (i 1 : Nat) < 40 := (i 1).isLt
    have h2 : (i 2 : Nat) < 27648 := (i 2).isLt
    have hN : cfg0.N = 108 := N_0
    obtain ⟨t, ht⟩ : ∃ t : Fin cfg0.N, t.val = 54 * (i 0 : Nat) + (i 2 : Nat) / 512 := ⟨⟨54 * (i 0 : Nat) + (i 2 : Nat) / 512, by omega⟩, rfl⟩
    refine ⟨t, flush0_8 t, ?_⟩
    show i ∈ ((View.whole main_v1_2).slice (win0_8.rect t)).set
    rw [View.set_slice_whole, Rect.mem_set_unit]
    have hi := (index_pts t).2.2.2.2.2.2.2
    intro a
    match a with
    | ⟨0, _⟩ => show win0_8.index t 0 * 1 ≤ (i 0 : Nat) ∧ (i 0 : Nat) < win0_8.index t 0 * 1 + 1
                rw [hi.1]; omega
    | ⟨1, _⟩ => show win0_8.index t 1 * 40 ≤ (i 1 : Nat) ∧ (i 1 : Nat) < win0_8.index t 1 * 40 + 40
                rw [hi.2.1]; omega
    | ⟨2, _⟩ => show win0_8.index t 2 * 512 ≤ (i 2 : Nat) ∧ (i 2 : Nat) < win0_8.index t 2 * 512 + 512
                rw [hi.2.2]; omega

/-- The run, read: the three results as stated. -/
theorem run : θ_run defs (onTc (τ := τ) (main (F := Ideal))) ⟨m, fun _ => 0, ρ⟩ (fun r => ∀ c : Dev nD,
    r.2.mem ((c.tc : Thread nD τ).loc main_v1_0) = res6 m c ∧ r.2.mem ((c.tc : Thread nD τ).loc main_v1_1) = res7 m c ∧ r.2.mem ((c.tc : Thread nD τ).loc main_v1_2) = res8 m c) :=
  (θ_run defs _ _).mono (fun _ h c => ⟨((h.1 c).1 6).trans (final6 m c), ((h.1 c).1 7).trans (final7 m c), ((h.1 c).1 8).trans (final8 m c)⟩) (run_main m ρ)

/-- The arguments end unchanged and every semaphore counter ends at zero. -/
theorem quiet : θ_run defs (onTc (τ := τ) (main (F := Ideal))) ⟨m, fun _ => 0, ρ⟩ (fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0) :=
  θ_run_and (frame_of m ρ (dats m) (fun c w => A_eq m c w) ((θ_run defs _ _).mono (fun _ h => h.1) (run_main m ρ))) ((θ_run defs _ _).mono (fun _ h => h.2) (run_main m ρ))

end Cert.KernelIdeal.Own

end
-- ==== Proof.RefValue.lean ====
/- The reference's values, entry by entry. -/
module

public import proofs.«01_k».proof.Proof.RunValue
public import proofs.«01_k».proof.Proof.Gen.ReferenceIdeal.Run
public import Idealize.ShloMosaic.Lib.Tactic

@[expose] public section

set_option maxRecDepth 16384

noncomputable section

namespace Cert.ReferenceIdeal.Own

open Cert.ReferenceIdeal Cert.ReferenceIdeal.Gen Cert.ReferenceIdeal.Value
open Cert.KernelIdeal.Own (wt nib grp colK rS rZ rQ)
open Idealize.ShloMosaic Idealize.ShloMosaic.TcCoe Idealize.ShloMosaic.Tactic

variable (V0 : Valuation τ sig (Elt Ideal))

/-- The weights of a column of a batch. -/
def rW (b : Fin 2) (n : Fin 27648) (R : Fin 5120) : EReal :=
  wt ((V0 (Proc.devRef .tc main_arg0) : S2x2560x27648.Idx → BitVec 8) (ix3 b ⟨R.val / 2, by omega⟩ n))
    ((V0 (Proc.devRef .tc main_arg1) : S2x40x27648.Idx → EReal) (ix3 b ⟨R.val / 128, by omega⟩ n))
    ((V0 (Proc.devRef .tc main_arg2) : S2x40x27648.Idx → BitVec 8) (ix3 b ⟨R.val / 128, by omega⟩ n))
    (fun k : Fin 96 => (V0 (Proc.devRef .tc main_arg3) : S2x5120x96.Idx → EReal) (ix3 b R k))
    (fun k : Fin 96 => (V0 (Proc.devRef .tc main_arg4) : S2x96x27648.Idx → EReal) (ix3 b k n)) R.val

/-- The magnitude of a column of a batch. -/
def rM (b : Fin 2) (n : Fin 27648) : EReal := (V0 (Proc.devRef .tc main_arg5) : S2x27648.Idx → EReal) (ix2 b n)

/-- The even row of a pair. -/
def ev (p : Fin 2560) : Fin 5120 := ⟨p.val * 2, by omega⟩
/-- The odd row of a pair. -/
def od (p : Fin 2560) : Fin 5120 := ⟨p.val * 2 + 1, by omega⟩

/-- The constant one half. -/
theorem cHalf : Ideal.ofBits .f32 (1056964608#32) = ((1 / 2 : ℝ) : EReal) := by
  simp [Ideal.ofBits, Ideal.ieee, -EReal.coe_mul]; norm_num
/-- The constant 15. -/
theorem c15 : Ideal.ofBits .f32 (1097859072#32) = (15 : EReal) := by
  rw [Group.c15]; simp [Ideal.ofBits, Ideal.ieee, -EReal.coe_mul]; norm_num
/-- The constant 15, as a broadcast argument. -/
theorem k15 : (id (constant S_ .f32 1097859072#32 : FVec Ideal S_ .f32) ix0 : EReal) = 15 := c15
/-- The constant 0, as a broadcast argument. -/
theorem k0 : (id (constant S_ .f32 0#32 : FVec Ideal S_ .f32) ix0 : EReal) = 0 := Ideal.ofBits_zero_f32
/-- The constant 1, as a broadcast argument. -/
theorem k1 : (id (constant S_ .f32 1065353216#32 : FVec Ideal S_ .f32) ix0 : EReal) = 1 := Ideal.ofBits_one_f32
/-- The constant plus infinity. -/
theorem cTop : Ideal.ofBits .f32 (2139095040#32) = (⊤ : EReal) := by
  simp [Ideal.ofBits, Ideal.ieee]
/-- The constant minus infinity. -/
theorem cBot : Ideal.ofBits .f32 (4286578688#32) = (⊥ : EReal) := by
  simp [Ideal.ofBits, Ideal.ieee]

/-- The weights of the even rows. -/
theorem v33_apply (b : Fin 2) (p : Fin 2560) (n : Fin 27648) :
    (res_main_v33 V0 : S2x2560x27648.Idx → EReal) (ix3 b p n) = rW V0 b n (ev p) := by
  have e0 : (⟨(ev p).val / 2, by omega⟩ : Fin 2560) = p := Fin.ext (show p.val * 2 / 2 = p.val by omega)
  have e1 : (⟨(ev p).val / 128, by omega⟩ : Fin 40) = ⟨p.val / 64, by omega⟩ := Fin.ext (show p.val * 2 / 128 = p.val / 64 by omega)
  have e2 : (ev p).val % 2 < 1 := by show p.val * 2 % 2 < 1; omega
  unfold rW wt nib
  rw [e0, e1, if_pos e2, ← cHalf]
  unfold res_main_v33 res_main_v24 res_main_v0 res_main_v5 res_main_v2
  pointwise []
  rfl

/-- The weights of the odd rows. -/
theorem v36_apply (b : Fin 2) (p : Fin 2560) (n : Fin 27648) :
    (res_main_v36 V0 : S2x2560x27648.Idx → EReal) (ix3 b p n) = rW V0 b n (od p) := by
  have e0 : (⟨(od p).val / 2, by omega⟩ : Fin 2560) = p := Fin.ext (show (p.val * 2 + 1) / 2 = p.val by omega)
  have e1 : (⟨(od p).val / 128, by omega⟩ : Fin 40) = ⟨p.val / 64, by omega⟩ := Fin.ext (show (p.val * 2 + 1) / 128 = p.val / 64 by omega)
  have e2 : ¬ (od p).val % 2 < 1 := by show ¬ (p.val * 2 + 1) % 2 < 1; omega
  unfold rW wt nib
  rw [e0, e1, if_neg e2, ← cHalf]
  unfold res_main_v36 res_main_v24 res_main_v0 res_main_v5 res_main_v2
  pointwise []
  rfl

/-- A sum over the rows, by pairs. -/
theorem sum_pairs (f : Fin 5120 → EReal) : ∑ p, f (ev p) + ∑ p, f (od p) = ∑ R, f R := by
  rw [← Finset.sum_add_distrib]
  refine Eq.trans ?_ (Equiv.sum_comp (finProdFinEquiv : Fin 2560 × Fin 2 ≃ Fin (2560 * 2)) f)
  rw [Fintype.sum_prod_type]
  refine Finset.sum_congr rfl fun p _ => ?_
  rw [Fin.sum_univ_two]
  refine congrArg₂ (fun x y => f x + f y) (Fin.ext ?_) (Fin.ext ?_)
  · show p.val * 2 = 0 + 2 * p.val; omega
  · show p.val * 2 + 1 = 1 + 2 * p.val; omega

/-- The norm of a column. -/
theorem v42_apply (b : Fin 2) (n : Fin 27648) :
    (res_main_v42 V0 : S2x27648.Idx → EReal) (ix2 b n) = Ideal.sqrt (∑ R, rW V0 b n R * rW V0 b n R) := by
  rw [← sum_pairs (fun R => rW V0 b n R * rW V0 b n R)]
  unfold res_main_v42
  pointwise []
  simp only [v33_apply, v36_apply]

/-- The factor of a column. -/
def rK (b : Fin 2) (n : Fin 27648) : EReal := colK (rW V0 b n) (rM V0 b n)
/-- The weights of a group. -/
def rG (b : Fin 2) (n : Fin 27648) (g : Fin 40) : Fin 128 → EReal := grp (rW V0 b n) g

/-- The scaled weights of the even rows, by groups. -/
theorem v51_apply (b : Fin 2) (g : Fin 40) (t : Fin 64) (n : Fin 27648) :
    (res_main_v51 V0 : S2x40x64x27648.Idx → EReal) (ix4 b g t n) = rG V0 b n g ⟨2 * t.val, by omega⟩ * rK V0 b n := by
  have e : ev ⟨g.val * 64 + t.val, by omega⟩ = ⟨128 * g.val + 2 * t.val, by omega⟩ := Fin.ext (show (g.val * 64 + t.val) * 2 = 128 * g.val + 2 * t.val by omega)
  unfold res_main_v51 res_main_v48
  pointwise []
  rw [v33_apply, v42_apply, k1, e]
  rfl

/-- The scaled weights of the odd rows, by groups. -/
theorem v54_apply (b : Fin 2) (g : Fin 40) (t : Fin 64) (n : Fin 27648) :
    (res_main_v54 V0 : S2x40x64x27648.Idx → EReal) (ix4 b g t n) = rG V0 b n g ⟨2 * t.val + 1, by omega⟩ * rK V0 b n := by
  have e : od ⟨g.val * 64 + t.val, by omega⟩ = ⟨128 * g.val + (2 * t.val + 1), by omega⟩ := Fin.ext (show (g.val * 64 + t.val) * 2 + 1 = 128 * g.val + (2 * t.val + 1) by omega)
  unfold res_main_v54 res_main_v48
  pointwise []
  rw [v36_apply, v42_apply, k1, e]
  rfl

/-- A bound for the weights of a group, by pairs. -/
theorem pairs_iff {P : Fin 128 → Prop} : ((∀ t : Fin 64, P ⟨2 * t.val, by omega⟩) ∧ ∀ t : Fin 64, P ⟨2 * t.val + 1, by omega⟩) ↔ ∀ t, P t := by
  constructor
  · rintro ⟨h0, h1⟩ t
    rcases Nat.mod_two_eq_zero_or_one t.val with h | h
    · have e : t = ⟨2 * (t.val / 2), by omega⟩ := Fin.ext (show t.val = 2 * (t.val / 2) by omega)
      rw [e]; exact h0 ⟨t.val / 2, by omega⟩
    · have e : t = ⟨2 * (t.val / 2) + 1, by omega⟩ := Fin.ext (show t.val = 2 * (t.val / 2) + 1 by omega)
      rw [e]; exact h1 ⟨t.val / 2, by omega⟩
  · exact fun h => ⟨fun t => h _, fun t => h _⟩

/-- A bound below the least along the third axis is a bound below every element there. -/
theorem le_least (x : FVec Ideal S2x40x64x27648 .f32) (b : Fin 2) (g : Fin 40) (n : Fin 27648) (c : EReal) :
    c ≤ ((Host.reduce FloatOps.minimumf x (constant S_ .f32 0x7F800000#32) reducesTo_S2x40x64x27648_S2x40x27648_d2 h_S_) : FVec Ideal S2x40x27648 .f32) (ix3 b g n) ↔ ∀ t : Fin 64, c ≤ x (ix4 b g t n) := by
  pointwise []
  rw [cTop, Finset.le_fold_min]
  exact ⟨fun h t => h.2 t (Finset.mem_univ t), fun h => ⟨le_top, fun t _ => h t⟩⟩

/-- A bound above the greatest along the third axis is a bound above every element there. -/
theorem greatest_le (x : FVec Ideal S2x40x64x27648 .f32) (b : Fin 2) (g : Fin 40) (n : Fin 27648) (c : EReal) :
    ((Host.reduce FloatOps.maximumf x (constant S_ .f32 0xFF800000#32) reducesTo_S2x40x64x27648_S2x40x27648_d2 h_S_) : FVec Ideal S2x40x27648 .f32) (ix3 b g n) ≤ c ↔ ∀ t : Fin 64, x (ix4 b g t n) ≤ c := by
  pointwise []
  rw [cBot, Finset.fold_max_le]
  exact ⟨fun h t => h.2 t (Finset.mem_univ t), fun h => ⟨bot_le, fun t _ => h t⟩⟩

/-- A minimum of two vectors at an index. -/
theorem min_at (x y : S2x40x27648.Idx → EReal) (j : S2x40x27648.Idx) : minimumf (F := Ideal) (φ := .f32) x y j = min (x j) (y j) := rfl

/-- A maximum of two vectors at an index. -/
theorem max_at (x y : S2x40x27648.Idx → EReal) (j : S2x40x27648.Idx) : maximumf (F := Ideal) (φ := .f32) x y j = max (x j) (y j) := rfl

/-- The least of two blocks of a group, by the group's weights. -/
theorem lo_of (x y : FVec Ideal S2x40x64x27648 .f32) (b : Fin 2) (g : Fin 40) (n : Fin 27648) (v : Fin 128 → EReal) (k : EReal)
    (hx : ∀ t : Fin 64, x (ix4 b g t n) = v ⟨2 * t.val, by omega⟩ * k) (hy : ∀ t : Fin 64, y (ix4 b g t n) = v ⟨2 * t.val + 1, by omega⟩ * k) :
    (minimumf (Host.reduce FloatOps.minimumf x (constant S_ .f32 0x7F800000#32) reducesTo_S2x40x64x27648_S2x40x27648_d2 h_S_) (Host.reduce FloatOps.minimumf y (constant S_ .f32 0x7F800000#32) reducesTo_S2x40x64x27648_S2x40x27648_d2 h_S_) : FVec Ideal S2x40x27648 .f32) (ix3 b g n) = Group.lo v k := by
  refine (min_at _ _ _).trans (eq_of_forall_le_iff fun c => ?_)
  unfold Group.lo
  rw [le_iInf_iff, le_min_iff, ← pairs_iff (P := fun t => c ≤ v t * k)]
  refine and_congr ((le_least x b g n c).trans (forall_congr' fun t => ?_)) ((le_least y b g n c).trans (forall_congr' fun t => ?_))
  · rw [hx]
  · rw [hy]

/-- The greatest of two blocks of a group, by the group's weights. -/
theorem hi_of (x y : FVec Ideal S2x40x64x27648 .f32) (b : Fin 2) (g : Fin 40) (n : Fin 27648) (v : Fin 128 → EReal) (k : EReal)
    (hx : ∀ t : Fin 64, x (ix4 b g t n) = v ⟨2 * t.val, by omega⟩ * k) (hy : ∀ t : Fin 64, y (ix4 b g t n) = v ⟨2 * t.val + 1, by omega⟩ * k) :
    (maximumf (Host.reduce FloatOps.maximumf x (constant S_ .f32 0xFF800000#32) reducesTo_S2x40x64x27648_S2x40x27648_d2 h_S_) (Host.reduce FloatOps.maximumf y (constant S_ .f32 0xFF800000#32) reducesTo_S2x40x64x27648_S2x40x27648_d2 h_S_) : FVec Ideal S2x40x27648 .f32) (ix3 b g n) = Group.hi v k := by
  refine (max_at _ _ _).trans (eq_of_forall_ge_iff fun c => ?_)
  unfold Group.hi
  rw [iSup_le_iff, max_le_iff, ← pairs_iff (P := fun t => v t * k ≤ c)]
  refine and_congr ((greatest_le x b g n c).trans (forall_congr' fun t => ?_)) ((greatest_le y b g n c).trans (forall_congr' fun t => ?_))
  · rw [hx]
  · rw [hy]

/-- The scale from the least and the greatest. -/
theorem osf_of (hi lo : FVec Ideal S2x40x27648 .f32) (b : Fin 2) (g : Fin 40) (n : Fin 27648) (v : Fin 128 → EReal) (k : EReal)
    (hh : hi (ix3 b g n) = Group.hi v k) (hl : lo (ix3 b g n) = Group.lo v k) :
    (truncf .bf16 (select (cmpf .oeq hi lo) (broadcastInDim S2x40x27648 ![] bcast_S_S2x40x27648 (id (constant S_ .f32 0x3F800000#32))) (Host.divf (subf hi lo) (broadcastInDim S2x40x27648 ![] bcast_S_S2x40x27648 (constant S_ .f32 0x41700000#32)))) bitsLt_bf16_f32 : FVec Ideal S2x40x27648 .bf16) (ix3 b g n) = Group.osf v k := by
  unfold Group.osf
  rw [← hh, ← hl, ← c15, ← k1]
  pointwise []

/-- The scale, widened, from the least and the greatest. -/
theorem osf_wide (hi lo : FVec Ideal S2x40x27648 .f32) (b : Fin 2) (g : Fin 40) (n : Fin 27648) (v : Fin 128 → EReal) (k : EReal)
    (hh : hi (ix3 b g n) = Group.hi v k) (hl : lo (ix3 b g n) = Group.lo v k) :
    (extf .f32 (truncf .bf16 (select (cmpf .oeq hi lo) (broadcastInDim S2x40x27648 ![] bcast_S_S2x40x27648 (id (constant S_ .f32 0x3F800000#32))) (Host.divf (subf hi lo) (broadcastInDim S2x40x27648 ![] bcast_S_S2x40x27648 (constant S_ .f32 0x41700000#32)))) bitsLt_bf16_f32) bitsLt_bf16_f32 : FVec Ideal S2x40x27648 .f32) (ix3 b g n) = Group.osf v k :=
  osf_of hi lo b g n v k hh hl

/-- The zero point from the least and the scale. -/
theorem zr_of (lo sf : FVec Ideal S2x40x27648 .f32) (b : Fin 2) (g : Fin 40) (n : Fin 27648) (v : Fin 128 → EReal) (k : EReal)
    (hl : lo (ix3 b g n) = Group.lo v k) (hs : sf (ix3 b g n) = Group.osf v k) :
    (minimumf (broadcastInDim S2x40x27648 ![] bcast_S_S2x40x27648 (id (constant S_ .f32 0x41700000#32))) (maximumf (broadcastInDim S2x40x27648 ![] bcast_S_S2x40x27648 (id (constant S_ .f32 0x00000000#32))) (Host.roundeven (Host.divf (Host.negf lo) sf))) : FVec Ideal S2x40x27648 .f32) (ix3 b g n) = Group.zr v k := by
  unfold Group.zr
  rw [← hs, ← hl]
  pointwise []
  rw [k0, k15]

/-- A natural number as a word. -/
theorem word_of (a : ℕ) (h : a ≤ 15) : (FloatOps.fptosi (F := Ideal) (φ := FTy.f32) 32 (((a : ℝ) : EReal)) : BitVec 32) = BitVec.ofInt 32 (a : ℤ) := by
  have e : ((a : ℝ) : EReal) = (((a : ℤ) : ℝ) : EReal) := by norm_num
  exact (congrArg (Ideal.fptosi 32) e).trans (Cert.KernelIdeal.Own.fptosi_int _ (by omega) (by omega))

/-- The zero point as a word. -/
theorem rZ_of (z : FVec Ideal S2x40x27648 .f32) (b : Fin 2) (g : Fin 40) (n : Fin 27648) (v : Fin 128 → EReal) (k : EReal)
    (hz : z (ix3 b g n) = Group.zr v k) :
    (trunci 8 (fptosi 32 z) natLt_8_32 : S2x40x27648.Idx → BitVec 8) (ix3 b g n) = BitVec.ofNat 8 (Group.toN (Group.zr v k)) := by
  pointwise []
  rw [hz, Cert.KernelIdeal.Own.g_zr v k, Group.toN_coe, word_of _ (Cert.KernelIdeal.Own.gS_le v k)]
  have h := Cert.KernelIdeal.Own.gS_le v k
  generalize Cert.KernelIdeal.Own.gS v k = a at h
  interval_cases a <;> rfl

/-- Two codes packed into a byte. -/
theorem pack (a b : ℕ) (ha : a ≤ 15) (hb : b ≤ 15) :
    BitVec.setWidth 8 (IntOp.ori (IntOp.andi (BitVec.ofInt 32 (a : ℤ)) 15#32) (IntOp.shli ArithUnit.host (IntOp.andi (BitVec.ofInt 32 (b : ℤ)) 15#32) 4#32)) = BitVec.ofNat 8 (a + 16 * b) := by
  interval_cases a <;> interval_cases b <;> rfl

/-- A packed byte from the scaled weights, the scale and the zero point. -/
theorem rQ_of (x y : FVec Ideal S2x40x64x27648 .f32) (s z : FVec Ideal S2x40x27648 .f32) (b : Fin 2) (P : Fin 2560) (n : Fin 27648) (v : Fin 128 → EReal) (k : EReal)
    (hx : ∀ t : Fin 64, x (ix4 b ⟨P.val / 64, by omega⟩ t n) = v ⟨2 * t.val, by omega⟩ * k) (hy : ∀ t : Fin 64, y (ix4 b ⟨P.val / 64, by omega⟩ t n) = v ⟨2 * t.val + 1, by omega⟩ * k)
    (hs : s (ix3 b ⟨P.val / 64, by omega⟩ n) = Group.osf v k) (hz : z (ix3 b ⟨P.val / 64, by omega⟩ n) = Group.zr v k) :
    (shapeCast _ (trunci 8 (ori (andi (fptosi 32 (minimumf (broadcastInDim S2x40x64x27648 ![] bcast_S_S2x40x64x27648 (id (constant S_ .f32 0x41700000#32))) (maximumf (broadcastInDim S2x40x64x27648 ![] bcast_S_S2x40x64x27648 (id (constant S_ .f32 0x00000000#32))) (addf (Host.roundeven (Host.divf x (broadcastInDim S2x40x64x27648 ![0, 1, 2, 3] bcast_S2x40x1x27648_S2x40x64x27648_0_1_2_3 (broadcastInDim S2x40x1x27648 ![0, 1, 3] bcast_S2x40x27648_S2x40x1x27648_0_1_3 s)))) (broadcastInDim S2x40x64x27648 ![0, 1, 2, 3] bcast_S2x40x1x27648_S2x40x64x27648_0_1_2_3 (broadcastInDim S2x40x1x27648 ![0, 1, 3] bcast_S2x40x27648_S2x40x1x27648_0_1_3 z)))))) (broadcastInDim S2x40x64x27648 ![] bcast_S_S2x40x64x27648 (constantI S_ 32 15#32))) (Host.shli (andi (fptosi 32 (minimumf (broadcastInDim S2x40x64x27648 ![] bcast_S_S2x40x64x27648 (id (constant S_ .f32 0x41700000#32))) (maximumf (broadcastInDim S2x40x64x27648 ![] bcast_S_S2x40x64x27648 (id (constant S_ .f32 0x00000000#32))) (addf (Host.roundeven (Host.divf y (broadcastInDim S2x40x64x27648 ![0, 1, 2, 3] bcast_S2x40x1x27648_S2x40x64x27648_0_1_2_3 (broadcastInDim S2x40x1x27648 ![0, 1, 3] bcast_S2x40x27648_S2x40x1x27648_0_1_3 s)))) (broadcastInDim S2x40x64x27648 ![0, 1, 2, 3] bcast_S2x40x1x27648_S2x40x64x27648_0_1_2_3 (broadcastInDim S2x40x1x27648 ![0, 1, 3] bcast_S2x40x27648_S2x40x1x27648_0_1_3 z)))))) (broadcastInDim S2x40x64x27648 ![] bcast_S_S2x40x64x27648 (constantI S_ 32 15#32))) (broadcastInDim S2x40x64x27648 ![] bcast_S_S2x40x64x27648 (constantI S_ 32 4#32)))) natLt_8_32) shapeCasts_S2x40x64x27648_S2x2560x27648 : S2x2560x27648.Idx → BitVec 8) (ix3 b P n)
      = BitVec.ofNat 8 (Group.toN (Group.code v k ⟨2 * (P.val % 64), by omega⟩) + 16 * Group.toN (Group.code v k ⟨2 * (P.val % 64) + 1, by omega⟩)) := by
  pointwise []
  rw [hx, hy, hs, hz, k0, k15]
  have c0 := Cert.KernelIdeal.Own.g_code v k ⟨2 * (P.val % 64), by omega⟩
  have c1 := Cert.KernelIdeal.Own.g_code v k ⟨2 * (P.val % 64) + 1, by omega⟩
  have h0 : Cert.KernelIdeal.Own.clipCode (Cert.KernelIdeal.Own.gN v k ⟨2 * (P.val % 64), by omega⟩) (Cert.KernelIdeal.Own.gZ v k) ≤ 15 := by
    unfold Cert.KernelIdeal.Own.clipCode; omega
  have h1 : Cert.KernelIdeal.Own.clipCode (Cert.KernelIdeal.Own.gN v k ⟨2 * (P.val % 64) + 1, by omega⟩) (Cert.KernelIdeal.Own.gZ v k) ≤ 15 := by
    unfold Cert.KernelIdeal.Own.clipCode; omega
  refine Eq.trans ?_ (congrArg₂ (fun a b : EReal => BitVec.ofNat 8 (Group.toN a + 16 * Group.toN b)) c0.symm c1.symm)
  rw [Group.toN_coe, Group.toN_coe, ← pack _ _ h0 h1]
  exact congrArg₂ (fun a b : BitVec 32 => BitVec.setWidth 8 (IntOp.ori (IntOp.andi a 15#32) (IntOp.shli ArithUnit.host (IntOp.andi b 15#32) 4#32)))
    ((congrArg (Ideal.fptosi 32) c0).trans (word_of _ h0)) ((congrArg (Ideal.fptosi 32) c1).trans (word_of _ h1))

/-- The least scaled weight of a group. -/
theorem v57_apply (b : Fin 2) (g : Fin 40) (n : Fin 27648) :
    (res_main_v57 V0 : S2x40x27648.Idx → EReal) (ix3 b g n) = Group.lo (rG V0 b n g) (rK V0 b n) := by
  unfold res_main_v57
  exact lo_of _ _ b g n _ _ (fun t => v51_apply V0 b g t n) (fun t => v54_apply V0 b g t n)

/-- The greatest scaled weight of a group. -/
theorem v60_apply (b : Fin 2) (g : Fin 40) (n : Fin 27648) :
    (res_main_v60 V0 : S2x40x27648.Idx → EReal) (ix3 b g n) = Group.hi (rG V0 b n g) (rK V0 b n) := by
  unfold res_main_v60
  exact hi_of _ _ b g n _ _ (fun t => v51_apply V0 b g t n) (fun t => v54_apply V0 b g t n)

/-- The new scale of a group. -/
theorem v66_apply (b : Fin 2) (g : Fin 40) (n : Fin 27648) :
    (truncf .bf16 (select (cmpf .oeq (res_main_v60 V0) (res_main_v57 V0)) (broadcastInDim S2x40x27648 ![] bcast_S_S2x40x27648 (id (constant S_ .f32 0x3F800000#32))) (Host.divf (subf (res_main_v60 V0) (res_main_v57 V0)) (broadcastInDim S2x40x27648 ![] bcast_S_S2x40x27648 (constant S_ .f32 0x41700000#32)))) bitsLt_bf16_f32 : S2x40x27648.Idx → EReal) (ix3 b g n) = rS (rW V0 b n) (rM V0 b n) g :=
  osf_of _ _ b g n _ _ (v60_apply V0 b g n) (v57_apply V0 b g n)

/-- The new scale of a group, widened. -/
theorem v67_apply (b : Fin 2) (g : Fin 40) (n : Fin 27648) :
    (res_main_v67 V0 : S2x40x27648.Idx → EReal) (ix3 b g n) = Group.osf (rG V0 b n g) (rK V0 b n) := by
  unfold res_main_v67
  exact osf_wide _ _ b g n _ _ (v60_apply V0 b g n) (v57_apply V0 b g n)

/-- The new zero point of a group, before it is a word. -/
theorem v71_apply (b : Fin 2) (g : Fin 40) (n : Fin 27648) :
    (res_main_v71 V0 : S2x40x27648.Idx → EReal) (ix3 b g n) = Group.zr (rG V0 b n g) (rK V0 b n) := by
  unfold res_main_v71
  exact zr_of _ _ b g n _ _ (v57_apply V0 b g n) (v67_apply V0 b g n)

/-- The new zero point of a group, as a word. -/
theorem v98_apply (b : Fin 2) (g : Fin 40) (n : Fin 27648) :
    (trunci 8 (fptosi 32 (res_main_v71 V0)) natLt_8_32 : S2x40x27648.Idx → BitVec 8) (ix3 b g n) = rZ (rW V0 b n) (rM V0 b n) g :=
  rZ_of _ b g n _ _ (v71_apply V0 b g n)

/-- A packed byte of new codes. -/
theorem v96_apply (b : Fin 2) (P : Fin 2560) (n : Fin 27648) :
    (shapeCast _ (trunci 8 (ori (andi (fptosi 32 (minimumf (broadcastInDim S2x40x64x27648 ![] bcast_S_S2x40x64x27648 (id (constant S_ .f32 0x41700000#32))) (maximumf (broadcastInDim S2x40x64x27648 ![] bcast_S_S2x40x64x27648 (id (constant S_ .f32 0x00000000#32))) (addf (Host.roundeven (Host.divf (res_main_v51 V0) (broadcastInDim S2x40x64x27648 ![0, 1, 2, 3] bcast_S2x40x1x27648_S2x40x64x27648_0_1_2_3 (res_main_v72 V0)))) (broadcastInDim S2x40x64x27648 ![0, 1, 2, 3] bcast_S2x40x1x27648_S2x40x64x27648_0_1_2_3 (res_main_v73 V0)))))) (broadcastInDim S2x40x64x27648 ![] bcast_S_S2x40x64x27648 (constantI S_ 32 15#32))) (Host.shli (andi (fptosi 32 (minimumf (broadcastInDim S2x40x64x27648 ![] bcast_S_S2x40x64x27648 (id (constant S_ .f32 0x41700000#32))) (maximumf (broadcastInDim S2x40x64x27648 ![] bcast_S_S2x40x64x27648 (id (constant S_ .f32 0x00000000#32))) (addf (Host.roundeven (Host.divf (res_main_v54 V0) (broadcastInDim S2x40x64x27648 ![0, 1, 2, 3] bcast_S2x40x1x27648_S2x40x64x27648_0_1_2_3 (res_main_v72 V0)))) (broadcastInDim S2x40x64x27648 ![0, 1, 2, 3] bcast_S2x40x1x27648_S2x40x64x27648_0_1_2_3 (res_main_v73 V0)))))) (broadcastInDim S2x40x64x27648 ![] bcast_S_S2x40x64x27648 (constantI S_ 32 15#32))) (broadcastInDim S2x40x64x27648 ![] bcast_S_S2x40x64x27648 (constantI S_ 32 4#32)))) natLt_8_32) shapeCasts_S2x40x64x27648_S2x2560x27648 : S2x2560x27648.Idx → BitVec 8) (ix3 b P n) = rQ (rW V0 b n) (rM V0 b n) P := by
  unfold res_main_v72 res_main_v73
  exact rQ_of _ _ _ _ b P n _ _ (fun t => v51_apply V0 b _ t n) (fun t => v54_apply V0 b _ t n) (v67_apply V0 b _ n) (v71_apply V0 b _ n)

end Cert.ReferenceIdeal.Own

end
-- ==== Proof.Values.lean ====
/- The two programs compute the same values: where the scales given are finite, a weight of the kernel is a weight of the reference. -/
module

public import proofs.«01_k».proof.Defs
public import proofs.«01_k».proof.Proof.Arrays
public import proofs.«01_k».proof.Proof.RefValue

@[expose] public section

noncomputable section

namespace Cert.Own

open Idealize.ShloMosaic Idealize.SL.Sem
open Cert.KernelIdeal.Own (mW mM wb wt wb_eq)
open Cert.ReferenceIdeal.Own (rW rM)

/-- The side condition the precondition states: a scalar broadcasts to the array of scales. -/
instance preFacts : Cert.Pre_scales_finite.Facts := ⟨by decide⟩

/-- What the precondition says of one scale: it is below the infinity and above its negative, a real number. -/
theorem finite_of (a0 : IVec Cert.Pre_scales_finite.S2x2560x27648 8) (a1 : FVec Ideal Cert.Pre_scales_finite.S2x40x27648 .bf16)
    (a2 : IVec Cert.Pre_scales_finite.S2x40x27648 8) (a3 : FVec Ideal Cert.Pre_scales_finite.S2x5120x96 .bf16)
    (a4 : FVec Ideal Cert.Pre_scales_finite.S2x96x27648 .bf16) (a5 : FVec Ideal Cert.Pre_scales_finite.S2x27648 .bf16)
    (h : Cert.Pre_scales_finite.fn (F := Ideal) a0 a1 a2 a3 a4 a5 = fun _ => 1#1) (b : Fin 2) (g : Fin 40) (n : Fin 27648) :
    ∃ s : ℝ, (a1 (ix3 b g n) : EReal) = (s : EReal) := by
  have e := congrFun h (ix3 b g n)
  unfold Cert.Pre_scales_finite.fn at e
  pointwise [] at e
  have c1 : Ideal.ofBits .bf16 (32640#16) = (⊤ : EReal) := by simp [Ideal.ofBits, Ideal.ieee]
  have c2 : Ideal.ofBits .bf16 (65408#16) = (⊥ : EReal) := by simp [Ideal.ofBits, Ideal.ieee]
  rw [c1, c2] at e
  have key : ∀ x : EReal, IntOp.andi (BitVec.ofBool (decide (x < ⊤))) (BitVec.ofBool (decide (⊥ < x))) = 1#1 → ∃ s : ℝ, x = (s : EReal) := by
    intro x hx
    induction x with
    | bot => simp [IntOp.andi] at hx
    | coe s => exact ⟨s, rfl⟩
    | top => simp [IntOp.andi] at hx
  exact key _ e

/-- A weight computed as the kernel does is the weight as the reference computes it, where the scale is a real number. -/
theorem weight_eq (V0 : Valuation Cert.ReferenceIdeal.τ Cert.ReferenceIdeal.sig (Elt Ideal))
    (a0 : Cert.KernelIdeal.S2x2560x27648.Idx → BitVec 8) (a1 : Cert.KernelIdeal.S2x40x27648.Idx → EReal) (a2 : Cert.KernelIdeal.S2x40x27648.Idx → BitVec 8)
    (a3 : Cert.KernelIdeal.S2x5120x96.Idx → EReal) (a4 : Cert.KernelIdeal.S2x96x27648.Idx → EReal)
    (h0 : V0 (Proc.devRef .tc Cert.ReferenceIdeal.main_arg0) = a0) (h1 : V0 (Proc.devRef .tc Cert.ReferenceIdeal.main_arg1) = a1)
    (h2 : V0 (Proc.devRef .tc Cert.ReferenceIdeal.main_arg2) = a2) (h3 : V0 (Proc.devRef .tc Cert.ReferenceIdeal.main_arg3) = a3)
    (h4 : V0 (Proc.devRef .tc Cert.ReferenceIdeal.main_arg4) = a4)
    (hs : ∀ (b : Fin 2) (g : Fin 40) (n : Fin 27648), ∃ s : ℝ, a1 (ix3 b g n) = (s : EReal)) (b : Fin 2) (n : Fin 27648) :
    rW V0 b n = Cert.KernelIdeal.Own.cW a0 a1 a2 a3 a4 b n := by
  funext R
  unfold rW Cert.KernelIdeal.Own.cW
  rw [h0, h1, h2, h3, h4]
  obtain ⟨s, e⟩ := hs b ⟨R.val / 128, by omega⟩ n
  rw [e]
  exact (wb_eq _ s _ _ _ _).symm

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The scales of a memory of the precondition are real numbers. -/
theorem finite_mem (hpre : Pre_KernelIdeal_scales_finite m) (b : Fin 2) (g : Fin 40) (n : Fin 27648) :
    ∃ s : ℝ, (m ((c.tc : Thread Cert.KernelIdeal.nD Cert.KernelIdeal.τ).loc Cert.KernelIdeal.main_arg1) : Cert.KernelIdeal.S2x40x27648.Idx → EReal) (ix3 b g n) = (s : EReal) :=
  finite_of _ _ _ _ _ _ (hpre c) b g n

open Cert.ReferenceIdeal Cert.ReferenceIdeal.Gen Cert.ReferenceIdeal.Value in
/-- The packed codes of the reference are the kernel's. -/
theorem codes_eq (hw : ∀ (b : Fin 2) (n : Fin 27648), rW (Idealize.ShloMosaic.StableHlo.launchContents m' c) b n = mW m c b n)
    (hm : ∀ (b : Fin 2) (n : Fin 27648), rM (Idealize.ShloMosaic.StableHlo.launchContents m' c) b n = mM m c b n) :
    (shapeCast _ (trunci 8 (ori (andi (fptosi 32 (minimumf (broadcastInDim S2x40x64x27648 ![] bcast_S_S2x40x64x27648 (id (constant S_ .f32 0x41700000#32))) (maximumf (broadcastInDim S2x40x64x27648 ![] bcast_S_S2x40x64x27648 (id (constant S_ .f32 0x00000000#32))) (addf (Host.roundeven (Host.divf (res_main_v51 (Idealize.ShloMosaic.StableHlo.launchContents m' c)) (broadcastInDim S2x40x64x27648 ![0, 1, 2, 3] bcast_S2x40x1x27648_S2x40x64x27648_0_1_2_3 (res_main_v72 (Idealize.ShloMosaic.StableHlo.launchContents m' c))))) (broadcastInDim S2x40x64x27648 ![0, 1, 2, 3] bcast_S2x40x1x27648_S2x40x64x27648_0_1_2_3 (res_main_v73 (Idealize.ShloMosaic.StableHlo.launchContents m' c))))))) (broadcastInDim S2x40x64x27648 ![] bcast_S_S2x40x64x27648 (constantI S_ 32 15#32))) (Host.shli (andi (fptosi 32 (minimumf (broadcastInDim S2x40x64x27648 ![] bcast_S_S2x40x64x27648 (id (constant S_ .f32 0x41700000#32))) (maximumf (broadcastInDim S2x40x64x27648 ![] bcast_S_S2x40x64x27648 (id (constant S_ .f32 0x00000000#32))) (addf (Host.roundeven (Host.divf (res_main_v54 (Idealize.ShloMosaic.StableHlo.launchContents m' c)) (broadcastInDim S2x40x64x27648 ![0, 1, 2, 3] bcast_S2x40x1x27648_S2x40x64x27648_0_1_2_3 (res_main_v72 (Idealize.ShloMosaic.StableHlo.launchContents m' c))))) (broadcastInDim S2x40x64x27648 ![0, 1, 2, 3] bcast_S2x40x1x27648_S2x40x64x27648_0_1_2_3 (res_main_v73 (Idealize.ShloMosaic.StableHlo.launchContents m' c))))))) (broadcastInDim S2x40x64x27648 ![] bcast_S_S2x40x64x27648 (constantI S_ 32 15#32))) (broadcastInDim S2x40x64x27648 ![] bcast_S_S2x40x64x27648 (constantI S_ 32 4#32)))) natLt_8_32) shapeCasts_S2x40x64x27648_S2x2560x27648 : S2x2560x27648.Idx → BitVec 8) = Cert.KernelIdeal.Own.res6 m c := by
  refine funext fun y => ?_
  rw [eq_ix3 y]
  exact (Cert.ReferenceIdeal.Own.v96_apply (Idealize.ShloMosaic.StableHlo.launchContents m' c) (y 0) (y 1) (y 2)).trans
    (congrArg₂ (fun w k => Cert.KernelIdeal.Own.rQ w k (y 1)) (hw (y 0) (y 2)) (hm (y 0) (y 2)))

open Cert.ReferenceIdeal Cert.ReferenceIdeal.Gen Cert.ReferenceIdeal.Value in
/-- The new scales of the reference are the kernel's. -/
theorem scales_eq (hw : ∀ (b : Fin 2) (n : Fin 27648), rW (Idealize.ShloMosaic.StableHlo.launchContents m' c) b n = mW m c b n)
    (hm : ∀ (b : Fin 2) (n : Fin 27648), rM (Idealize.ShloMosaic.StableHlo.launchContents m' c) b n = mM m c b n) :
    (truncf .bf16 (select (cmpf .oeq (res_main_v60 (Idealize.ShloMosaic.StableHlo.launchContents m' c)) (res_main_v57 (Idealize.ShloMosaic.StableHlo.launchContents m' c))) (broadcastInDim S2x40x27648 ![] bcast_S_S2x40x27648 (id (constant S_ .f32 0x3F800000#32))) (Host.divf (subf (res_main_v60 (Idealize.ShloMosaic.StableHlo.launchContents m' c)) (res_main_v57 (Idealize.ShloMosaic.StableHlo.launchContents m' c))) (broadcastInDim S2x40x27648 ![] bcast_S_S2x40x27648 (constant S_ .f32 0x41700000#32)))) bitsLt_bf16_f32 : S2x40x27648.Idx → EReal) = Cert.KernelIdeal.Own.res7 m c := by
  refine funext fun y => ?_
  rw [eq_ix3 y]
  exact (Cert.ReferenceIdeal.Own.v66_apply (Idealize.ShloMosaic.StableHlo.launchContents m' c) (y 0) (y 1) (y 2)).trans
    (congrArg₂ (fun w k => Cert.KernelIdeal.Own.rS w k (y 1)) (hw (y 0) (y 2)) (hm (y 0) (y 2)))

open Cert.ReferenceIdeal Cert.ReferenceIdeal.Gen Cert.ReferenceIdeal.Value in
/-- The new zero points of the reference are the kernel's. -/
theorem zeros_eq (hw : ∀ (b : Fin 2) (n : Fin 27648), rW (Idealize.ShloMosaic.StableHlo.launchContents m' c) b n = mW m c b n)
    (hm : ∀ (b : Fin 2) (n : Fin 27648), rM (Idealize.ShloMosaic.StableHlo.launchContents m' c) b n = mM m c b n) :
    (trunci 8 (fptosi 32 (res_main_v71 (Idealize.ShloMosaic.StableHlo.launchContents m' c))) natLt_8_32 : S2x40x27648.Idx → BitVec 8) = Cert.KernelIdeal.Own.res8 m c := by
  refine funext fun y => ?_
  rw [eq_ix3 y]
  exact (Cert.ReferenceIdeal.Own.v98_apply (Idealize.ShloMosaic.StableHlo.launchContents m' c) (y 0) (y 1) (y 2)).trans
    (congrArg₂ (fun w k => Cert.KernelIdeal.Own.rZ w k (y 1)) (hw (y 0) (y 2)) (hm (y 0) (y 2)))

end

/-- From memories of the precondition agreeing on the arguments, both programs run, end with equal results and unchanged
    arguments: the packed codes, the new scales and the new zero points. -/
theorem equal [hK : Cert.KernelIdeal.Facts] [hR : Cert.ReferenceIdeal.Facts] : algebraic_KernelIdeal_ReferenceIdeal_pre_scales_finite := by
  intro m g m' g' hpre hagree
  have hw : ∀ (c : Dev Cert.KernelIdeal.nD) (b : Fin 2) (n : Fin 27648), rW (Idealize.ShloMosaic.StableHlo.launchContents m' c) b n = mW m c b n := fun c b n =>
    weight_eq (Idealize.ShloMosaic.StableHlo.launchContents m' c) _ _ _ _ _ (hagree c).1 (hagree c).2.1 (hagree c).2.2.1 (hagree c).2.2.2.1 (hagree c).2.2.2.2.1
      (finite_mem m c hpre) b n
  have hm : ∀ (c : Dev Cert.KernelIdeal.nD) (b : Fin 2) (n : Fin 27648), rM (Idealize.ShloMosaic.StableHlo.launchContents m' c) b n = mM m c b n := fun c b n =>
    congrFun (hagree c).2.2.2.2.2 (ix2 b n)
  refine ⟨fun c => Cert.KernelIdeal.Own.res6 m c, fun c => Cert.KernelIdeal.Own.res7 m c, fun c => Cert.KernelIdeal.Own.res8 m c, ?_, ?_⟩
  · exact (θ_run Cert.KernelIdeal.defs _ _).mono (fun r h c => ⟨(h.1 c).1, (h.1 c).2.1, (h.1 c).2.2, h.2.1 c⟩)
      (θ_run_and (Cert.KernelIdeal.Own.run m g) (Cert.KernelIdeal.Own.quiet m g))
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' g')
    · exact codes_eq m m' c (hw c) (hm c)
    · exact scales_eq m m' c (hw c) (hm c)
    · exact zeros_eq m m' c (hw c) (hm c)

end Cert.Own

end
-- ==== Proof.lean ====
module

public import proofs.«01_k».proof.Defs
public import proofs.«01_k».proof.Proof.KernelFrame.Frame
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Arrays
public import proofs.«01_k».proof.Proof.Values
public import Idealize.ShloMosaic.Lib.Quiescent

@[expose] public section

noncomputable section

namespace Cert.Proof

open Idealize.ShloMosaic Idealize.SL.Sem

/-- The reference runs, its arguments end unchanged, every semaphore counter ends at zero. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The idealized kernel runs, its arguments end unchanged, every semaphore counter ends at zero. -/
theorem frame_ideal : Cert.quiescent_KernelIdeal := fun m ρ _ => Cert.KernelIdeal.Own.quiet m ρ

/-- The three programs run, end with their arguments unchanged and every semaphore counter at zero; the idealization is
    the kernel's own text; and where the scales given are finite, the idealized kernel and the reference end with equal
    packed codes, scales and zero points. -/
theorem claim : Cert.Claim :=
  ⟨Cert.Kernel.Gen.facts, Cert.KernelIdeal.Gen.facts, Cert.ReferenceIdeal.Gen.facts, Cert.Own.preFacts,
    fun m ρ _ => Cert.Kernel.OwnFrame.frame m ρ, frame_ideal, fun m ρ _ => frame_ideal m ρ trivial,
    frame_reference, fun m ρ _ => frame_reference m ρ trivial, trivial, Cert.Own.equal⟩

end Cert.Proof

end
